-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_with_ones [hPre_finite_with_ones : Cert.Pre_finite_with_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_with_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_with_ones [hPre_finite_with_ones : Cert.Pre_finite_with_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_with_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_with_ones [hKernelIdeal : Cert.KernelIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_with_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_with_ones [hReferenceIdeal : Cert.ReferenceIdeal.Facts] [hPre_finite_with_ones : Cert.Pre_finite_with_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_with_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_with_ones [hKernelIdeal : Cert.KernelIdeal.Facts] [hReferenceIdeal : Cert.ReferenceIdeal.Facts] [hPre_finite_with_ones : Cert.Pre_finite_with_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_with_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v63_5)) (v1 : (c : Dev Cert.Kernel3Ideal.nD) → Buf (Elt Ideal) ((c.tc : Thread Cert.Kernel3Ideal.nD Cert.Kernel3Ideal.τ).loc Cert.Kernel3Ideal.main_v63_6)) (v2 : (c : Dev Cert.Kernel3Ideal.nD) → Buf (Elt Ideal) ((c.tc : Thread Cert.Kernel3Ideal.nD Cert.Kernel3Ideal.τ).loc Cert.Kernel3Ideal.main_v63_7)) (v3 : (c : Dev Cert.Kernel3Ideal.nD) → Buf (Elt Ideal) ((c.tc : Thread Cert.Kernel3Ideal.nD Cert.Kernel3Ideal.τ).loc Cert.Kernel3Ideal.main_v63_8)) (v4 : (c : Dev Cert.Kernel3Ideal.nD) → Buf (Elt Ideal) ((c.tc : Thread Cert.Kernel3Ideal.nD Cert.Kernel3Ideal.τ).loc Cert.Kernel3Ideal.main_v63_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v63_5) = v0 c
          ∧ r.2.mem ((c.tc : Thread Cert.Kernel3Ideal.nD Cert.Kernel3Ideal.τ).loc Cert.Kernel3Ideal.main_v63_6) = v1 c
          ∧ r.2.mem ((c.tc : Thread Cert.Kernel3Ideal.nD Cert.Kernel3Ideal.τ).loc Cert.Kernel3Ideal.main_v63_7) = v2 c
          ∧ r.2.mem ((c.tc : Thread Cert.Kernel3Ideal.nD Cert.Kernel3Ideal.τ).loc Cert.Kernel3Ideal.main_v63_8) = v3 c
          ∧ r.2.mem ((c.tc : Thread Cert.Kernel3Ideal.nD Cert.Kernel3Ideal.τ).loc Cert.Kernel3Ideal.main_v63_9) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v28) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_v48) = v3 c
          ∧ r.2.mem ((c.tc : Thread Cert.Reference3Ideal.nD Cert.Reference3Ideal.τ).loc Cert.Reference3Ideal.main_v51) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_with_ones : Cert.Pre_finite_with_ones.Facts),
    quiescent_Kernel (hKernel := hKernel)
    ∧ quiescent_KernelIdeal (hKernelIdeal := hKernelIdeal)
    ∧ quiescent_KernelIdeal_pre_finite_with_ones (hKernelIdeal := hKernelIdeal) (hPre_finite_with_ones := hPre_finite_with_ones)
    ∧ quiescent_ReferenceIdeal (hReferenceIdeal := hReferenceIdeal)
    ∧ quiescent_ReferenceIdeal_pre_finite_with_ones (hReferenceIdeal := hReferenceIdeal) (hPre_finite_with_ones := hPre_finite_with_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_with_ones (hKernelIdeal := hKernelIdeal) (hReferenceIdeal := hReferenceIdeal) (hPre_finite_with_ones := hPre_finite_with_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_with_ones.lean ====
abbrev S4x8x128x4096 : Shape := ⟨4, ![4, 8, 128, 4096]⟩
abbrev S4x8x4096x128 : Shape := ⟨4, ![4, 8, 4096, 128]⟩
abbrev S4x16x640x256 : Shape := ⟨4, ![4, 16, 640, 256]⟩
abbrev S4x512x4096 : Shape := ⟨3, ![4, 512, 4096]⟩
abbrev S4x16x8x80x256 : Shape := ⟨5, ![4, 16, 8, 80, 256]⟩
abbrev S4x16x8x1x256 : Shape := ⟨5, ![4, 16, 8, 1, 256]⟩
abbrev S4x16x8x256 : Shape := ⟨4, ![4, 16, 8, 256]⟩
abbrev S_ : Shape := ⟨0, ![]⟩

class Facts : Prop where
  shapeCasts_S4x16x640x256_S4x16x8x80x256 : S4x16x640x256.ShapeCasts S4x16x8x80x256
  slices_S4x16x8x80x256_S4x16x8x1x256_0_0_0_64_0 : S4x16x8x80x256.Slices ![0, 0, 0, 64, 0] S4x16x8x1x256
  shapeCasts_S4x16x8x1x256_S4x16x8x256 : S4x16x8x1x256.ShapeCasts S4x16x8x256
  bcast_S_S4x8x128x4096 : S_.BroadcastsInDim S4x8x128x4096 (![] : Fin 0 → Fin S4x8x128x4096.rank)
  bcast_S_S4x8x4096x128 : S_.BroadcastsInDim S4x8x4096x128 (![] : Fin 0 → Fin S4x8x4096x128.rank)
  bcast_S_S4x16x8x256 : S_.BroadcastsInDim S4x16x8x256 (![] : Fin 0 → Fin S4x16x8x256.rank)

variable [Facts]

def fn {F : FTy → Type} [FloatOps F] (main_arg0 : FVec F S4x8x128x4096 .bf16) (main_arg1 : FVec F S4x8x4096x128 .bf16) (main_arg2 : FVec F S4x16x640x256 .bf16) (main_arg3 : FVec F S4x512x4096 .bf16) : IVec S4x8x128x4096 1 × IVec S4x8x4096x128 1 × IVec S4x16x8x256 1 :=
  let main_v0 : FVec F S4x16x8x80x256 .bf16 := shapeCast S4x16x8x80x256 main_arg2 shapeCasts_S4x16x640x256_S4x16x8x80x256
  let main_v1 : FVec F S4x16x8x1x256 .bf16 := (extractStridedSlice S4x16x8x1x256 ![0, 0, 0, 64, 0] · slices_S4x16x8x80x256_S4x16x8x1x256_0_0_0_64_0) main_v0
  let main_v2 : FVec F S4x16x8x256 .bf16 := shapeCast S4x16x8x256 main_v1 shapeCasts_S4x16x8x1x256_S4x16x8x256
  let main_cst : FVec F S_ .bf16 := constant S_ .bf16 0x7F80#16
  let main_v3 : FVec F S4x8x128x4096 .bf16 := broadcastInDim S4x8x128x4096 ![] bcast_S_S4x8x128x4096 main_cst
  let main_v4 : IVec S4x8x128x4096 1 := cmpf .olt main_arg0 main_v3
  let main_cst_0 : FVec F S_ .bf16 := constant S_ .bf16 0xFF80#16
  let main_v5 : FVec F S4x8x128x4096 .bf16 := broadcastInDim S4x8x128x4096 ![] bcast_S_S4x8x128x4096 main_cst_0
  let main_v6 : IVec S4x8x128x4096 1 := cmpf .ogt main_arg0 main_v5
  let main_v7 : IVec S4x8x128x4096 1 := andi main_v4 main_v6
  let main_cst_1 : FVec F S_ .bf16 := constant S_ .bf16 0x7F80#16
  let main_v8 : FVec F S4x8x4096x128 .bf16 := broadcastInDim S4x8x4096x128 ![] bcast_S_S4x8x4096x128 main_cst_1
  let main_v9 : IVec S4x8x4096x128 1 := cmpf .olt main_arg1 main_v8
  let main_cst_2 : FVec F S_ .bf16 := constant S_ .bf16 0xFF80#16
  let main_v10 : FVec F S4x8x4096x128 .bf16 := broadcastInDim S4x8x4096x128 ![] bcast_S_S4x8x4096x128 main_cst_2
  let main_v11 : IVec S4x8x4096x128 1 := cmpf .ogt main_arg1 main_v10
  let main_v12 : IVec S4x8x4096x128 1 := andi main_v9 main_v11
  let main_cst_3 : FVec F S_ .bf16 := constant S_ .bf16 0x3F80#16
  let main_v13 : FVec F S4x16x8x256 .bf16 := broadcastInDim S4x16x8x256 ![] bcast_S_S4x16x8x256 main_cst_3
  let main_v14 : IVec S4x16x8x256 1 := cmpf .oeq main_v2 main_v13
  (main_v7, main_v12, main_v14)
-- ==== Kernel.lean ====
abbrev S4x8x128x4096 : Shape := ⟨4, ![4, 8, 128, 4096]⟩
abbrev S4x8x4096x128 : Shape := ⟨4, ![4, 8, 4096, 128]⟩
abbrev S4x16x640x256 : Shape := ⟨4, ![4, 16, 640, 256]⟩
abbrev S4x512x4096 : Shape := ⟨3, ![4, 512, 4096]⟩
abbrev S1x8x128x256 : Shape := ⟨4, ![1, 8, 128, 256]⟩
abbrev S1x8x4096x128 : Shape := ⟨4, ![1, 8, 4096, 128]⟩
abbrev S1x16x640x256 : Shape := ⟨4, ![1, 16, 640, 256]⟩
abbrev S1x512x256 : Shape := ⟨3, ![1, 512, 256]⟩
abbrev S8x256x256 : Shape := ⟨3, ![8, 256, 256]⟩
abbrev S8x1x256 : Shape := ⟨3, ![8, 1, 256]⟩
abbrev S8x80x256 : Shape := ⟨3, ![8, 80, 256]⟩
abbrev S256x256 : Shape := ⟨2, ![256, 256]⟩
abbrev S1x1x256x128 : Shape := ⟨4, ![1, 1, 256, 128]⟩
abbrev S256x128 : Shape := ⟨2, ![256, 128]⟩
abbrev S8x128x256 : Shape := ⟨3, ![8, 128, 256]⟩
abbrev S1x128x256 : Shape := ⟨3, ![1, 128, 256]⟩
abbrev S128x256 : Shape := ⟨2, ![128, 256]⟩
abbrev S1x256x256 : Shape := ⟨3, ![1, 256, 256]⟩
abbrev S1x1x80x256 : Shape := ⟨4, ![1, 1, 80, 256]⟩
abbrev S80x256 : Shape := ⟨2, ![80, 256]⟩
abbrev S1x1x256 : Shape := ⟨3, ![1, 1, 256]⟩
abbrev S1x256 : Shape := ⟨2, ![1, 256]⟩
abbrev S256 : Shape := ⟨1, ![256]⟩
abbrev S1x80x256 : Shape := ⟨3, ![1, 80, 256]⟩
abbrev S1x64x256 : Shape := ⟨3, ![1, 64, 256]⟩
abbrev S64x256 : Shape := ⟨2, ![64, 256]⟩

abbrev nBuf : Space → Nat
  | .hbm => 5
  | .vmem => 16
  | .smem => 0
  | _ => 0

abbrev bufTy : (tb : Table) → Fin (tcTables nBuf tb) → BufTy
  | .hbm, ⟨0, _⟩ => ⟨S4x8x128x4096, .bf16⟩
  | .hbm, ⟨1, _⟩ => ⟨S4x8x4096x128, .bf16⟩
  | .hbm, ⟨2, _⟩ => ⟨S4x16x640x256, .bf16⟩
  | .hbm, ⟨3, _⟩ => ⟨S4x512x4096, .bf16⟩
  | .hbm, ⟨4, _⟩ => ⟨S4x512x4096, .bf16⟩
  | .local _ .vmem, ⟨0, _⟩ => ⟨S1x8x128x256, .bf16⟩
  | .local _ .vmem, ⟨1, _⟩ => ⟨S1x8x128x256, .bf16⟩
  | .local _ .vmem, ⟨2, _⟩ => ⟨S1x8x128x256, .bf16⟩
  | .local _ .vmem, ⟨3, _⟩ => ⟨S1x8x128x256, .bf16⟩
  | .local _ .vmem, ⟨4, _⟩ => ⟨S1x8x4096x128, .bf16⟩
  | .local _ .vmem, ⟨5, _⟩ => ⟨S1x8x4096x128, .bf16⟩
  | .local _ .vmem, ⟨6, _⟩ => ⟨S1x16x640x256, .bf16⟩
  | .local _ .vmem, ⟨7, _⟩ => ⟨S1x16x640x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S8x256x256, .f32⟩
  | .local _ .vmem, ⟨13, _⟩ => ⟨S8x256x256, .f32⟩
  | .local _ .vmem, ⟨14, _⟩ => ⟨S8x1x256, .f32⟩
  | .local _ .vmem, ⟨15, _⟩ => ⟨S8x80x256, .f32⟩
  | _, _ => ⟨S4x8x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_7 : BitVec 32 := 0#32
  let v13 : BitVec 1 := Scalar.cmpi .ne v12 c0_i32_7
  v13

def k0_mult1 : BitVec 32 :=
  let c0_i32_128 : BitVec 32 := 0#32
  c0_i32_128
def k0_mult2 : BitVec 32 :=
  let c0_i32_142 : BitVec 32 := 0#32
  c0_i32_142
def k0_mult3 : BitVec 32 :=
  let c0_i32_156 : BitVec 32 := 0#32
  c0_i32_156
def k0_mult4 : BitVec 32 :=
  let c0_i32_170 : BitVec 32 := 0#32
  c0_i32_170
def k0_mult5 : BitVec 32 :=
  let c0_i32_184 : BitVec 32 := 0#32
  c0_i32_184
def k0_mult6 : BitVec 32 :=
  let c0_i32_198 : BitVec 32 := 0#32
  c0_i32_198
def k0_mult7 : BitVec 32 :=
  let c0_i32_212 : BitVec 32 := 0#32
  c0_i32_212
def k0_mult8 : BitVec 32 :=
  let c0_i32_226 : BitVec 32 := 0#32
  c0_i32_226
@[reducible] def k0_t1_loop (i : grid0.Coords) : Scf.Loop 32 :=
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_17 : BitVec 32 := 1#32
  ⟨c0_i32_15, v35, c1_i32_17⟩
def k0_mult9 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  v190
def k0_off1 (i : grid0.Coords) (k0_t1 : Fin (k0_t1_loop i).trips) (c0_i32_129 : BitVec 32) : Fin 4 → Nat :=
  let c0_132 : Index := 0#32
  let c0_133 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  let v191 : BitVec 32 := v190
  let v192 : Index := Scalar.indexCast v191
  let c0_134 : Index := 0#32
  ![0, 0, v192.toNat, 0]
def k0_mult10 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  v203
def k0_off2 (i : grid0.Coords) (k0_t1 : Fin (k0_t1_loop i).trips) (c0_i32_129 : BitVec 32) : Fin 4 → Nat :=
  let c0_146 : Index := 0#32
  let c1_147 : Index := 1#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  let v204 : BitVec 32 := v203
  let v205 : Index := Scalar.indexCast v204
  let c0_148 : Index := 0#32
  ![0, 1, v205.toNat, 0]
def k0_mult11 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  v216
def k0_off3 (i : grid0.Coords) (k0_t1 : Fin (k0_t1_loop i).trips) (c0_i32_129 : BitVec 32) : Fin 4 → Nat :=
  let c0_160 : Index := 0#32
  let c2_161 : Index := 2#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  let v217 : BitVec 32 := v216
  let v218 : Index := Scalar.indexCast v217
  let c0_162 : Index := 0#32
  ![0, 2, v218.toNat, 0]
def k0_off4 (i : grid0.Coords) (k0_t1 : Fin (k0_t1_loop i).trips) (c0_i32_131 : BitVec 32) : Fin 4 → Nat :=
  let c0_176 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v189 : BitVec 32 := Scalar.addi v186 c0_i32_131
  let v231 : Index := Scalar.indexCast v189
  let c0_177 : Index := 0#32
  let c0_178 : Index := 0#32
  ![0, v231.toNat, 0, 0]
def k0_mult12 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  v257
def k0_off5 (i : grid0.Coords) (k0_t1 : Fin (k0_t1_loop i).trips) (c0_i32_129 : BitVec 32) : Fin 4 → Nat :=
  let c0_194 : Index := 0#32
  let c3_195 : Index := 3#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  let v258 : BitVec 32 := v257
  let v259 : Index := Scalar.indexCast v258
  let c0_196 : Index := 0#32
  ![0, 3, v259.toNat, 0]
def k0_off6 (i : grid0.Coords) (k0_t1 : Fin (k0_t1_loop i).trips) (c0_i32_131 : BitVec 32) : Fin 4 → Nat :=
  let c0_210 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v189 : BitVec 32 := Scalar.addi v186 c0_i32_131
  let v272 : Index := Scalar.indexCast v189
  let c80 : Index := 80#32
  let c0_211 : Index := 0#32
  ![0, v272.toNat, 80, 0]
def k0_mult13 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  v298
def k0_off7 (i : grid0.Coords) (k0_t1 : Fin (k0_t1_loop i).trips) (c0_i32_129 : BitVec 32) : Fin 4 → Nat :=
  let c0_227 : Index := 0#32
  let c4_228 : Index := 4#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  let v299 : BitVec 32 := v298
  let v300 : Index := Scalar.indexCast v299
  let c0_229 : Index := 0#32
  ![0, 4, v300.toNat, 0]
def k0_off8 (i : grid0.Coords) (k0_t1 : Fin (k0_t1_loop i).trips) (c0_i32_131 : BitVec 32) : Fin 4 → Nat :=
  let c0_243 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v189 : BitVec 32 := Scalar.addi v186 c0_i32_131
  let v313 : Index := Scalar.indexCast v189
  let c160 : Index := 160#32
  let c0_244 : Index := 0#32
  ![0, v313.toNat, 160, 0]
def k0_mult14 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  v339
def k0_off9 (i : grid0.Coords) (k0_t1 : Fin (k0_t1_loop i).trips) (c0_i32_129 : BitVec 32) : Fin 4 → Nat :=
  let c0_260 : Index := 0#32
  let c5_261 : Index := 5#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  let v340 : BitVec 32 := v339
  let v341 : Index := Scalar.indexCast v340
  let c0_262 : Index := 0#32
  ![0, 5, v341.toNat, 0]
def k0_off10 (i : grid0.Coords) (k0_t1 : Fin (k0_t1_loop i).trips) (c0_i32_131 : BitVec 32) : Fin 4 → Nat :=
  let c0_276 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v189 : BitVec 32 := Scalar.addi v186 c0_i32_131
  let v354 : Index := Scalar.indexCast v189
  let c240 : Index := 240#32
  let c0_277 : Index := 0#32
  ![0, v354.toNat, 240, 0]
def k0_mult15 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  v380
def k0_off11 (i : grid0.Coords) (k0_t1 : Fin (k0_t1_loop i).trips) (c0_i32_129 : BitVec 32) : Fin 4 → Nat :=
  let c0_293 : Index := 0#32
  let c6_294 : Index := 6#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  let v381 : BitVec 32 := v380
  let v382 : Index := Scalar.indexCast v381
  let c0_295 : Index := 0#32
  ![0, 6, v382.toNat, 0]
def k0_off12 (i : grid0.Coords) (k0_t1 : Fin (k0_t1_loop i).trips) (c0_i32_131 : BitVec 32) : Fin 4 → Nat :=
  let c0_309 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v189 : BitVec 32 := Scalar.addi v186 c0_i32_131
  let v395 : Index := Scalar.indexCast v189
  let c320_310 : Index := 320#32
  let c0_311 : Index := 0#32
  ![0, v395.toNat, 320, 0]
def k0_mult16 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  v421
def k0_off13 (i : grid0.Coords) (k0_t1 : Fin (k0_t1_loop i).trips) (c0_i32_129 : BitVec 32) : Fin 4 → Nat :=
  let c0_327 : Index := 0#32
  let c7_328 : Index := 7#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  let v422 : BitVec 32 := v421
  let v423 : Index := Scalar.indexCast v422
  let c0_329 : Index := 0#32
  ![0, 7, v423.toNat, 0]
def k0_off14 (i : grid0.Coords) (k0_t1 : Fin (k0_t1_loop i).trips) (c0_i32_131 : BitVec 32) : Fin 4 → Nat :=
  let c0_343 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v189 : BitVec 32 := Scalar.addi v186 c0_i32_131
  let v436 : Index := Scalar.indexCast v189
  let c400 : Index := 400#32
  let c0_344 : Index := 0#32
  ![0, v436.toNat, 400, 0]
def k0_off15 (i : grid0.Coords) (k0_t1 : Fin (k0_t1_loop i).trips) (c0_i32_131 : BitVec 32) : Fin 4 → Nat :=
  let c0_362 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v189 : BitVec 32 := Scalar.addi v186 c0_i32_131
  let v464 : Index := Scalar.indexCast v189
  let c480 : Index := 480#32
  let c0_363 : Index := 0#32
  ![0, v464.toNat, 480, 0]
def k0_off16 (i : grid0.Coords) (k0_t1 : Fin (k0_t1_loop i).trips) (c0_i32_131 : BitVec 32) : Fin 4 → Nat :=
  let c0_381 : Index := 0#32
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let v189 : BitVec 32 := Scalar.addi v186 c0_i32_131
  let v492 : Index := Scalar.indexCast v189
  let c560 : Index := 560#32
  let c0_382 : Index := 0#32
  ![0, v492.toNat, 560, 0]
def k0_mult17 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_400 : BitVec 32 := 256#32
  let v521 : BitVec 32 := Scalar.muli v519 c256_i32_400
  v521
def k0_mult18 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_414 : BitVec 32 := 256#32
  let v534 : BitVec 32 := Scalar.muli v519 c256_i32_414
  v534
def k0_mult19 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_428 : BitVec 32 := 256#32
  let v547 : BitVec 32 := Scalar.muli v519 c256_i32_428
  v547
def k0_mult20 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_462 : BitVec 32 := 256#32
  let v588 : BitVec 32 := Scalar.muli v519 c256_i32_462
  v588
def k0_mult21 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_496 : BitVec 32 := 256#32
  let v629 : BitVec 32 := Scalar.muli v519 c256_i32_496
  v629
def k0_mult22 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_530 : BitVec 32 := 256#32
  let v670 : BitVec 32 := Scalar.muli v519 c256_i32_530
  v670
def k0_mult23 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_564 : BitVec 32 := 256#32
  let v711 : BitVec 32 := Scalar.muli v519 c256_i32_564
  v711
def k0_mult24 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_598 : BitVec 32 := 256#32
  let v752 : BitVec 32 := Scalar.muli v519 c256_i32_598
  v752
def k0_mult25 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_675 : BitVec 32 := 256#32
  let v852 : BitVec 32 := Scalar.muli v850 c256_i32_675
  v852
def k0_mult26 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_689 : BitVec 32 := 256#32
  let v865 : BitVec 32 := Scalar.muli v850 c256_i32_689
  v865
def k0_mult27 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_703 : BitVec 32 := 256#32
  let v878 : BitVec 32 := Scalar.muli v850 c256_i32_703
  v878
def k0_mult28 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_737 : BitVec 32 := 256#32
  let v919 : BitVec 32 := Scalar.muli v850 c256_i32_737
  v919
def k0_mult29 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_771 : BitVec 32 := 256#32
  let v960 : BitVec 32 := Scalar.muli v850 c256_i32_771
  v960
def k0_mult30 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_805 : BitVec 32 := 256#32
  let v1001 : BitVec 32 := Scalar.muli v850 c256_i32_805
  v1001
def k0_mult31 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_839 : BitVec 32 := 256#32
  let v1042 : BitVec 32 := Scalar.muli v850 c256_i32_839
  v1042
def k0_mult32 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_873 : BitVec 32 := 256#32
  let v1083 : BitVec 32 := Scalar.muli v850 c256_i32_873
  v1083
def k0_mult33 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_950 : BitVec 32 := 256#32
  let v1183 : BitVec 32 := Scalar.muli v1181 c256_i32_950
  v1183
def k0_mult34 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_964 : BitVec 32 := 256#32
  let v1196 : BitVec 32 := Scalar.muli v1181 c256_i32_964
  v1196
def k0_mult35 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_978 : BitVec 32 := 256#32
  let v1209 : BitVec 32 := Scalar.muli v1181 c256_i32_978
  v1209
def k0_mult36 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1012 : BitVec 32 := 256#32
  let v1250 : BitVec 32 := Scalar.muli v1181 c256_i32_1012
  v1250
def k0_mult37 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1046 : BitVec 32 := 256#32
  let v1291 : BitVec 32 := Scalar.muli v1181 c256_i32_1046
  v1291
def k0_mult38 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1080 : BitVec 32 := 256#32
  let v1332 : BitVec 32 := Scalar.muli v1181 c256_i32_1080
  v1332
def k0_mult39 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1114 : BitVec 32 := 256#32
  let v1373 : BitVec 32 := Scalar.muli v1181 c256_i32_1114
  v1373
def k0_mult40 (i : grid0.Coords) (k0_t1 : Fin (k0_t1_loop i).trips) : BitVec 32 :=
  let c4_i32_128 : BitVec 32 := 4#32
  let c0_i32_15 : BitVec 32 := 0#32
  let c1_i32_17 : BitVec 32 := 1#32
  let arg12 : BitVec 32 := Scf.iv c0_i32_15 c1_i32_17 k0_t1
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1148 : BitVec 32 := 256#32
  let v1414 : BitVec 32 := Scalar.muli v1181 c256_i32_1148
  v1414
@[reducible] def k0_t2_loop (i : grid0.Coords) : Scf.Loop 32 :=
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let v32 : BitVec 32 := Scalar.addi c0_i32_15 v31
  let c1_i32_18 : BitVec 32 := 1#32
  ⟨v35, v32, c1_i32_18⟩
def k0_mult41 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  v190
def k0_off17 (i : grid0.Coords) (k0_t2 : Fin (k0_t2_loop i).trips) (c0_i32_129 : BitVec 32) : Fin 4 → Nat :=
  let c0_132 : Index := 0#32
  let c0_133 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  let v191 : BitVec 32 := v190
  let v192 : Index := Scalar.indexCast v191
  let c0_134 : Index := 0#32
  ![0, 0, v192.toNat, 0]
def k0_mult42 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  v203
def k0_off18 (i : grid0.Coords) (k0_t2 : Fin (k0_t2_loop i).trips) (c0_i32_129 : BitVec 32) : Fin 4 → Nat :=
  let c0_146 : Index := 0#32
  let c1_147 : Index := 1#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  let v204 : BitVec 32 := v203
  let v205 : Index := Scalar.indexCast v204
  let c0_148 : Index := 0#32
  ![0, 1, v205.toNat, 0]
def k0_mult43 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  v216
def k0_off19 (i : grid0.Coords) (k0_t2 : Fin (k0_t2_loop i).trips) (c0_i32_129 : BitVec 32) : Fin 4 → Nat :=
  let c0_160 : Index := 0#32
  let c2_161 : Index := 2#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  let v217 : BitVec 32 := v216
  let v218 : Index := Scalar.indexCast v217
  let c0_162 : Index := 0#32
  ![0, 2, v218.toNat, 0]
def k0_off20 (i : grid0.Coords) (k0_t2 : Fin (k0_t2_loop i).trips) (c0_i32_131 : BitVec 32) : Fin 4 → Nat :=
  let c0_176 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v189 : BitVec 32 := Scalar.addi v186 c0_i32_131
  let v231 : Index := Scalar.indexCast v189
  let c0_177 : Index := 0#32
  let c0_178 : Index := 0#32
  ![0, v231.toNat, 0, 0]
def k0_mult44 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  v257
def k0_off21 (i : grid0.Coords) (k0_t2 : Fin (k0_t2_loop i).trips) (c0_i32_129 : BitVec 32) : Fin 4 → Nat :=
  let c0_194 : Index := 0#32
  let c3_195 : Index := 3#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  let v258 : BitVec 32 := v257
  let v259 : Index := Scalar.indexCast v258
  let c0_196 : Index := 0#32
  ![0, 3, v259.toNat, 0]
def k0_off22 (i : grid0.Coords) (k0_t2 : Fin (k0_t2_loop i).trips) (c0_i32_131 : BitVec 32) : Fin 4 → Nat :=
  let c0_210 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v189 : BitVec 32 := Scalar.addi v186 c0_i32_131
  let v272 : Index := Scalar.indexCast v189
  let c80 : Index := 80#32
  let c0_211 : Index := 0#32
  ![0, v272.toNat, 80, 0]
def k0_mult45 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  v298
def k0_off23 (i : grid0.Coords) (k0_t2 : Fin (k0_t2_loop i).trips) (c0_i32_129 : BitVec 32) : Fin 4 → Nat :=
  let c0_227 : Index := 0#32
  let c4_228 : Index := 4#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  let v299 : BitVec 32 := v298
  let v300 : Index := Scalar.indexCast v299
  let c0_229 : Index := 0#32
  ![0, 4, v300.toNat, 0]
def k0_off24 (i : grid0.Coords) (k0_t2 : Fin (k0_t2_loop i).trips) (c0_i32_131 : BitVec 32) : Fin 4 → Nat :=
  let c0_243 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v189 : BitVec 32 := Scalar.addi v186 c0_i32_131
  let v313 : Index := Scalar.indexCast v189
  let c160 : Index := 160#32
  let c0_244 : Index := 0#32
  ![0, v313.toNat, 160, 0]
def k0_mult46 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  v339
def k0_off25 (i : grid0.Coords) (k0_t2 : Fin (k0_t2_loop i).trips) (c0_i32_129 : BitVec 32) : Fin 4 → Nat :=
  let c0_260 : Index := 0#32
  let c5_261 : Index := 5#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  let v340 : BitVec 32 := v339
  let v341 : Index := Scalar.indexCast v340
  let c0_262 : Index := 0#32
  ![0, 5, v341.toNat, 0]
def k0_off26 (i : grid0.Coords) (k0_t2 : Fin (k0_t2_loop i).trips) (c0_i32_131 : BitVec 32) : Fin 4 → Nat :=
  let c0_276 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v189 : BitVec 32 := Scalar.addi v186 c0_i32_131
  let v354 : Index := Scalar.indexCast v189
  let c240 : Index := 240#32
  let c0_277 : Index := 0#32
  ![0, v354.toNat, 240, 0]
def k0_mult47 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  v380
def k0_off27 (i : grid0.Coords) (k0_t2 : Fin (k0_t2_loop i).trips) (c0_i32_129 : BitVec 32) : Fin 4 → Nat :=
  let c0_293 : Index := 0#32
  let c6_294 : Index := 6#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  let v381 : BitVec 32 := v380
  let v382 : Index := Scalar.indexCast v381
  let c0_295 : Index := 0#32
  ![0, 6, v382.toNat, 0]
def k0_off28 (i : grid0.Coords) (k0_t2 : Fin (k0_t2_loop i).trips) (c0_i32_131 : BitVec 32) : Fin 4 → Nat :=
  let c0_309 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v189 : BitVec 32 := Scalar.addi v186 c0_i32_131
  let v395 : Index := Scalar.indexCast v189
  let c320_310 : Index := 320#32
  let c0_311 : Index := 0#32
  ![0, v395.toNat, 320, 0]
def k0_mult48 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c0_i32_129 : BitVec 32 := 0#32
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  v421
def k0_off29 (i : grid0.Coords) (k0_t2 : Fin (k0_t2_loop i).trips) (c0_i32_129 : BitVec 32) : Fin 4 → Nat :=
  let c0_327 : Index := 0#32
  let c7_328 : Index := 7#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  let v422 : BitVec 32 := v421
  let v423 : Index := Scalar.indexCast v422
  let c0_329 : Index := 0#32
  ![0, 7, v423.toNat, 0]
def k0_off30 (i : grid0.Coords) (k0_t2 : Fin (k0_t2_loop i).trips) (c0_i32_131 : BitVec 32) : Fin 4 → Nat :=
  let c0_343 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v189 : BitVec 32 := Scalar.addi v186 c0_i32_131
  let v436 : Index := Scalar.indexCast v189
  let c400 : Index := 400#32
  let c0_344 : Index := 0#32
  ![0, v436.toNat, 400, 0]
def k0_off31 (i : grid0.Coords) (k0_t2 : Fin (k0_t2_loop i).trips) (c0_i32_131 : BitVec 32) : Fin 4 → Nat :=
  let c0_362 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v189 : BitVec 32 := Scalar.addi v186 c0_i32_131
  let v464 : Index := Scalar.indexCast v189
  let c480 : Index := 480#32
  let c0_363 : Index := 0#32
  ![0, v464.toNat, 480, 0]
def k0_off32 (i : grid0.Coords) (k0_t2 : Fin (k0_t2_loop i).trips) (c0_i32_131 : BitVec 32) : Fin 4 → Nat :=
  let c0_381 : Index := 0#32
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let v189 : BitVec 32 := Scalar.addi v186 c0_i32_131
  let v492 : Index := Scalar.indexCast v189
  let c560 : Index := 560#32
  let c0_382 : Index := 0#32
  ![0, v492.toNat, 560, 0]
def k0_mult49 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_400 : BitVec 32 := 256#32
  let v521 : BitVec 32 := Scalar.muli v519 c256_i32_400
  v521
def k0_mult50 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_414 : BitVec 32 := 256#32
  let v534 : BitVec 32 := Scalar.muli v519 c256_i32_414
  v534
def k0_mult51 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_428 : BitVec 32 := 256#32
  let v547 : BitVec 32 := Scalar.muli v519 c256_i32_428
  v547
def k0_mult52 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_462 : BitVec 32 := 256#32
  let v588 : BitVec 32 := Scalar.muli v519 c256_i32_462
  v588
def k0_mult53 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_496 : BitVec 32 := 256#32
  let v629 : BitVec 32 := Scalar.muli v519 c256_i32_496
  v629
def k0_mult54 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_530 : BitVec 32 := 256#32
  let v670 : BitVec 32 := Scalar.muli v519 c256_i32_530
  v670
def k0_mult55 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_564 : BitVec 32 := 256#32
  let v711 : BitVec 32 := Scalar.muli v519 c256_i32_564
  v711
def k0_mult56 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c1_i32_397 : BitVec 32 := 1#32
  let v518 : BitVec 32 := Scalar.addi v186 c1_i32_397
  let c1_i32_398 : BitVec 32 := 1#32
  let v519 : BitVec 32 := Scalar.addi v518 c1_i32_398
  let c256_i32_598 : BitVec 32 := 256#32
  let v752 : BitVec 32 := Scalar.muli v519 c256_i32_598
  v752
def k0_mult57 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_675 : BitVec 32 := 256#32
  let v852 : BitVec 32 := Scalar.muli v850 c256_i32_675
  v852
def k0_mult58 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_689 : BitVec 32 := 256#32
  let v865 : BitVec 32 := Scalar.muli v850 c256_i32_689
  v865
def k0_mult59 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_703 : BitVec 32 := 256#32
  let v878 : BitVec 32 := Scalar.muli v850 c256_i32_703
  v878
def k0_mult60 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_737 : BitVec 32 := 256#32
  let v919 : BitVec 32 := Scalar.muli v850 c256_i32_737
  v919
def k0_mult61 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_771 : BitVec 32 := 256#32
  let v960 : BitVec 32 := Scalar.muli v850 c256_i32_771
  v960
def k0_mult62 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_805 : BitVec 32 := 256#32
  let v1001 : BitVec 32 := Scalar.muli v850 c256_i32_805
  v1001
def k0_mult63 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_839 : BitVec 32 := 256#32
  let v1042 : BitVec 32 := Scalar.muli v850 c256_i32_839
  v1042
def k0_mult64 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c2_i32_672 : BitVec 32 := 2#32
  let v849 : BitVec 32 := Scalar.addi v186 c2_i32_672
  let c1_i32_673 : BitVec 32 := 1#32
  let v850 : BitVec 32 := Scalar.addi v849 c1_i32_673
  let c256_i32_873 : BitVec 32 := 256#32
  let v1083 : BitVec 32 := Scalar.muli v850 c256_i32_873
  v1083
def k0_mult65 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_950 : BitVec 32 := 256#32
  let v1183 : BitVec 32 := Scalar.muli v1181 c256_i32_950
  v1183
def k0_mult66 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_964 : BitVec 32 := 256#32
  let v1196 : BitVec 32 := Scalar.muli v1181 c256_i32_964
  v1196
def k0_mult67 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_978 : BitVec 32 := 256#32
  let v1209 : BitVec 32 := Scalar.muli v1181 c256_i32_978
  v1209
def k0_mult68 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1012 : BitVec 32 := 256#32
  let v1250 : BitVec 32 := Scalar.muli v1181 c256_i32_1012
  v1250
def k0_mult69 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1046 : BitVec 32 := 256#32
  let v1291 : BitVec 32 := Scalar.muli v1181 c256_i32_1046
  v1291
def k0_mult70 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1080 : BitVec 32 := 256#32
  let v1332 : BitVec 32 := Scalar.muli v1181 c256_i32_1080
  v1332
def k0_mult71 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1114 : BitVec 32 := 256#32
  let v1373 : BitVec 32 := Scalar.muli v1181 c256_i32_1114
  v1373
def k0_mult72 (i : grid0.Coords) (k0_t2 : Fin (k0_t2_loop i).trips) : BitVec 32 :=
  let c4_i32_128 : BitVec 32 := 4#32
  let c0_i32_15 : BitVec 32 := 0#32
  let arg1 : BitVec 32 := BitVec.ofNat 32 (i 1).val
  let c0_i32_8 : BitVec 32 := 0#32
  let v15 : BitVec 1 := Scalar.cmpi .sgt arg1 c0_i32_8
  let v16 : BitVec 32 := Scalar.extui v15
  let c0_i32_9 : BitVec 32 := 0#32
  let v17 : BitVec 1 := Scalar.cmpi .slt arg1 c0_i32_9
  let v18 : BitVec 32 := Scalar.extui v17
  let v19 : BitVec 32 := Scalar.subi v16 v18
  let c4_i32 : BitVec 32 := 4#32
  let c0_i32_10 : BitVec 32 := 0#32
  let v20 : BitVec 1 := Scalar.cmpi .sgt c4_i32 c0_i32_10
  let v21 : BitVec 32 := Scalar.extui v20
  let c0_i32_11 : BitVec 32 := 0#32
  let v22 : BitVec 1 := Scalar.cmpi .slt c4_i32 c0_i32_11
  let v23 : BitVec 32 := Scalar.extui v22
  let v24 : BitVec 32 := Scalar.subi v21 v23
  let v25 : BitVec 1 := Scalar.cmpi .ne v19 v24
  let v26 : BitVec 32 := Scalar.remsi arg1 c4_i32
  let c0_i32_12 : BitVec 32 := 0#32
  let v27 : BitVec 1 := Scalar.cmpi .ne v26 c0_i32_12
  let v28 : BitVec 1 := Scalar.andi v25 v27
  let v14 : BitVec 32 := Scalar.divsi arg1 c4_i32
  let c1_i32 : BitVec 32 := 1#32
  let v29 : BitVec 32 := Scalar.subi v14 c1_i32
  let v30 : BitVec 32 := Scalar.select v28 v29 v14
  let v31 : BitVec 32 := Scalar.subi v30 c0_i32_15
  let c1_i32_16 : BitVec 32 := 1#32
  let v33 : BitVec 32 := Scalar.divsi v31 c1_i32_16
  let v34 : BitVec 32 := Scalar.muli v33 c1_i32_16
  let v35 : BitVec 32 := Scalar.addi c0_i32_15 v34
  let c1_i32_18 : BitVec 32 := 1#32
  let arg12 : BitVec 32 := Scf.iv v35 c1_i32_18 k0_t2
  let v186 : BitVec 32 := Scalar.muli c4_i32_128 arg12
  let c3_i32_947 : BitVec 32 := 3#32
  let v1180 : BitVec 32 := Scalar.addi v186 c3_i32_947
  let c1_i32_948 : BitVec 32 := 1#32
  let v1181 : BitVec 32 := Scalar.addi v1180 c1_i32_948
  let c256_i32_1148 : BitVec 32 := 256#32
  let v1414 : BitVec 32 := Scalar.muli v1181 c256_i32_1148
  v1414
def k0_cond2 (i : grid0.Coords) : BitVec 1 :=
  let arg1 : BitVec 32 := BitVec.ofNat 32 (i 1).val
  let c4_i32_19 : BitVec 32 := 4#32
  let c0_i32_20 : BitVec 32 := 0#32
  let v36 : BitVec 1 := Scalar.cmpi .eq c4_i32_19 c0_i32_20
  let c1_i32_21 : BitVec 32 := 1#32
  let v37 : BitVec 32 := Scalar.select v36 c1_i32_21 c4_i32_19
  let v38 : BitVec 32 := Scalar.remsi arg1 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c0_i32_25 : BitVec 32 := 0#32
  let v46 : BitVec 1 := Scalar.cmpi .eq v45 c0_i32_25
  let v47 : BitVec 32 := Scalar.extui v46
  let c0_i32_27 : BitVec 32 := 0#32
  let v48 : BitVec 1 := Scalar.cmpi .ne v47 c0_i32_27
  v48

def k0_off33 (i : grid0.Coords) : Fin 4 → Nat :=
  let c0_131 : Index := 0#32
  let arg1 : BitVec 32 := BitVec.ofNat 32 (i 1).val
  let v188 : Index := Scalar.indexCast arg1
  let c0_132 : Index := 0#32
  let c0_133 : Index := 0#32
  ![0, v188.toNat, 0, 0]
def k0_mult73 : BitVec 32 :=
  let c0_i32_149 : BitVec 32 := 0#32
  c0_i32_149
def k0_off34 (i : grid0.Coords) : Fin 4 → Nat :=
  let c0_166 : Index := 0#32
  let arg1 : BitVec 32 := BitVec.ofNat 32 (i 1).val
  let v230 : Index := Scalar.indexCast arg1
  let c80 : Index := 80#32
  let c0_167 : Index := 0#32
  ![0, v230.toNat, 80, 0]
def k0_mult74 : BitVec 32 :=
  let c0_i32_183 : BitVec 32 := 0#32
  c0_i32_183
def k0_off35 (i : grid0.Coords) : Fin 4 → Nat :=
  let c0_200 : Index := 0#32
  let arg1 : BitVec 32 := BitVec.ofNat 32 (i 1).val
  let v272 : Index := Scalar.indexCast arg1
  let c160 : Index := 160#32
  let c0_201 : Index := 0#32
  ![0, v272.toNat, 160, 0]
def k0_mult75 : BitVec 32 :=
  let c0_i32_217 : BitVec 32 := 0#32
  c0_i32_217
def k0_off36 (i : grid0.Coords) : Fin 4 → Nat :=
  let c0_234 : Index := 0#32
  let arg1 : BitVec 32 := BitVec.ofNat 32 (i 1).val
  let v314 : Index := Scalar.indexCast arg1
  let c240 : Index := 240#32
  let c0_235 : Index := 0#32
  ![0, v314.toNat, 240, 0]
def k0_mult76 : BitVec 32 :=
  let c0_i32_251 : BitVec 32 := 0#32
  c0_i32_251
def k0_off37 (i : grid0.Coords) : Fin 4 → Nat :=
  let c0_268 : Index := 0#32
  let arg1 : BitVec 32 := BitVec.ofNat 32 (i 1).val
  let v356 : Index := Scalar.indexCast arg1
  let c320_269 : Index := 320#32
  let c0_270 : Index := 0#32
  ![0, v356.toNat, 320, 0]
def k0_mult77 : BitVec 32 :=
  let c0_i32_286 : BitVec 32 := 0#32
  c0_i32_286
def k0_off38 (i : grid0.Coords) : Fin 4 → Nat :=
  let c0_303 : Index := 0#32
  let arg1 : BitVec 32 := BitVec.ofNat 32 (i 1).val
  let v398 : Index := Scalar.indexCast arg1
  let c400 : Index := 400#32
  let c0_304 : Index := 0#32
  ![0, v398.toNat, 400, 0]
def k0_mult78 : BitVec 32 :=
  let c0_i32_320 : BitVec 32 := 0#32
  c0_i32_320
def k0_off39 (i : grid0.Coords) : Fin 4 → Nat :=
  let c0_337 : Index := 0#32
  let arg1 : BitVec 32 := BitVec.ofNat 32 (i 1).val
  let v440 : Index := Scalar.indexCast arg1
  let c480 : Index := 480#32
  let c0_338 : Index := 0#32
  ![0, v440.toNat, 480, 0]
def k0_mult79 : BitVec 32 :=
  let c0_i32_354 : BitVec 32 := 0#32
  c0_i32_354
def k0_off40 (i : grid0.Coords) : Fin 4 → Nat :=
  let c0_371 : Index := 0#32
  let arg1 : BitVec 32 := BitVec.ofNat 32 (i 1).val
  let v482 : Index := Scalar.indexCast arg1
  let c560 : Index := 560#32
  let c0_372 : Index := 0#32
  ![0, v482.toNat, 560, 0]
def k0_mult80 : BitVec 32 :=
  let c0_i32_388 : BitVec 32 := 0#32
  c0_i32_388
def k0_cond3 (i : grid0.Coords) : BitVec 1 :=
  let arg1 : BitVec 32 := BitVec.ofNat 32 (i 1).val
  let c4_i32_19 : BitVec 32 := 4#32
  let c0_i32_20 : BitVec 32 := 0#32
  let v36 : BitVec 1 := Scalar.cmpi .eq c4_i32_19 c0_i32_20
  let c1_i32_21 : BitVec 32 := 1#32
  let v37 : BitVec 32 := Scalar.select v36 c1_i32_21 c4_i32_19
  let v38 : BitVec 32 := Scalar.remsi arg1 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_28 : BitVec 32 := 1#32
  let v49 : BitVec 1 := Scalar.cmpi .eq v45 c1_i32_28
  let v50 : BitVec 32 := Scalar.extui v49
  let c0_i32_31 : BitVec 32 := 0#32
  let v51 : BitVec 1 := Scalar.cmpi .ne v50 c0_i32_31
  v51

def k0_mult81 (i : grid0.Coords) : BitVec 32 :=
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  v190
def k0_off41 (i : grid0.Coords) : Fin 4 → Nat :=
  let c0_132 : Index := 0#32
  let c0_133 : Index := 0#32
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  let v191 : BitVec 32 := v190
  let v192 : Index := Scalar.indexCast v191
  let c0_134 : Index := 0#32
  ![0, 0, v192.toNat, 0]
def k0_mult82 (i : grid0.Coords) : BitVec 32 :=
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  v203
def k0_off42 (i : grid0.Coords) : Fin 4 → Nat :=
  let c0_146 : Index := 0#32
  let c1_147 : Index := 1#32
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  let v204 : BitVec 32 := v203
  let v205 : Index := Scalar.indexCast v204
  let c0_148 : Index := 0#32
  ![0, 1, v205.toNat, 0]
def k0_mult83 (i : grid0.Coords) : BitVec 32 :=
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  v216
def k0_off43 (i : grid0.Coords) : Fin 4 → Nat :=
  let c0_160 : Index := 0#32
  let c2_161 : Index := 2#32
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  let v217 : BitVec 32 := v216
  let v218 : Index := Scalar.indexCast v217
  let c0_162 : Index := 0#32
  ![0, 2, v218.toNat, 0]
def k0_off44 (i : grid0.Coords) : Fin 4 → Nat :=
  let c0_176 : Index := 0#32
  let arg1 : BitVec 32 := BitVec.ofNat 32 (i 1).val
  let c1_i32_128 : BitVec 32 := 1#32
  let v186 : BitVec 32 := Scalar.subi arg1 c1_i32_128
  let c0_i32_131 : BitVec 32 := 0#32
  let v189 : BitVec 32 := Scalar.addi v186 c0_i32_131
  let v231 : Index := Scalar.indexCast v189
  let c0_177 : Index := 0#32
  let c0_178 : Index := 0#32
  ![0, v231.toNat, 0, 0]
def k0_mult84 (i : grid0.Coords) : BitVec 32 :=
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  v257
def k0_off45 (i : grid0.Coords) : Fin 4 → Nat :=
  let c0_194 : Index := 0#32
  let c3_195 : Index := 3#32
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  let v258 : BitVec 32 := v257
  let v259 : Index := Scalar.indexCast v258
  let c0_196 : Index := 0#32
  ![0, 3, v259.toNat, 0]
def k0_off46 (i : grid0.Coords) : Fin 4 → Nat :=
  let c0_210 : Index := 0#32
  let arg1 : BitVec 32 := BitVec.ofNat 32 (i 1).val
  let c1_i32_128 : BitVec 32 := 1#32
  let v186 : BitVec 32 := Scalar.subi arg1 c1_i32_128
  let c0_i32_131 : BitVec 32 := 0#32
  let v189 : BitVec 32 := Scalar.addi v186 c0_i32_131
  let v272 : Index := Scalar.indexCast v189
  let c80 : Index := 80#32
  let c0_211 : Index := 0#32
  ![0, v272.toNat, 80, 0]
def k0_mult85 (i : grid0.Coords) : BitVec 32 :=
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  v298
def k0_off47 (i : grid0.Coords) : Fin 4 → Nat :=
  let c0_227 : Index := 0#32
  let c4_228 : Index := 4#32
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  let v299 : BitVec 32 := v298
  let v300 : Index := Scalar.indexCast v299
  let c0_229 : Index := 0#32
  ![0, 4, v300.toNat, 0]
def k0_off48 (i : grid0.Coords) : Fin 4 → Nat :=
  let c0_243 : Index := 0#32
  let arg1 : BitVec 32 := BitVec.ofNat 32 (i 1).val
  let c1_i32_128 : BitVec 32 := 1#32
  let v186 : BitVec 32 := Scalar.subi arg1 c1_i32_128
  let c0_i32_131 : BitVec 32 := 0#32
  let v189 : BitVec 32 := Scalar.addi v186 c0_i32_131
  let v313 : Index := Scalar.indexCast v189
  let c160 : Index := 160#32
  let c0_244 : Index := 0#32
  ![0, v313.toNat, 160, 0]
def k0_mult86 (i : grid0.Coords) : BitVec 32 :=
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  v339
def k0_off49 (i : grid0.Coords) : Fin 4 → Nat :=
  let c0_260 : Index := 0#32
  let c5_261 : Index := 5#32
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  let v340 : BitVec 32 := v339
  let v341 : Index := Scalar.indexCast v340
  let c0_262 : Index := 0#32
  ![0, 5, v341.toNat, 0]
def k0_off50 (i : grid0.Coords) : Fin 4 → Nat :=
  let c0_276 : Index := 0#32
  let arg1 : BitVec 32 := BitVec.ofNat 32 (i 1).val
  let c1_i32_128 : BitVec 32 := 1#32
  let v186 : BitVec 32 := Scalar.subi arg1 c1_i32_128
  let c0_i32_131 : BitVec 32 := 0#32
  let v189 : BitVec 32 := Scalar.addi v186 c0_i32_131
  let v354 : Index := Scalar.indexCast v189
  let c240 : Index := 240#32
  let c0_277 : Index := 0#32
  ![0, v354.toNat, 240, 0]
def k0_mult87 (i : grid0.Coords) : BitVec 32 :=
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  v380
def k0_off51 (i : grid0.Coords) : Fin 4 → Nat :=
  let c0_293 : Index := 0#32
  let c6_294 : Index := 6#32
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  let v381 : BitVec 32 := v380
  let v382 : Index := Scalar.indexCast v381
  let c0_295 : Index := 0#32
  ![0, 6, v382.toNat, 0]
def k0_off52 (i : grid0.Coords) : Fin 4 → Nat :=
  let c0_309 : Index := 0#32
  let arg1 : BitVec 32 := BitVec.ofNat 32 (i 1).val
  let c1_i32_128 : BitVec 32 := 1#32
  let v186 : BitVec 32 := Scalar.subi arg1 c1_i32_128
  let c0_i32_131 : BitVec 32 := 0#32
  let v189 : BitVec 32 := Scalar.addi v186 c0_i32_131
  let v395 : Index := Scalar.indexCast v189
  let c320_310 : Index := 320#32
  let c0_311 : Index := 0#32
  ![0, v395.toNat, 320, 0]
def k0_mult88 (i : grid0.Coords) : BitVec 32 :=
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  v421
def k0_off53 (i : grid0.Coords) : Fin 4 → Nat :=
  let c0_327 : Index := 0#32
  let c7_328 : Index := 7#32
  let arg1 : BitVec 32 := BitVec.ofNat 32 (i 1).val
  let c1_i32_128 : BitVec 32 := 1#32
  let v186 : BitVec 32 := Scalar.subi arg1 c1_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  let v422 : BitVec 32 := v421
  let v423 : Index := Scalar.indexCast v422
  let c0_329 : Index := 0#32
  ![0, 7, v423.toNat, 0]
def k0_off54 (i : grid0.Coords) : Fin 4 → Nat :=
  let c0_343 : Index := 0#32
  let arg1 : BitVec 32 := BitVec.ofNat 32 (i 1).val
  let c1_i32_128 : BitVec 32 := 1#32
  let v186 : BitVec 32 := Scalar.subi arg1 c1_i32_128
  let c0_i32_131 : BitVec 32 := 0#32
  let v189 : BitVec 32 := Scalar.addi v186 c0_i32_131
  let v436 : Index := Scalar.indexCast v189
  let c400 : Index := 400#32
  let c0_344 : Index := 0#32
  ![0, v436.toNat, 400, 0]
def k0_off55 (i : grid0.Coords) : Fin 4 → Nat :=
  let c0_362 : Index := 0#32
  let arg1 : BitVec 32 := BitVec.ofNat 32 (i 1).val
  let c1_i32_128 : BitVec 32 := 1#32
  let v186 : BitVec 32 := Scalar.subi arg1 c1_i32_128
  let c0_i32_131 : BitVec 32 := 0#32
  let v189 : BitVec 32 := Scalar.addi v186 c0_i32_131
  let v464 : Index := Scalar.indexCast v189
  let c480 : Index := 480#32
  let c0_363 : Index := 0#32
  ![0, v464.toNat, 480, 0]
def k0_off56 (i : grid0.Coords) : Fin 4 → Nat :=
  let c0_381 : Index := 0#32
  let arg1 : BitVec 32 := BitVec.ofNat 32 (i 1).val
  let c1_i32_128 : BitVec 32 := 1#32
  let v186 : BitVec 32 := Scalar.subi arg1 c1_i32_128
  let c0_i32_131 : BitVec 32 := 0#32
  let v189 : BitVec 32 := Scalar.addi v186 c0_i32_131
  let v492 : Index := Scalar.indexCast v189
  let c560 : Index := 560#32
  let c0_382 : Index := 0#32
  ![0, v492.toNat, 560, 0]
def k0_off57 (i : grid0.Coords) : Fin 4 → Nat :=
  let c0_400 : Index := 0#32
  let arg1 : BitVec 32 := BitVec.ofNat 32 (i 1).val
  let v520 : Index := Scalar.indexCast arg1
  let c0_401 : Index := 0#32
  let c0_402 : Index := 0#32
  ![0, v520.toNat, 0, 0]
def k0_mult89 : BitVec 32 :=
  let c0_i32_418 : BitVec 32 := 0#32
  c0_i32_418
def k0_off58 (i : grid0.Coords) : Fin 4 → Nat :=
  let c0_435 : Index := 0#32
  let arg1 : BitVec 32 := BitVec.ofNat 32 (i 1).val
  let v562 : Index := Scalar.indexCast arg1
  let c80_436 : Index := 80#32
  let c0_437 : Index := 0#32
  ![0, v562.toNat, 80, 0]
def k0_mult90 : BitVec 32 :=
  let c0_i32_453 : BitVec 32 := 0#32
  c0_i32_453
def k0_off59 (i : grid0.Coords) : Fin 4 → Nat :=
  let c0_470 : Index := 0#32
  let arg1 : BitVec 32 := BitVec.ofNat 32 (i 1).val
  let v604 : Index := Scalar.indexCast arg1
  let c160_471 : Index := 160#32
  let c0_472 : Index := 0#32
  ![0, v604.toNat, 160, 0]
def k0_mult91 : BitVec 32 :=
  let c0_i32_488 : BitVec 32 := 0#32
  c0_i32_488
def k0_off60 (i : grid0.Coords) : Fin 4 → Nat :=
  let c0_505 : Index := 0#32
  let arg1 : BitVec 32 := BitVec.ofNat 32 (i 1).val
  let v646 : Index := Scalar.indexCast arg1
  let c240_506 : Index := 240#32
  let c0_507 : Index := 0#32
  ![0, v646.toNat, 240, 0]
def k0_mult92 : BitVec 32 :=
  let c0_i32_523 : BitVec 32 := 0#32
  c0_i32_523
def k0_off61 (i : grid0.Coords) : Fin 4 → Nat :=
  let c0_540 : Index := 0#32
  let arg1 : BitVec 32 := BitVec.ofNat 32 (i 1).val
  let v688 : Index := Scalar.indexCast arg1
  let c320_541 : Index := 320#32
  let c0_542 : Index := 0#32
  ![0, v688.toNat, 320, 0]
def k0_mult93 : BitVec 32 :=
  let c0_i32_558 : BitVec 32 := 0#32
  c0_i32_558
def k0_off62 (i : grid0.Coords) : Fin 4 → Nat :=
  let c0_575 : Index := 0#32
  let arg1 : BitVec 32 := BitVec.ofNat 32 (i 1).val
  let v730 : Index := Scalar.indexCast arg1
  let c400_576 : Index := 400#32
  let c0_577 : Index := 0#32
  ![0, v730.toNat, 400, 0]
def k0_mult94 : BitVec 32 :=
  let c0_i32_593 : BitVec 32 := 0#32
  c0_i32_593
def k0_off63 (i : grid0.Coords) : Fin 4 → Nat :=
  let c0_610 : Index := 0#32
  let arg1 : BitVec 32 := BitVec.ofNat 32 (i 1).val
  let v772 : Index := Scalar.indexCast arg1
  let c480_611 : Index := 480#32
  let c0_612 : Index := 0#32
  ![0, v772.toNat, 480, 0]
def k0_mult95 : BitVec 32 :=
  let c0_i32_628 : BitVec 32 := 0#32
  c0_i32_628
def k0_off64 (i : grid0.Coords) : Fin 4 → Nat :=
  let c0_645 : Index := 0#32
  let arg1 : BitVec 32 := BitVec.ofNat 32 (i 1).val
  let v814 : Index := Scalar.indexCast arg1
  let c560_646 : Index := 560#32
  let c0_647 : Index := 0#32
  ![0, v814.toNat, 560, 0]
def k0_mult96 : BitVec 32 :=
  let c0_i32_663 : BitVec 32 := 0#32
  c0_i32_663
def k0_cond4 (i : grid0.Coords) : BitVec 1 :=
  let arg1 : BitVec 32 := BitVec.ofNat 32 (i 1).val
  let c4_i32_19 : BitVec 32 := 4#32
  let c0_i32_20 : BitVec 32 := 0#32
  let v36 : BitVec 1 := Scalar.cmpi .eq c4_i32_19 c0_i32_20
  let c1_i32_21 : BitVec 32 := 1#32
  let v37 : BitVec 32 := Scalar.select v36 c1_i32_21 c4_i32_19
  let v38 : BitVec 32 := Scalar.remsi arg1 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c2_i32 : BitVec 32 := 2#32
  let v52 : BitVec 1 := Scalar.cmpi .eq v45 c2_i32
  let v53 : BitVec 32 := Scalar.extui v52
  let c0_i32_34 : BitVec 32 := 0#32
  let v54 : BitVec 1 := Scalar.cmpi .ne v53 c0_i32_34
  v54

def k0_mult97 (i : grid0.Coords) : BitVec 32 :=
  let arg1 : BitVec 32 := BitVec.ofNat 32 (i 1).val
  let c2_i32_128 : BitVec 32 := 2#32
  let v186 : BitVec 32 := Scalar.subi arg1 c2_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  v190
def k0_off65 (i : grid0.Coords) (c0_i32_129 : BitVec 32) : Fin 4 → Nat :=
  let c0_132 : Index := 0#32
  let c0_133 : Index := 0#32
  let arg1 : BitVec 32 := BitVec.ofNat 32 (i 1).val
  let c2_i32_128 : BitVec 32 := 2#32
  let v186 : BitVec 32 := Scalar.subi arg1 c2_i32_128
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  let v191 : BitVec 32 := v190
  let v192 : Index := Scalar.indexCast v191
  let c0_134 : Index := 0#32
  ![0, 0, v192.toNat, 0]
def k0_mult98 (i : grid0.Coords) : BitVec 32 :=
  let arg1 : BitVec 32 := BitVec.ofNat 32 (i 1).val
  let c2_i32_128 : BitVec 32 := 2#32
  let v186 : BitVec 32 := Scalar.subi arg1 c2_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  v203
def k0_off66 (i : grid0.Coords) (c0_i32_129 : BitVec 32) : Fin 4 → Nat :=
  let c0_146 : Index := 0#32
  let c1_147 : Index := 1#32
  let arg1 : BitVec 32 := BitVec.ofNat 32 (i 1).val
  let c2_i32_128 : BitVec 32 := 2#32
  let v186 : BitVec 32 := Scalar.subi arg1 c2_i32_128
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  let v204 : BitVec 32 := v203
  let v205 : Index := Scalar.indexCast v204
  let c0_148 : Index := 0#32
  ![0, 1, v205.toNat, 0]
def k0_mult99 (i : grid0.Coords) : BitVec 32 :=
  let arg1 : BitVec 32 := BitVec.ofNat 32 (i 1).val
  let c2_i32_128 : BitVec 32 := 2#32
  let v186 : BitVec 32 := Scalar.subi arg1 c2_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  v216
def k0_off67 (i : grid0.Coords) (c0_i32_129 : BitVec 32) : Fin 4 → Nat :=
  let c0_160 : Index := 0#32
  let c2_161 : Index := 2#32
  let arg1 : BitVec 32 := BitVec.ofNat 32 (i 1).val
  let c2_i32_128 : BitVec 32 := 2#32
  let v186 : BitVec 32 := Scalar.subi arg1 c2_i32_128
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  let v217 : BitVec 32 := v216
  let v218 : Index := Scalar.indexCast v217
  let c0_162 : Index := 0#32
  ![0, 2, v218.toNat, 0]
def k0_off68 (i : grid0.Coords) (c0_i32_131 : BitVec 32) : Fin 4 → Nat :=
  let c0_176 : Index := 0#32
  let arg1 : BitVec 32 := BitVec.ofNat 32 (i 1).val
  let c2_i32_128 : BitVec 32 := 2#32
  let v186 : BitVec 32 := Scalar.subi arg1 c2_i32_128
  let v189 : BitVec 32 := Scalar.addi v186 c0_i32_131
  let v231 : Index := Scalar.indexCast v189
  let c0_177 : Index := 0#32
  let c0_178 : Index := 0#32
  ![0, v231.toNat, 0, 0]
def k0_mult100 (i : grid0.Coords) : BitVec 32 :=
  let arg1 : BitVec 32 := BitVec.ofNat 32 (i 1).val
  let c2_i32_128 : BitVec 32 := 2#32
  let v186 : BitVec 32 := Scalar.subi arg1 c2_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  v257
def k0_off69 (i : grid0.Coords) (c0_i32_129 : BitVec 32) : Fin 4 → Nat :=
  let c0_194 : Index := 0#32
  let c3_195 : Index := 3#32
  let arg1 : BitVec 32 := BitVec.ofNat 32 (i 1).val
  let c2_i32_128 : BitVec 32 := 2#32
  let v186 : BitVec 32 := Scalar.subi arg1 c2_i32_128
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  let v258 : BitVec 32 := v257
  let v259 : Index := Scalar.indexCast v258
  let c0_196 : Index := 0#32
  ![0, 3, v259.toNat, 0]
def k0_off70 (i : grid0.Coords) (c0_i32_131 : BitVec 32) : Fin 4 → Nat :=
  let c0_210 : Index := 0#32
  let arg1 : BitVec 32 := BitVec.ofNat 32 (i 1).val
  let c2_i32_128 : BitVec 32 := 2#32
  let v186 : BitVec 32 := Scalar.subi arg1 c2_i32_128
  let v189 : BitVec 32 := Scalar.addi v186 c0_i32_131
  let v272 : Index := Scalar.indexCast v189
  let c80 : Index := 80#32
  let c0_211 : Index := 0#32
  ![0, v272.toNat, 80, 0]
def k0_mult101 (i : grid0.Coords) : BitVec 32 :=
  let arg1 : BitVec 32 := BitVec.ofNat 32 (i 1).val
  let c2_i32_128 : BitVec 32 := 2#32
  let v186 : BitVec 32 := Scalar.subi arg1 c2_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  v298
def k0_off71 (i : grid0.Coords) (c0_i32_129 : BitVec 32) : Fin 4 → Nat :=
  let c0_227 : Index := 0#32
  let c4_228 : Index := 4#32
  let arg1 : BitVec 32 := BitVec.ofNat 32 (i 1).val
  let c2_i32_128 : BitVec 32 := 2#32
  let v186 : BitVec 32 := Scalar.subi arg1 c2_i32_128
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  let v299 : BitVec 32 := v298
  let v300 : Index := Scalar.indexCast v299
  let c0_229 : Index := 0#32
  ![0, 4, v300.toNat, 0]
def k0_off72 (i : grid0.Coords) (c0_i32_131 : BitVec 32) : Fin 4 → Nat :=
  let c0_243 : Index := 0#32
  let arg1 : BitVec 32 := BitVec.ofNat 32 (i 1).val
  let c2_i32_128 : BitVec 32 := 2#32
  let v186 : BitVec 32 := Scalar.subi arg1 c2_i32_128
  let v189 : BitVec 32 := Scalar.addi v186 c0_i32_131
  let v313 : Index := Scalar.indexCast v189
  let c160 : Index := 160#32
  let c0_244 : Index := 0#32
  ![0, v313.toNat, 160, 0]
def k0_mult102 (i : grid0.Coords) : BitVec 32 :=
  let arg1 : BitVec 32 := BitVec.ofNat 32 (i 1).val
  let c2_i32_128 : BitVec 32 := 2#32
  let v186 : BitVec 32 := Scalar.subi arg1 c2_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  v339
def k0_off73 (i : grid0.Coords) (c0_i32_129 : BitVec 32) : Fin 4 → Nat :=
  let c0_260 : Index := 0#32
  let c5_261 : Index := 5#32
  let arg1 : BitVec 32 := BitVec.ofNat 32 (i 1).val
  let c2_i32_128 : BitVec 32 := 2#32
  let v186 : BitVec 32 := Scalar.subi arg1 c2_i32_128
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  let v340 : BitVec 32 := v339
  let v341 : Index := Scalar.indexCast v340
  let c0_262 : Index := 0#32
  ![0, 5, v341.toNat, 0]
def k0_off74 (i : grid0.Coords) (c0_i32_131 : BitVec 32) : Fin 4 → Nat :=
  let c0_276 : Index := 0#32
  let arg1 : BitVec 32 := BitVec.ofNat 32 (i 1).val
  let c2_i32_128 : BitVec 32 := 2#32
  let v186 : BitVec 32 := Scalar.subi arg1 c2_i32_128
  let v189 : BitVec 32 := Scalar.addi v186 c0_i32_131
  let v354 : Index := Scalar.indexCast v189
  let c240 : Index := 240#32
  let c0_277 : Index := 0#32
  ![0, v354.toNat, 240, 0]
def k0_mult103 (i : grid0.Coords) : BitVec 32 :=
  let arg1 : BitVec 32 := BitVec.ofNat 32 (i 1).val
  let c2_i32_128 : BitVec 32 := 2#32
  let v186 : BitVec 32 := Scalar.subi arg1 c2_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  v380
def k0_off75 (i : grid0.Coords) (c0_i32_129 : BitVec 32) : Fin 4 → Nat :=
  let c0_293 : Index := 0#32
  let c6_294 : Index := 6#32
  let arg1 : BitVec 32 := BitVec.ofNat 32 (i 1).val
  let c2_i32_128 : BitVec 32 := 2#32
  let v186 : BitVec 32 := Scalar.subi arg1 c2_i32_128
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  let v381 : BitVec 32 := v380
  let v382 : Index := Scalar.indexCast v381
  let c0_295 : Index := 0#32
  ![0, 6, v382.toNat, 0]
def k0_off76 (i : grid0.Coords) (c0_i32_131 : BitVec 32) : Fin 4 → Nat :=
  let c0_309 : Index := 0#32
  let arg1 : BitVec 32 := BitVec.ofNat 32 (i 1).val
  let c2_i32_128 : BitVec 32 := 2#32
  let v186 : BitVec 32 := Scalar.subi arg1 c2_i32_128
  let v189 : BitVec 32 := Scalar.addi v186 c0_i32_131
  let v395 : Index := Scalar.indexCast v189
  let c320_310 : Index := 320#32
  let c0_311 : Index := 0#32
  ![0, v395.toNat, 320, 0]
def k0_mult104 (i : grid0.Coords) : BitVec 32 :=
  let arg1 : BitVec 32 := BitVec.ofNat 32 (i 1).val
  let c2_i32_128 : BitVec 32 := 2#32
  let v186 : BitVec 32 := Scalar.subi arg1 c2_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  v421
def k0_off77 (i : grid0.Coords) (c0_i32_129 : BitVec 32) : Fin 4 → Nat :=
  let c0_327 : Index := 0#32
  let c7_328 : Index := 7#32
  let arg1 : BitVec 32 := BitVec.ofNat 32 (i 1).val
  let c2_i32_128 : BitVec 32 := 2#32
  let v186 : BitVec 32 := Scalar.subi arg1 c2_i32_128
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  let v422 : BitVec 32 := v421
  let v423 : Index := Scalar.indexCast v422
  let c0_329 : Index := 0#32
  ![0, 7, v423.toNat, 0]
def k0_off78 (i : grid0.Coords) (c0_i32_131 : BitVec 32) : Fin 4 → Nat :=
  let c0_343 : Index := 0#32
  let arg1 : BitVec 32 := BitVec.ofNat 32 (i 1).val
  let c2_i32_128 : BitVec 32 := 2#32
  let v186 : BitVec 32 := Scalar.subi arg1 c2_i32_128
  let v189 : BitVec 32 := Scalar.addi v186 c0_i32_131
  let v436 : Index := Scalar.indexCast v189
  let c400 : Index := 400#32
  let c0_344 : Index := 0#32
  ![0, v436.toNat, 400, 0]
def k0_off79 (i : grid0.Coords) (c0_i32_131 : BitVec 32) : Fin 4 → Nat :=
  let c0_362 : Index := 0#32
  let arg1 : BitVec 32 := BitVec.ofNat 32 (i 1).val
  let c2_i32_128 : BitVec 32 := 2#32
  let v186 : BitVec 32 := Scalar.subi arg1 c2_i32_128
  let v189 : BitVec 32 := Scalar.addi v186 c0_i32_131
  let v464 : Index := Scalar.indexCast v189
  let c480 : Index := 480#32
  let c0_363 : Index := 0#32
  ![0, v464.toNat, 480, 0]
def k0_off80 (i : grid0.Coords) (c0_i32_131 : BitVec 32) : Fin 4 → Nat :=
  let c0_381 : Index := 0#32
  let arg1 : BitVec 32 := BitVec.ofNat 32 (i 1).val
  let c2_i32_128 : BitVec 32 := 2#32
  let v186 : BitVec 32 := Scalar.subi arg1 c2_i32_128
  let v189 : BitVec 32 := Scalar.addi v186 c0_i32_131
  let v492 : Index := Scalar.indexCast v189
  let c560 : Index := 560#32
  let c0_382 : Index := 0#32
  ![0, v492.toNat, 560, 0]
def k0_mult105 (i : grid0.Coords) : BitVec 32 :=
  let arg1 : BitVec 32 := BitVec.ofNat 32 (i 1).val
  let c2_i32_128 : BitVec 32 := 2#32
  let v186 : BitVec 32 := Scalar.subi arg1 c2_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_400 : BitVec 32 := 256#32
  let v521 : BitVec 32 := Scalar.muli v519 c256_i32_400
  v521
def k0_mult106 (i : grid0.Coords) : BitVec 32 :=
  let arg1 : BitVec 32 := BitVec.ofNat 32 (i 1).val
  let c2_i32_128 : BitVec 32 := 2#32
  let v186 : BitVec 32 := Scalar.subi arg1 c2_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_414 : BitVec 32 := 256#32
  let v534 : BitVec 32 := Scalar.muli v519 c256_i32_414
  v534
def k0_mult107 (i : grid0.Coords) : BitVec 32 :=
  let arg1 : BitVec 32 := BitVec.ofNat 32 (i 1).val
  let c2_i32_128 : BitVec 32 := 2#32
  let v186 : BitVec 32 := Scalar.subi arg1 c2_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_428 : BitVec 32 := 256#32
  let v547 : BitVec 32 := Scalar.muli v519 c256_i32_428
  v547
def k0_mult108 (i : grid0.Coords) : BitVec 32 :=
  let arg1 : BitVec 32 := BitVec.ofNat 32 (i 1).val
  let c2_i32_128 : BitVec 32 := 2#32
  let v186 : BitVec 32 := Scalar.subi arg1 c2_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_462 : BitVec 32 := 256#32
  let v588 : BitVec 32 := Scalar.muli v519 c256_i32_462
  v588
def k0_mult109 (i : grid0.Coords) : BitVec 32 :=
  let arg1 : BitVec 32 := BitVec.ofNat 32 (i 1).val
  let c2_i32_128 : BitVec 32 := 2#32
  let v186 : BitVec 32 := Scalar.subi arg1 c2_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_496 : BitVec 32 := 256#32
  let v629 : BitVec 32 := Scalar.muli v519 c256_i32_496
  v629
def k0_mult110 (i : grid0.Coords) : BitVec 32 :=
  let arg1 : BitVec 32 := BitVec.ofNat 32 (i 1).val
  let c2_i32_128 : BitVec 32 := 2#32
  let v186 : BitVec 32 := Scalar.subi arg1 c2_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_530 : BitVec 32 := 256#32
  let v670 : BitVec 32 := Scalar.muli v519 c256_i32_530
  v670
def k0_mult111 (i : grid0.Coords) : BitVec 32 :=
  let arg1 : BitVec 32 := BitVec.ofNat 32 (i 1).val
  let c2_i32_128 : BitVec 32 := 2#32
  let v186 : BitVec 32 := Scalar.subi arg1 c2_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_564 : BitVec 32 := 256#32
  let v711 : BitVec 32 := Scalar.muli v519 c256_i32_564
  v711
def k0_mult112 (i : grid0.Coords) : BitVec 32 :=
  let arg1 : BitVec 32 := BitVec.ofNat 32 (i 1).val
  let c2_i32_128 : BitVec 32 := 2#32
  let v186 : BitVec 32 := Scalar.subi arg1 c2_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_598 : BitVec 32 := 256#32
  let v752 : BitVec 32 := Scalar.muli v519 c256_i32_598
  v752
def k0_off81 (i : grid0.Coords) : Fin 4 → Nat :=
  let c0_675 : Index := 0#32
  let arg1 : BitVec 32 := BitVec.ofNat 32 (i 1).val
  let v851 : Index := Scalar.indexCast arg1
  let c0_676 : Index := 0#32
  let c0_677 : Index := 0#32
  ![0, v851.toNat, 0, 0]
def k0_mult113 : BitVec 32 :=
  let c0_i32_693 : BitVec 32 := 0#32
  c0_i32_693
def k0_off82 (i : grid0.Coords) : Fin 4 → Nat :=
  let c0_710 : Index := 0#32
  let arg1 : BitVec 32 := BitVec.ofNat 32 (i 1).val
  let v893 : Index := Scalar.indexCast arg1
  let c80_711 : Index := 80#32
  let c0_712 : Index := 0#32
  ![0, v893.toNat, 80, 0]
def k0_mult114 : BitVec 32 :=
  let c0_i32_728 : BitVec 32 := 0#32
  c0_i32_728
def k0_off83 (i : grid0.Coords) : Fin 4 → Nat :=
  let c0_745 : Index := 0#32
  let arg1 : BitVec 32 := BitVec.ofNat 32 (i 1).val
  let v935 : Index := Scalar.indexCast arg1
  let c160_746 : Index := 160#32
  let c0_747 : Index := 0#32
  ![0, v935.toNat, 160, 0]
def k0_mult115 : BitVec 32 :=
  let c0_i32_763 : BitVec 32 := 0#32
  c0_i32_763
def k0_off84 (i : grid0.Coords) : Fin 4 → Nat :=
  let c0_780 : Index := 0#32
  let arg1 : BitVec 32 := BitVec.ofNat 32 (i 1).val
  let v977 : Index := Scalar.indexCast arg1
  let c240_781 : Index := 240#32
  let c0_782 : Index := 0#32
  ![0, v977.toNat, 240, 0]
def k0_mult116 : BitVec 32 :=
  let c0_i32_798 : BitVec 32 := 0#32
  c0_i32_798
def k0_off85 (i : grid0.Coords) : Fin 4 → Nat :=
  let c0_815 : Index := 0#32
  let arg1 : BitVec 32 := BitVec.ofNat 32 (i 1).val
  let v1019 : Index := Scalar.indexCast arg1
  let c320_816 : Index := 320#32
  let c0_817 : Index := 0#32
  ![0, v1019.toNat, 320, 0]
def k0_mult117 : BitVec 32 :=
  let c0_i32_833 : BitVec 32 := 0#32
  c0_i32_833
def k0_off86 (i : grid0.Coords) : Fin 4 → Nat :=
  let c0_850 : Index := 0#32
  let arg1 : BitVec 32 := BitVec.ofNat 32 (i 1).val
  let v1061 : Index := Scalar.indexCast arg1
  let c400_851 : Index := 400#32
  let c0_852 : Index := 0#32
  ![0, v1061.toNat, 400, 0]
def k0_mult118 : BitVec 32 :=
  let c0_i32_868 : BitVec 32 := 0#32
  c0_i32_868
def k0_off87 (i : grid0.Coords) : Fin 4 → Nat :=
  let c0_885 : Index := 0#32
  let arg1 : BitVec 32 := BitVec.ofNat 32 (i 1).val
  let v1103 : Index := Scalar.indexCast arg1
  let c480_886 : Index := 480#32
  let c0_887 : Index := 0#32
  ![0, v1103.toNat, 480, 0]
def k0_mult119 : BitVec 32 :=
  let c0_i32_903 : BitVec 32 := 0#32
  c0_i32_903
def k0_off88 (i : grid0.Coords) : Fin 4 → Nat :=
  let c0_920 : Index := 0#32
  let arg1 : BitVec 32 := BitVec.ofNat 32 (i 1).val
  let v1145 : Index := Scalar.indexCast arg1
  let c560_921 : Index := 560#32
  let c0_922 : Index := 0#32
  ![0, v1145.toNat, 560, 0]
def k0_mult120 : BitVec 32 :=
  let c0_i32_938 : BitVec 32 := 0#32
  c0_i32_938
def k0_cond5 (i : grid0.Coords) : BitVec 1 :=
  let arg1 : BitVec 32 := BitVec.ofNat 32 (i 1).val
  let c4_i32_19 : BitVec 32 := 4#32
  let c0_i32_20 : BitVec 32 := 0#32
  let v36 : BitVec 1 := Scalar.cmpi .eq c4_i32_19 c0_i32_20
  let c1_i32_21 : BitVec 32 := 1#32
  let v37 : BitVec 32 := Scalar.select v36 c1_i32_21 c4_i32_19
  let v38 : BitVec 32 := Scalar.remsi arg1 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c3_i32 : BitVec 32 := 3#32
  let v55 : BitVec 1 := Scalar.cmpi .eq v45 c3_i32
  let v56 : BitVec 32 := Scalar.extui v55
  let c0_i32_37 : BitVec 32 := 0#32
  let v57 : BitVec 1 := Scalar.cmpi .ne v56 c0_i32_37
  v57

def k0_mult121 (i : grid0.Coords) : BitVec 32 :=
  let arg1 : BitVec 32 := BitVec.ofNat 32 (i 1).val
  let c3_i32_128 : BitVec 32 := 3#32
  let v186 : BitVec 32 := Scalar.subi arg1 c3_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  v190
def k0_off89 (i : grid0.Coords) (c0_i32_129 : BitVec 32) : Fin 4 → Nat :=
  let c0_132 : Index := 0#32
  let c0_133 : Index := 0#32
  let arg1 : BitVec 32 := BitVec.ofNat 32 (i 1).val
  let c3_i32_128 : BitVec 32 := 3#32
  let v186 : BitVec 32 := Scalar.subi arg1 c3_i32_128
  let v187 : BitVec 32 := Scalar.addi v186 c0_i32_129
  let c1_i32_130 : BitVec 32 := 1#32
  let v188 : BitVec 32 := Scalar.addi v187 c1_i32_130
  let c256_i32 : BitVec 32 := 256#32
  let v190 : BitVec 32 := Scalar.muli v188 c256_i32
  let v191 : BitVec 32 := v190
  let v192 : Index := Scalar.indexCast v191
  let c0_134 : Index := 0#32
  ![0, 0, v192.toNat, 0]
def k0_mult122 (i : grid0.Coords) : BitVec 32 :=
  let arg1 : BitVec 32 := BitVec.ofNat 32 (i 1).val
  let c3_i32_128 : BitVec 32 := 3#32
  let v186 : BitVec 32 := Scalar.subi arg1 c3_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  v203
def k0_off90 (i : grid0.Coords) (c0_i32_129 : BitVec 32) : Fin 4 → Nat :=
  let c0_146 : Index := 0#32
  let c1_147 : Index := 1#32
  let arg1 : BitVec 32 := BitVec.ofNat 32 (i 1).val
  let c3_i32_128 : BitVec 32 := 3#32
  let v186 : BitVec 32 := Scalar.subi arg1 c3_i32_128
  let v187 : BitVec 32 := Scalar.addi v186 c0_i32_129
  let c1_i32_130 : BitVec 32 := 1#32
  let v188 : BitVec 32 := Scalar.addi v187 c1_i32_130
  let c256_i32_145 : BitVec 32 := 256#32
  let v203 : BitVec 32 := Scalar.muli v188 c256_i32_145
  let v204 : BitVec 32 := v203
  let v205 : Index := Scalar.indexCast v204
  let c0_148 : Index := 0#32
  ![0, 1, v205.toNat, 0]
def k0_mult123 (i : grid0.Coords) : BitVec 32 :=
  let arg1 : BitVec 32 := BitVec.ofNat 32 (i 1).val
  let c3_i32_128 : BitVec 32 := 3#32
  let v186 : BitVec 32 := Scalar.subi arg1 c3_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  v216
def k0_off91 (i : grid0.Coords) (c0_i32_129 : BitVec 32) : Fin 4 → Nat :=
  let c0_160 : Index := 0#32
  let c2_161 : Index := 2#32
  let arg1 : BitVec 32 := BitVec.ofNat 32 (i 1).val
  let c3_i32_128 : BitVec 32 := 3#32
  let v186 : BitVec 32 := Scalar.subi arg1 c3_i32_128
  let v187 : BitVec 32 := Scalar.addi v186 c0_i32_129
  let c1_i32_130 : BitVec 32 := 1#32
  let v188 : BitVec 32 := Scalar.addi v187 c1_i32_130
  let c256_i32_159 : BitVec 32 := 256#32
  let v216 : BitVec 32 := Scalar.muli v188 c256_i32_159
  let v217 : BitVec 32 := v216
  let v218 : Index := Scalar.indexCast v217
  let c0_162 : Index := 0#32
  ![0, 2, v218.toNat, 0]
def k0_off92 (i : grid0.Coords) (c0_i32_131 : BitVec 32) : Fin 4 → Nat :=
  let c0_176 : Index := 0#32
  let arg1 : BitVec 32 := BitVec.ofNat 32 (i 1).val
  let c3_i32_128 : BitVec 32 := 3#32
  let v186 : BitVec 32 := Scalar.subi arg1 c3_i32_128
  let v189 : BitVec 32 := Scalar.addi v186 c0_i32_131
  let v231 : Index := Scalar.indexCast v189
  let c0_177 : Index := 0#32
  let c0_178 : Index := 0#32
  ![0, v231.toNat, 0, 0]
def k0_mult124 (i : grid0.Coords) : BitVec 32 :=
  let arg1 : BitVec 32 := BitVec.ofNat 32 (i 1).val
  let c3_i32_128 : BitVec 32 := 3#32
  let v186 : BitVec 32 := Scalar.subi arg1 c3_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  v257
def k0_off93 (i : grid0.Coords) (c0_i32_129 : BitVec 32) : Fin 4 → Nat :=
  let c0_194 : Index := 0#32
  let c3_195 : Index := 3#32
  let arg1 : BitVec 32 := BitVec.ofNat 32 (i 1).val
  let c3_i32_128 : BitVec 32 := 3#32
  let v186 : BitVec 32 := Scalar.subi arg1 c3_i32_128
  let v187 : BitVec 32 := Scalar.addi v186 c0_i32_129
  let c1_i32_130 : BitVec 32 := 1#32
  let v188 : BitVec 32 := Scalar.addi v187 c1_i32_130
  let c256_i32_193 : BitVec 32 := 256#32
  let v257 : BitVec 32 := Scalar.muli v188 c256_i32_193
  let v258 : BitVec 32 := v257
  let v259 : Index := Scalar.indexCast v258
  let c0_196 : Index := 0#32
  ![0, 3, v259.toNat, 0]
def k0_off94 (i : grid0.Coords) (c0_i32_131 : BitVec 32) : Fin 4 → Nat :=
  let c0_210 : Index := 0#32
  let arg1 : BitVec 32 := BitVec.ofNat 32 (i 1).val
  let c3_i32_128 : BitVec 32 := 3#32
  let v186 : BitVec 32 := Scalar.subi arg1 c3_i32_128
  let v189 : BitVec 32 := Scalar.addi v186 c0_i32_131
  let v272 : Index := Scalar.indexCast v189
  let c80 : Index := 80#32
  let c0_211 : Index := 0#32
  ![0, v272.toNat, 80, 0]
def k0_mult125 (i : grid0.Coords) : BitVec 32 :=
  let arg1 : BitVec 32 := BitVec.ofNat 32 (i 1).val
  let c3_i32_128 : BitVec 32 := 3#32
  let v186 : BitVec 32 := Scalar.subi arg1 c3_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  v298
def k0_off95 (i : grid0.Coords) (c0_i32_129 : BitVec 32) : Fin 4 → Nat :=
  let c0_227 : Index := 0#32
  let c4_228 : Index := 4#32
  let arg1 : BitVec 32 := BitVec.ofNat 32 (i 1).val
  let c3_i32_128 : BitVec 32 := 3#32
  let v186 : BitVec 32 := Scalar.subi arg1 c3_i32_128
  let v187 : BitVec 32 := Scalar.addi v186 c0_i32_129
  let c1_i32_130 : BitVec 32 := 1#32
  let v188 : BitVec 32 := Scalar.addi v187 c1_i32_130
  let c256_i32_226 : BitVec 32 := 256#32
  let v298 : BitVec 32 := Scalar.muli v188 c256_i32_226
  let v299 : BitVec 32 := v298
  let v300 : Index := Scalar.indexCast v299
  let c0_229 : Index := 0#32
  ![0, 4, v300.toNat, 0]
def k0_off96 (i : grid0.Coords) (c0_i32_131 : BitVec 32) : Fin 4 → Nat :=
  let c0_243 : Index := 0#32
  let arg1 : BitVec 32 := BitVec.ofNat 32 (i 1).val
  let c3_i32_128 : BitVec 32 := 3#32
  let v186 : BitVec 32 := Scalar.subi arg1 c3_i32_128
  let v189 : BitVec 32 := Scalar.addi v186 c0_i32_131
  let v313 : Index := Scalar.indexCast v189
  let c160 : Index := 160#32
  let c0_244 : Index := 0#32
  ![0, v313.toNat, 160, 0]
def k0_mult126 (i : grid0.Coords) : BitVec 32 :=
  let arg1 : BitVec 32 := BitVec.ofNat 32 (i 1).val
  let c3_i32_128 : BitVec 32 := 3#32
  let v186 : BitVec 32 := Scalar.subi arg1 c3_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  v339
def k0_off97 (i : grid0.Coords) (c0_i32_129 : BitVec 32) : Fin 4 → Nat :=
  let c0_260 : Index := 0#32
  let c5_261 : Index := 5#32
  let arg1 : BitVec 32 := BitVec.ofNat 32 (i 1).val
  let c3_i32_128 : BitVec 32 := 3#32
  let v186 : BitVec 32 := Scalar.subi arg1 c3_i32_128
  let v187 : BitVec 32 := Scalar.addi v186 c0_i32_129
  let c1_i32_130 : BitVec 32 := 1#32
  let v188 : BitVec 32 := Scalar.addi v187 c1_i32_130
  let c256_i32_259 : BitVec 32 := 256#32
  let v339 : BitVec 32 := Scalar.muli v188 c256_i32_259
  let v340 : BitVec 32 := v339
  let v341 : Index := Scalar.indexCast v340
  let c0_262 : Index := 0#32
  ![0, 5, v341.toNat, 0]
def k0_off98 (i : grid0.Coords) (c0_i32_131 : BitVec 32) : Fin 4 → Nat :=
  let c0_276 : Index := 0#32
  let arg1 : BitVec 32 := BitVec.ofNat 32 (i 1).val
  let c3_i32_128 : BitVec 32 := 3#32
  let v186 : BitVec 32 := Scalar.subi arg1 c3_i32_128
  let v189 : BitVec 32 := Scalar.addi v186 c0_i32_131
  let v354 : Index := Scalar.indexCast v189
  let c240 : Index := 240#32
  let c0_277 : Index := 0#32
  ![0, v354.toNat, 240, 0]
def k0_mult127 (i : grid0.Coords) : BitVec 32 :=
  let arg1 : BitVec 32 := BitVec.ofNat 32 (i 1).val
  let c3_i32_128 : BitVec 32 := 3#32
  let v186 : BitVec 32 := Scalar.subi arg1 c3_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  v380
def k0_off99 (i : grid0.Coords) (c0_i32_129 : BitVec 32) : Fin 4 → Nat :=
  let c0_293 : Index := 0#32
  let c6_294 : Index := 6#32
  let arg1 : BitVec 32 := BitVec.ofNat 32 (i 1).val
  let c3_i32_128 : BitVec 32 := 3#32
  let v186 : BitVec 32 := Scalar.subi arg1 c3_i32_128
  let v187 : BitVec 32 := Scalar.addi v186 c0_i32_129
  let c1_i32_130 : BitVec 32 := 1#32
  let v188 : BitVec 32 := Scalar.addi v187 c1_i32_130
  let c256_i32_292 : BitVec 32 := 256#32
  let v380 : BitVec 32 := Scalar.muli v188 c256_i32_292
  let v381 : BitVec 32 := v380
  let v382 : Index := Scalar.indexCast v381
  let c0_295 : Index := 0#32
  ![0, 6, v382.toNat, 0]
def k0_off100 (i : grid0.Coords) (c0_i32_131 : BitVec 32) : Fin 4 → Nat :=
  let c0_309 : Index := 0#32
  let arg1 : BitVec 32 := BitVec.ofNat 32 (i 1).val
  let c3_i32_128 : BitVec 32 := 3#32
  let v186 : BitVec 32 := Scalar.subi arg1 c3_i32_128
  let v189 : BitVec 32 := Scalar.addi v186 c0_i32_131
  let v395 : Index := Scalar.indexCast v189
  let c320_310 : Index := 320#32
  let c0_311 : Index := 0#32
  ![0, v395.toNat, 320, 0]
def k0_mult128 (i : grid0.Coords) : BitVec 32 :=
  let arg1 : BitVec 32 := BitVec.ofNat 32 (i 1).val
  let c3_i32_128 : BitVec 32 := 3#32
  let v186 : BitVec 32 := Scalar.subi arg1 c3_i32_128
  let c0_i32_129 : BitVec 32 := 0#32
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  v421
def k0_off101 (i : grid0.Coords) (c0_i32_129 : BitVec 32) : Fin 4 → Nat :=
  let c0_327 : Index := 0#32
  let c7_328 : Index := 7#32
  let arg1 : BitVec 32 := BitVec.ofNat 32 (i 1).val
  let c3_i32_128 : BitVec 32 := 3#32
  let v186 : BitVec 32 := Scalar.subi arg1 c3_i32_128
  let v187 : BitVec 32 := Scalar.addi v186 c0_i32_129
  let c1_i32_130 : BitVec 32 := 1#32
  let v188 : BitVec 32 := Scalar.addi v187 c1_i32_130
  let c256_i32_326 : BitVec 32 := 256#32
  let v421 : BitVec 32 := Scalar.muli v188 c256_i32_326
  let v422 : BitVec 32 := v421
  let v423 : Index := Scalar.indexCast v422
  let c0_329 : Index := 0#32
  ![0, 7, v423.toNat, 0]
def k0_off102 (i : grid0.Coords) (c0_i32_131 : BitVec 32) : Fin 4 → Nat :=
  let c0_343 : Index := 0#32
  let arg1 : BitVec 32 := BitVec.ofNat 32 (i 1).val
  let c3_i32_128 : BitVec 32 := 3#32
  let v186 : BitVec 32 := Scalar.subi arg1 c3_i32_128
  let v189 : BitVec 32 := Scalar.addi v186 c0_i32_131
  let v436 : Index := Scalar.indexCast v189
  let c400 : Index := 400#32
  let c0_344 : Index := 0#32
  ![0, v436.toNat, 400, 0]
def k0_off103 (i : grid0.Coords) (c0_i32_131 : BitVec 32) : Fin 4 → Nat :=
  let c0_362 : Index := 0#32
  let arg1 : BitVec 32 := BitVec.ofNat 32 (i 1).val
  let c3_i32_128 : BitVec 32 := 3#32
  let v186 : BitVec 32 := Scalar.subi arg1 c3_i32_128
  let v189 : BitVec 32 := Scalar.addi v186 c0_i32_131
  let v464 : Index := Scalar.indexCast v189
  let c480 : Index := 480#32
  let c0_363 : Index := 0#32
  ![0, v464.toNat, 480, 0]
def k0_off104 (i : grid0.Coords) (c0_i32_131 : BitVec 32) : Fin 4 → Nat :=
  let c0_381 : Index := 0#32
  let arg1 : BitVec 32 := BitVec.ofNat 32 (i 1).val
  let c3_i32_128 : BitVec 32 := 3#32
  let v186 : BitVec 32 := Scalar.subi arg1 c3_i32_128
  let v189 : BitVec 32 := Scalar.addi v186 c0_i32_131
  let v492 : Index := Scalar.indexCast v189
  let c560 : Index := 560#32
  let c0_382 : Index := 0#32
  ![0, v492.toNat, 560, 0]
def k0_mult129 (i : grid0.Coords) : BitVec 32 :=
  let arg1 : BitVec 32 := BitVec.ofNat 32 (i 1).val
  let c3_i32_128 : BitVec 32 := 3#32
  let v186 : BitVec 32 := Scalar.subi arg1 c3_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_400 : BitVec 32 := 256#32
  let v521 : BitVec 32 := Scalar.muli v519 c256_i32_400
  v521
def k0_mult130 (i : grid0.Coords) : BitVec 32 :=
  let arg1 : BitVec 32 := BitVec.ofNat 32 (i 1).val
  let c3_i32_128 : BitVec 32 := 3#32
  let v186 : BitVec 32 := Scalar.subi arg1 c3_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_414 : BitVec 32 := 256#32
  let v534 : BitVec 32 := Scalar.muli v519 c256_i32_414
  v534
def k0_mult131 (i : grid0.Coords) : BitVec 32 :=
  let arg1 : BitVec 32 := BitVec.ofNat 32 (i 1).val
  let c3_i32_128 : BitVec 32 := 3#32
  let v186 : BitVec 32 := Scalar.subi arg1 c3_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_428 : BitVec 32 := 256#32
  let v547 : BitVec 32 := Scalar.muli v519 c256_i32_428
  v547
def k0_mult132 (i : grid0.Coords) : BitVec 32 :=
  let arg1 : BitVec 32 := BitVec.ofNat 32 (i 1).val
  let c3_i32_128 : BitVec 32 := 3#32
  let v186 : BitVec 32 := Scalar.subi arg1 c3_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_462 : BitVec 32 := 256#32
  let v588 : BitVec 32 := Scalar.muli v519 c256_i32_462
  v588
def k0_mult133 (i : grid0.Coords) : BitVec 32 :=
  let arg1 : BitVec 32 := BitVec.ofNat 32 (i 1).val
  let c3_i32_128 : BitVec 32 := 3#32
  let v186 : BitVec 32 := Scalar.subi arg1 c3_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_496 : BitVec 32 := 256#32
  let v629 : BitVec 32 := Scalar.muli v519 c256_i32_496
  v629
def k0_mult134 (i : grid0.Coords) : BitVec 32 :=
  let arg1 : BitVec 32 := BitVec.ofNat 32 (i 1).val
  let c3_i32_128 : BitVec 32 := 3#32
  let v186 : BitVec 32 := Scalar.subi arg1 c3_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_530 : BitVec 32 := 256#32
  let v670 : BitVec 32 := Scalar.muli v519 c256_i32_530
  v670
def k0_mult135 (i : grid0.Coords) : BitVec 32 :=
  let arg1 : BitVec 32 := BitVec.ofNat 32 (i 1).val
  let c3_i32_128 : BitVec 32 := 3#32
  let v186 : BitVec 32 := Scalar.subi arg1 c3_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_564 : BitVec 32 := 256#32
  let v711 : BitVec 32 := Scalar.muli v519 c256_i32_564
  v711
def k0_mult136 (i : grid0.Coords) : BitVec 32 :=
  let arg1 : BitVec 32 := BitVec.ofNat 32 (i 1).val
  let c3_i32_128 : BitVec 32 := 3#32
  let v186 : BitVec 32 := Scalar.subi arg1 c3_i32_128
  let c1_i32_397 : BitVec 32 := 1#32
  let v518 : BitVec 32 := Scalar.addi v186 c1_i32_397
  let c1_i32_398 : BitVec 32 := 1#32
  let v519 : BitVec 32 := Scalar.addi v518 c1_i32_398
  let c256_i32_598 : BitVec 32 := 256#32
  let v752 : BitVec 32 := Scalar.muli v519 c256_i32_598
  v752
def k0_mult137 (i : grid0.Coords) : BitVec 32 :=
  let arg1 : BitVec 32 := BitVec.ofNat 32 (i 1).val
  let c3_i32_128 : BitVec 32 := 3#32
  let v186 : BitVec 32 := Scalar.subi arg1 c3_i32_128
  let c2_i32_672 : BitVec 32 := 2#32
  let v849 : BitVec 32 := Scalar.addi v186 c2_i32_672
  let c1_i32_673 : BitVec 32 := 1#32
  let v850 : BitVec 32 := Scalar.addi v849 c1_i32_673
  let c256_i32_675 : BitVec 32 := 256#32
  let v852 : BitVec 32 := Scalar.muli v850 c256_i32_675
  v852
def k0_mult138 (i : grid0.Coords) : BitVec 32 :=
  let arg1 : BitVec 32 := BitVec.ofNat 32 (i 1).val
  let c3_i32_128 : BitVec 32 := 3#32
  let v186 : BitVec 32 := Scalar.subi arg1 c3_i32_128
  let c2_i32_672 : BitVec 32 := 2#32
  let v849 : BitVec 32 := Scalar.addi v186 c2_i32_672
  let c1_i32_673 : BitVec 32 := 1#32
  let v850 : BitVec 32 := Scalar.addi v849 c1_i32_673
  let c256_i32_689 : BitVec 32 := 256#32
  let v865 : BitVec 32 := Scalar.muli v850 c256_i32_689
  v865
def k0_mult139 (i : grid0.Coords) : BitVec 32 :=
  let arg1 : BitVec 32 := BitVec.ofNat 32 (i 1).val
  let c3_i32_128 : BitVec 32 := 3#32
  let v186 : BitVec 32 := Scalar.subi arg1 c3_i32_128
  let c2_i32_672 : BitVec 32 := 2#32
  let v849 : BitVec 32 := Scalar.addi v186 c2_i32_672
  let c1_i32_673 : BitVec 32 := 1#32
  let v850 : BitVec 32 := Scalar.addi v849 c1_i32_673
  let c256_i32_703 : BitVec 32 := 256#32
  let v878 : BitVec 32 := Scalar.muli v850 c256_i32_703
  v878
def k0_mult140 (i : grid0.Coords) : BitVec 32 :=
  let arg1 : BitVec 32 := BitVec.ofNat 32 (i 1).val
  let c3_i32_128 : BitVec 32 := 3#32
  let v186 : BitVec 32 := Scalar.subi arg1 c3_i32_128
  let c2_i32_672 : BitVec 32 := 2#32
  let v849 : BitVec 32 := Scalar.addi v186 c2_i32_672
  let c1_i32_673 : BitVec 32 := 1#32
  let v850 : BitVec 32 := Scalar.addi v849 c1_i32_673
  let c256_i32_737 : BitVec 32 := 256#32
  let v919 : BitVec 32 := Scalar.muli v850 c256_i32_737
  v919
def k0_mult141 (i : grid0.Coords) : BitVec 32 :=
  let arg1 : BitVec 32 := BitVec.ofNat 32 (i 1).val
  let c3_i32_128 : BitVec 32 := 3#32
  let v186 : BitVec 32 := Scalar.subi arg1 c3_i32_128
  let c2_i32_672 : BitVec 32 := 2#32
  let v849 : BitVec 32 := Scalar.addi v186 c2_i32_672
  let c1_i32_673 : BitVec 32 := 1#32
  let v850 : BitVec 32 := Scalar.addi v849 c1_i32_673
  let c256_i32_771 : BitVec 32 := 256#32
  let v960 : BitVec 32 := Scalar.muli v850 c256_i32_771
  v960
def k0_mult142 (i : grid0.Coords) : BitVec 32 :=
  let arg1 : BitVec 32 := BitVec.ofNat 32 (i 1).val
  let c3_i32_128 : BitVec 32 := 3#32
  let v186 : BitVec 32 := Scalar.subi arg1 c3_i32_128
  let c2_i32_672 : BitVec 32 := 2#32
  let v849 : BitVec 32 := Scalar.addi v186 c2_i32_672
  let c1_i32_673 : BitVec 32 := 1#32
  let v850 : BitVec 32 := Scalar.addi v849 c1_i32_673
  let c256_i32_805 : BitVec 32 := 256#32
  let v1001 : BitVec 32 := Scalar.muli v850 c256_i32_805
  v1001
def k0_mult143 (i : grid0.Coords) : BitVec 32 :=
  let arg1 : BitVec 32 := BitVec.ofNat 32 (i 1).val
  let c3_i32_128 : BitVec 32 := 3#32
  let v186 : BitVec 32 := Scalar.subi arg1 c3_i32_128
  let c2_i32_672 : BitVec 32 := 2#32
  let v849 : BitVec 32 := Scalar.addi v186 c2_i32_672
  let c1_i32_673 : BitVec 32 := 1#32
  let v850 : BitVec 32 := Scalar.addi v849 c1_i32_673
  let c256_i32_839 : BitVec 32 := 256#32
  let v1042 : BitVec 32 := Scalar.muli v850 c256_i32_839
  v1042
def k0_mult144 (i : grid0.Coords) : BitVec 32 :=
  let arg1 : BitVec 32 := BitVec.ofNat 32 (i 1).val
  let c3_i32_128 : BitVec 32 := 3#32
  let v186 : BitVec 32 := Scalar.subi arg1 c3_i32_128
  let c2_i32_672 : BitVec 32 := 2#32
  let v849 : BitVec 32 := Scalar.addi v186 c2_i32_672
  let c1_i32_673 : BitVec 32 := 1#32
  let v850 : BitVec 32 := Scalar.addi v849 c1_i32_673
  let c256_i32_873 : BitVec 32 := 256#32
  let v1083 : BitVec 32 := Scalar.muli v850 c256_i32_873
  v1083
def k0_off105 (i : grid0.Coords) : Fin 4 → Nat :=
  let c0_950 : Index := 0#32
  let arg1 : BitVec 32 := BitVec.ofNat 32 (i 1).val
  let v1182 : Index := Scalar.indexCast arg1
  let c0_951 : Index := 0#32
  let c0_952 : Index := 0#32
  ![0, v1182.toNat, 0, 0]
def k0_mult145 : BitVec 32 :=
  let c0_i32_968 : BitVec 32 := 0#32
  c0_i32_968
def k0_off106 (i : grid0.Coords) : Fin 4 → Nat :=
  let c0_985 : Index := 0#32
  let arg1 : BitVec 32 := BitVec.ofNat 32 (i 1).val
  let v1224 : Index := Scalar.indexCast arg1
  let c80_986 : Index := 80#32
  let c0_987 : Index := 0#32
  ![0, v1224.toNat, 80, 0]
def k0_mult146 : BitVec 32 :=
  let c0_i32_1003 : BitVec 32 := 0#32
  c0_i32_1003
def k0_off107 (i : grid0.Coords) : Fin 4 → Nat :=
  let c0_1020 : Index := 0#32
  let arg1 : BitVec 32 := BitVec.ofNat 32 (i 1).val
  let v1266 : Index := Scalar.indexCast arg1
  let c160_1021 : Index := 160#32
  let c0_1022 : Index := 0#32
  ![0, v1266.toNat, 160, 0]
def k0_mult147 : BitVec 32 :=
  let c0_i32_1038 : BitVec 32 := 0#32
  c0_i32_1038
def k0_off108 (i : grid0.Coords) : Fin 4 → Nat :=
  let c0_1055 : Index := 0#32
  let arg1 : BitVec 32 := BitVec.ofNat 32 (i 1).val
  let v1308 : Index := Scalar.indexCast arg1
  let c240_1056 : Index := 240#32
  let c0_1057 : Index := 0#32
  ![0, v1308.toNat, 240, 0]
def k0_mult148 : BitVec 32 :=
  let c0_i32_1073 : BitVec 32 := 0#32
  c0_i32_1073
def k0_off109 (i : grid0.Coords) : Fin 4 → Nat :=
  let c0_1090 : Index := 0#32
  let arg1 : BitVec 32 := BitVec.ofNat 32 (i 1).val
  let v1350 : Index := Scalar.indexCast arg1
  let c320_1091 : Index := 320#32
  let c0_1092 : Index := 0#32
  ![0, v1350.toNat, 320, 0]
def k0_mult149 : BitVec 32 :=
  let c0_i32_1108 : BitVec 32 := 0#32
  c0_i32_1108
def k0_off110 (i : grid0.Coords) : Fin 4 → Nat :=
  let c0_1125 : Index := 0#32
  let arg1 : BitVec 32 := BitVec.ofNat 32 (i 1).val
  let v1392 : Index := Scalar.indexCast arg1
  let c400_1126 : Index := 400#32
  let c0_1127 : Index := 0#32
  ![0, v1392.toNat, 400, 0]
def k0_mult150 : BitVec 32 :=
  let c0_i32_1143 : BitVec 32 := 0#32
  c0_i32_1143
def k0_off111 (i : grid0.Coords) : Fin 4 → Nat :=
  let c0_1160 : Index := 0#32
  let arg1 : BitVec 32 := BitVec.ofNat 32 (i 1).val
  let v1434 : Index := Scalar.indexCast arg1
  let c480_1161 : Index := 480#32
  let c0_1162 : Index := 0#32
  ![0, v1434.toNat, 480, 0]
def k0_mult151 : BitVec 32 :=
  let c0_i32_1178 : BitVec 32 := 0#32
  c0_i32_1178
def k0_off112 (i : grid0.Coords) : Fin 4 → Nat :=
  let c0_1195 : Index := 0#32
  let arg1 : BitVec 32 := BitVec.ofNat 32 (i 1).val
  let v1476 : Index := Scalar.indexCast arg1
  let c560_1196 : Index := 560#32
  let c0_1197 : Index := 0#32
  ![0, v1476.toNat, 560, 0]
def k0_mult152 : BitVec 32 :=
  let c0_i32_1213 : BitVec 32 := 0#32
  c0_i32_1213
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, c0_i32_0.toNat, v1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x640x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x8x128x4096 : Shape := ⟨4, ![4, 8, 128, 4096]⟩
abbrev S4x8x4096x128 : Shape := ⟨4, ![4, 8, 4096, 128]⟩
abbrev S4x16x640x256 : Shape := ⟨4, ![4, 16, 640, 256]⟩
abbrev S4x512x4096 : Shape := ⟨3, ![4, 512, 4096]⟩
abbrev S4x16x8x80x256 : Shape := ⟨5, ![4, 16, 8, 80, 256]⟩
abbrev S4x16x8x64x256 : Shape := ⟨5, ![4, 16, 8, 64, 256]⟩
abbrev S4x8x16x256x64 : Shape := ⟨5, ![4, 8, 16, 256, 64]⟩
abbrev S4x8x4096x64 : Shape := ⟨4, ![4, 8, 4096, 64]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x8x64x4096 : Shape := ⟨4, ![4, 8, 64, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4x8x128x4096, .bf16⟩
  | .hbm, ⟨1, _⟩ => ⟨S4x8x4096x128, .bf16⟩
  | .hbm, ⟨2, _⟩ => ⟨S4x16x640x256, .bf16⟩
  | .hbm, ⟨3, _⟩ => ⟨S4x512x4096, .bf16⟩
  | .hbm, ⟨4, _⟩ => ⟨S4x16x8x80x256, .bf16⟩
  | .hbm, ⟨5, _⟩ => ⟨S4x16x8x64x256, .bf16⟩
  | .hbm, ⟨6, _⟩ => ⟨S4x8x16x256x64, .bf16⟩
  | .hbm, ⟨7, _⟩ => ⟨S4x8x4096x64, .bf16⟩
  | .hbm, ⟨8, _⟩ => ⟨S4x8x4096x4096, .f32⟩
  | .hbm, ⟨9, _⟩ => ⟨S_, .f32⟩
  | .hbm, ⟨10, _⟩ => ⟨S_, .f32⟩
  | .hbm, ⟨11, _⟩ => ⟨S4x8x4096x4096, .f32⟩
  | .hbm, ⟨12, _⟩ => ⟨S4x8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x8x4096x4096, .i1⟩
  | .hbm, ⟨22, _⟩ => ⟨S4x8x4096x4096, .f32⟩
  | .hbm, ⟨23, _⟩ => ⟨S4x8x4096x4096, .f32⟩
  | .hbm, ⟨24, _⟩ => ⟨S_, .f32⟩
  | .hbm, ⟨25, _⟩ => ⟨S4x8x4096, .f32⟩
  | .hbm, ⟨26, _⟩ => ⟨S_, .f32⟩
  | .hbm, ⟨27, _⟩ => ⟨S4x8x4096, .f32⟩
  | .hbm, ⟨28, _⟩ => ⟨S4x8x4096, .f32⟩
  | .hbm, ⟨29, _⟩ => ⟨S4x8x4096x1, .f32⟩
  | .hbm, ⟨30, _⟩ => ⟨S4x8x4096x4096, .f32⟩
  | .hbm, ⟨31, _⟩ => ⟨S4x8x4096x4096, .f32⟩
  | .hbm, ⟨32, _⟩ => ⟨S4x8x4096x4096, .f32⟩
  | .hbm, ⟨33, _⟩ => ⟨S_, .f32⟩
  | .hbm, ⟨34, _⟩ => ⟨S4x8x4096, .f32⟩
  | .hbm, ⟨35, _⟩ => ⟨S4x8x4096x1, .f32⟩
  | .hbm, ⟨36, _⟩ => ⟨S4x8x4096x4096, .f32⟩
  | .hbm, ⟨37, _⟩ => ⟨S4x8x4096x4096, .f32⟩
  | .hbm, ⟨38, _⟩ => ⟨S_, .f32⟩
  | .hbm, ⟨39, _⟩ => ⟨S_, .f32⟩
  | .hbm, ⟨40, _⟩ => ⟨S4x8x4096x4096, .i1⟩
  | .hbm, ⟨41, _⟩ => ⟨S4x8x4096x4096, .f32⟩
  | .hbm, ⟨42, _⟩ => ⟨S4x8x4096x4096, .f32⟩
  | .hbm, ⟨43, _⟩ => ⟨S4x8x4096x4096, .bf16⟩
  | .hbm, ⟨44, _⟩ => ⟨S4x8x64x4096, .f32⟩
  | .hbm, ⟨45, _⟩ => ⟨S4x512x4096, .f32⟩
  | .hbm, ⟨46, _⟩ => ⟨S4x512x4096, .f32⟩
  | .hbm, ⟨47, _⟩ => ⟨S4x512x4096, .f32⟩
  | .hbm, ⟨48, _⟩ => ⟨S4x512x4096, .bf16⟩
  | _, _ => ⟨S4x8x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x512x4096 : Shape := ⟨3, ![4, 512, 4096]⟩
abbrev S1024x1024 : Shape := ⟨2, ![1024, 1024]⟩
abbrev S3x4x1024 : Shape := ⟨3, ![3, 4, 1024]⟩
abbrev S1024 : Shape := ⟨1, ![1024]⟩
abbrev S1x1024 : Shape := ⟨2, ![1, 1024]⟩
abbrev S1x512x1024 : Shape := ⟨3, ![1, 512, 1024]⟩
abbrev S1x1024x1024 : Shape := ⟨3, ![1, 1024, 1024]⟩
abbrev S3x1024x1024 : Shape := ⟨3, ![3, 1024, 1024]⟩
abbrev S3 : Shape := ⟨1, ![3]⟩
abbrev S1 : Shape := ⟨1, ![1]⟩
abbrev S_ : Shape := ⟨0, ![]⟩
abbrev S512x1024 : Shape := ⟨2, ![512, 1024]⟩
abbrev S1x1x1024 : Shape := ⟨3, ![1, 1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x512x4096, .bf16⟩
  | .hbm, ⟨2, _⟩ => ⟨S4x512x4096, .bf16⟩
  | .hbm, ⟨3, _⟩ => ⟨S1024x1024, .f32⟩
  | .hbm, ⟨4, _⟩ => ⟨S3x4x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S4x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S3x4x1024, .f32⟩
  | .local _ .vmem, ⟨6, _⟩ => ⟨S1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S3x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32_28 : BitVec 32 := 0#32
  let v58 : BitVec 32 := Scalar.addi v1 c0_i32_28
  let c4_i32_30 : BitVec 32 := 4#32
  let v60 : BitVec 32 := Scalar.remsi v58 c4_i32_30
  let c1024_i32_31 : BitVec 32 := 1024#32
  let v61 : BitVec 32 := Scalar.muli v60 c1024_i32_31
  v61
def k0_off1 (i : grid0.Coords) (c0_i32_28 : BitVec 32) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v58 : BitVec 32 := Scalar.addi v1 c0_i32_28
  let c3_i32_29 : BitVec 32 := 3#32
  let v59 : BitVec 32 := Scalar.remsi v58 c3_i32_29
  ![v59.toNat]
def k0_off2 (i : grid0.Coords) (c0_i32_28 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v58 : BitVec 32 := Scalar.addi v1 c0_i32_28
  let c3_i32_29 : BitVec 32 := 3#32
  let v59 : BitVec 32 := Scalar.remsi v58 c3_i32_29
  let c0_i32_33 : BitVec 32 := 0#32
  let c0_i32_34 : BitVec 32 := 0#32
  ![v59.toNat, 0, 0]
def k0_off3 (i : grid0.Coords) (c0_i32_28 : BitVec 32) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let v58 : BitVec 32 := Scalar.addi v1 c0_i32_28
  let c4_i32_32 : BitVec 32 := 4#32
  let v63 : BitVec 32 := Scalar.divsi v58 c4_i32_32
  let c4_i32_30 : BitVec 32 := 4#32
  let v60 : BitVec 32 := Scalar.remsi v58 c4_i32_30
  let c1024_i32_31 : BitVec 32 := 1024#32
  let v61 : BitVec 32 := Scalar.muli v60 c1024_i32_31
  let v62 : BitVec 32 := v61
  let c0_i32_35 : BitVec 32 := 0#32
  ![v63.toNat, v62.toNat, 0]
def k0_mult2 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let v70 : BitVec 32 := Scalar.addi v1 c1_i32
  let c4_i32_37 : BitVec 32 := 4#32
  let v72 : BitVec 32 := Scalar.remsi v70 c4_i32_37
  let c1024_i32_38 : BitVec 32 := 1024#32
  let v73 : BitVec 32 := Scalar.muli v72 c1024_i32_38
  v73
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v5 : BitVec 32 := Scalar.addi v1 c2_i32
  let c16_i32 : BitVec 32 := 16#32
  let v6 : BitVec 1 := Scalar.cmpi .slt v5 c16_i32
  let v7 : BitVec 32 := Scalar.extui v6
  let c0_i32_1 : BitVec 32 := 0#32
  let v8 : BitVec 1 := Scalar.cmpi .ne v7 c0_i32_1
  v8

def k0_mult3 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_28 : BitVec 32 := 2#32
  let v58 : BitVec 32 := Scalar.addi v1 c2_i32_28
  let c4_i32_30 : BitVec 32 := 4#32
  let v60 : BitVec 32 := Scalar.remsi v58 c4_i32_30
  let c1024_i32_31 : BitVec 32 := 1024#32
  let v61 : BitVec 32 := Scalar.muli v60 c1024_i32_31
  v61
def k0_off4 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_28 : BitVec 32 := 2#32
  let v58 : BitVec 32 := Scalar.addi v1 c2_i32_28
  let c3_i32_29 : BitVec 32 := 3#32
  let v59 : BitVec 32 := Scalar.remsi v58 c3_i32_29
  ![v59.toNat]
def k0_off5 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_28 : BitVec 32 := 2#32
  let v58 : BitVec 32 := Scalar.addi v1 c2_i32_28
  let c3_i32_29 : BitVec 32 := 3#32
  let v59 : BitVec 32 := Scalar.remsi v58 c3_i32_29
  let c0_i32_33 : BitVec 32 := 0#32
  let c0_i32_34 : BitVec 32 := 0#32
  ![v59.toNat, 0, 0]
def k0_off6 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_28 : BitVec 32 := 2#32
  let v58 : BitVec 32 := Scalar.addi v1 c2_i32_28
  let c4_i32_32 : BitVec 32 := 4#32
  let v63 : BitVec 32 := Scalar.divsi v58 c4_i32_32
  let c4_i32_30 : BitVec 32 := 4#32
  let v60 : BitVec 32 := Scalar.remsi v58 c4_i32_30
  let c1024_i32_31 : BitVec 32 := 1024#32
  let v61 : BitVec 32 := Scalar.muli v60 c1024_i32_31
  let v62 : BitVec 32 := v61
  let c0_i32_35 : BitVec 32 := 0#32
  ![v63.toNat, v62.toNat, 0]
def k0_mult4 (i : grid0.Coords) : BitVec 32 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_11 : BitVec 32 := 4#32
  let v21 : BitVec 32 := Scalar.remsi v1 c4_i32_11
  let c1024_i32 : BitVec 32 := 1024#32
  let v22 : BitVec 32 := Scalar.muli v21 c1024_i32
  v22
def k0_off7 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v20 : BitVec 32 := Scalar.remsi v1 c3_i32
  ![v20.toNat]
def k0_off8 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32 : BitVec 32 := 3#32
  let v20 : BitVec 32 := Scalar.remsi v1 c3_i32
  let c0_i32_13 : BitVec 32 := 0#32
  let c0_i32_14 : BitVec 32 := 0#32
  ![v20.toNat, 0, 0]
def k0_off9 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c4_i32_12 : BitVec 32 := 4#32
  let v24 : BitVec 32 := Scalar.divsi v1 c4_i32_12
  let c4_i32_11 : BitVec 32 := 4#32
  let v21 : BitVec 32 := Scalar.remsi v1 c4_i32_11
  let c1024_i32 : BitVec 32 := 1024#32
  let v22 : BitVec 32 := Scalar.muli v21 c1024_i32
  let v23 : BitVec 32 := v22
  let c0_i32_15 : BitVec 32 := 0#32
  ![v24.toNat, v23.toNat, 0]
def k0_off10 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c3_i32_16 : BitVec 32 := 3#32
  let v31 : BitVec 32 := Scalar.remsi v1 c3_i32_16
  let v32 : Index := Scalar.indexCast v31
  let c0_17 : Index := 0#32
  let c0_18 : Index := 0#32
  ![v32.toNat, 0, 0]
def k0_off11 (i : grid0.Coords) : Fin 3 → Nat :=
  let c2 : Index := 2#32
  let arg0 : BitVec 32 := BitVec.ofNat 32 (i 0).val
  let v35 : Index := Scalar.indexCast arg0
  let c0_19 : Index := 0#32
  ![2, v35.toNat, 0]
def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4x4096x1024 : Shape := ⟨3, ![4, 4096, 1024]⟩
abbrev S4x512x4096 : Shape := ⟨3, ![4, 512, 4096]⟩
abbrev S1024x1024 : Shape := ⟨2, ![1024, 1024]⟩
abbrev S3x4x1024 : Shape := ⟨3, ![3, 4, 1024]⟩
abbrev S1024 : Shape := ⟨1, ![1024]⟩
abbrev S4x1024x4096 : Shape := ⟨3, ![4, 1024, 4096]⟩
abbrev S1x4x1024 : Shape := ⟨3, ![1, 4, 1024]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x512x4096, .bf16⟩
  | .hbm, ⟨2, _⟩ => ⟨S4x512x4096, .bf16⟩
  | .hbm, ⟨3, _⟩ => ⟨S1024x1024, .f32⟩
  | .hbm, ⟨4, _⟩ => ⟨S3x4x1024, .f32⟩
  | .hbm, ⟨5, _⟩ => ⟨S1024, .f32⟩
  | .hbm, ⟨6, _⟩ => ⟨S4x1024x4096, .bf16⟩
  | .hbm, ⟨7, _⟩ => ⟨S4x4096x1024, .bf16⟩
  | .hbm, ⟨8, _⟩ => ⟨S4x4096x1024, .f32⟩
  | .hbm, ⟨9, _⟩ => ⟨S1x4x1024, .f32⟩
  | .hbm, ⟨10, _⟩ => ⟨S4x1024, .f32⟩
  | .hbm, ⟨11, _⟩ => ⟨S4x1x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S4x4096x1024 : Shape := ⟨3, ![4, 4096, 1024]⟩
abbrev S3x4x1024 : Shape := ⟨3, ![3, 4, 1024]⟩
abbrev S4x4096 : Shape := ⟨2, ![4, 4096]⟩
abbrev S1024 : Shape := ⟨1, ![1024]⟩
abbrev S1024x2744 : Shape := ⟨2, ![1024, 2744]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S32 : Shape := ⟨1, ![32]⟩
abbrev S_ : Shape := ⟨0, ![]⟩
abbrev S16 : Shape := ⟨1, ![16]⟩
abbrev S32x1 : Shape := ⟨2, ![32, 1]⟩
abbrev S16x1 : Shape := ⟨2, ![16, 1]⟩
abbrev S4x1x4096 : Shape := ⟨3, ![4, 1, 4096]⟩
abbrev S1024x512 : Shape := ⟨2, ![1024, 512]⟩
abbrev S1024x128 : Shape := ⟨2, ![1024, 128]⟩
abbrev S1024x32 : Shape := ⟨2, ![1024, 32]⟩
abbrev S1024x64 : Shape := ⟨2, ![1024, 64]⟩
abbrev S1024x2x64 : Shape := ⟨3, ![1024, 2, 64]⟩
abbrev S1024x2x128 : Shape := ⟨3, ![1024, 2, 128]⟩
abbrev S1024x256 : Shape := ⟨2, ![1024, 256]⟩
abbrev S1024x384 : Shape := ⟨2, ![1024, 384]⟩
abbrev S1024x1024 : Shape := ⟨2, ![1024, 1024]⟩
abbrev S1024x8x2x32 : Shape := ⟨4, ![1024, 8, 2, 32]⟩
abbrev S1024x2x8x32 : Shape := ⟨4, ![1024, 2, 8, 32]⟩
abbrev S1024x664 : Shape := ⟨2, ![1024, 664]⟩
abbrev S1024x1816 : Shape := ⟨2, ![1024, 1816]⟩
abbrev S1816x1024 : Shape := ⟨2, ![1816, 1024]⟩
abbrev S256x8x96 : Shape := ⟨3, ![256, 8, 96]⟩
abbrev S256x8x64 : Shape := ⟨3, ![256, 8, 64]⟩
abbrev S256x512 : Shape := ⟨2, ![256, 512]⟩
abbrev S256x8x16 : Shape := ⟨3, ![256, 8, 16]⟩
abbrev S256x128 : Shape := ⟨2, ![256, 128]⟩
abbrev S768x256 : Shape := ⟨2, ![768, 256]⟩
abbrev S128x8x128 : Shape := ⟨3, ![128, 8, 128]⟩
abbrev S128x8x64 : Shape := ⟨3, ![128, 8, 64]⟩
abbrev S8x64x128 : Shape := ⟨3, ![8, 64, 128]⟩
abbrev S512x128 : Shape := ⟨2, ![512, 128]⟩
abbrev S1x1024 : Shape := ⟨2, ![1, 1024]⟩
abbrev S1x256 : Shape := ⟨2, ![1, 256]⟩
abbrev S1x128 : Shape := ⟨2, ![1, 128]⟩
abbrev S4x512x4096 : Shape := ⟨3, ![4, 512, 4096]⟩
abbrev S4x2x4096x128 : Shape := ⟨4, ![4, 2, 4096, 128]⟩
abbrev S4x16x160x256 : Shape := ⟨4, ![4, 16, 160, 256]⟩
abbrev S4x4096x128 : Shape := ⟨3, ![4, 4096, 128]⟩
abbrev S4x24x4096 : Shape := ⟨3, ![4, 24, 4096]⟩
abbrev S4x8x128x4096 : Shape := ⟨4, ![4, 8, 128, 4096]⟩
abbrev S4x8x4096x128 : Shape := ⟨4, ![4, 8, 4096, 128]⟩
abbrev S4x16x640x256 : Shape := ⟨4, ![4, 16, 640, 256]⟩
abbrev S1x1024x1024 : Shape := ⟨3, ![1, 1024, 1024]⟩
abbrev S1x1x1024 : Shape := ⟨3, ![1, 1, 1024]⟩
abbrev S1x512x1024 : Shape := ⟨3, ![1, 512, 1024]⟩
abbrev S1x2x1024x128 : Shape := ⟨4, ![1, 2, 1024, 128]⟩
abbrev S1x4x160x256 : Shape := ⟨4, ![1, 4, 160, 256]⟩
abbrev S1x1024x128 : Shape := ⟨3, ![1, 1024, 128]⟩
abbrev S1x24x1024 : Shape := ⟨3, ![1, 24, 1024]⟩
abbrev S1x8x128x1024 : Shape := ⟨4, ![1, 8, 128, 1024]⟩
abbrev S1x8x1024x128 : Shape := ⟨4, ![1, 8, 1024, 128]⟩
abbrev S1x4x640x256 : Shape := ⟨4, ![1, 4, 640, 256]⟩
abbrev S1024x1 : Shape := ⟨2, ![1024, 1]⟩
abbrev S32x1024 : Shape := ⟨2, ![32, 1024]⟩
abbrev S16x1024 : Shape := ⟨2, ![16, 1024]⟩
abbrev S1x1x1024x128 : Shape := ⟨4, ![1, 1, 1024, 128]⟩
abbrev S512x1024 : Shape := ⟨2, ![512, 1024]⟩
abbrev S16x256 : Shape := ⟨2, ![16, 256]⟩
abbrev S64x256 : Shape := ⟨2, ![64, 256]⟩
abbrev S1x1x64x256 : Shape := ⟨4, ![1, 1, 64, 256]⟩
abbrev S1x1x16x256 : Shape := ⟨4, ![1, 1, 16, 256]⟩
abbrev S768x1024 : Shape := ⟨2, ![768, 1024]⟩
abbrev S8x16x1024 : Shape := ⟨3, ![8, 16, 1024]⟩
abbrev S1x16x1024 : Shape := ⟨3, ![1, 16, 1024]⟩
abbrev S64x1024 : Shape := ⟨2, ![64, 1024]⟩
abbrev S1x1x64x1024 : Shape := ⟨4, ![1, 1, 64, 1024]⟩
abbrev S1x1x16x1024 : Shape := ⟨4, ![1, 1, 16, 1024]⟩
abbrev S1x1x32x1024 : Shape := ⟨4, ![1, 1, 32, 1024]⟩
abbrev S256x1024 : Shape := ⟨2, ![256, 1024]⟩
abbrev S8x32x1024 : Shape := ⟨3, ![8, 32, 1024]⟩
abbrev S1x32x1024 : Shape := ⟨3, ![1, 32, 1024]⟩
abbrev S1x256x1024 : Shape := ⟨3, ![1, 256, 1024]⟩
abbrev S24x1024 : Shape := ⟨2, ![24, 1024]⟩

abbrev nBuf : Space → Nat
  | .hbm => 95
  | .vmem => 41
  | .smem => 0
  | _ => 0

abbrev bufTy : (tb : Table) → Fin (tcTables nBuf tb) → BufTy
  | .hbm, ⟨0, _⟩ => ⟨S4x4096x1024, .f32⟩
  | .hbm, ⟨1, _⟩ => ⟨S3x4x1024, .f32⟩
  | .hbm, ⟨2, _⟩ => ⟨S4x4096, .i32⟩
  | .hbm, ⟨3, _⟩ => ⟨S1024, .f32⟩
  | .hbm, ⟨4, _⟩ => ⟨S1024x2744, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x1024, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S32x1, .f32⟩
  | .hbm, ⟨26, _⟩ => ⟨S16x1, .f32⟩
  | .hbm, ⟨27, _⟩ => ⟨S4x4096, .f32⟩
  | .hbm, ⟨28, _⟩ => ⟨S4x1x4096, .f32⟩
  | .hbm, ⟨29, _⟩ => ⟨S1024x512, .f32⟩
  | .hbm, ⟨30, _⟩ => ⟨S1024x128, .f32⟩
  | .hbm, ⟨31, _⟩ => ⟨S1024x128, .f32⟩
  | .hbm, ⟨32, _⟩ => ⟨S1024x128, .f32⟩
  | .hbm, ⟨33, _⟩ => ⟨S1024x32, .f32⟩
  | .hbm, ⟨34, _⟩ => ⟨S1024x64, .f32⟩
  | .hbm, ⟨35, _⟩ => ⟨S_, .i32⟩
  | .hbm, ⟨36, _⟩ => ⟨S_, .f32⟩
  | .hbm, ⟨37, _⟩ => ⟨S1024x64, .f32⟩
  | .hbm, ⟨38, _⟩ => ⟨S1024x2x64, .f32⟩
  | .hbm, ⟨39, _⟩ => ⟨S_, .i32⟩
  | .hbm, ⟨40, _⟩ => ⟨S_, .f32⟩
  | .hbm, ⟨41, _⟩ => ⟨S1024x2x128, .f32⟩
  | .hbm, ⟨42, _⟩ => ⟨S1024x256, .f32⟩
  | .hbm, ⟨43, _⟩ => ⟨S1024x128, .f32⟩
  | .hbm, ⟨44, _⟩ => ⟨S1024x256, .f32⟩
  | .hbm, ⟨45, _⟩ => ⟨S1024x256, .f32⟩
  | .hbm, ⟨46, _⟩ => ⟨S1024x384, .f32⟩
  | .hbm, ⟨47, _⟩ => ⟨S1024x1024, .f32⟩
  | .hbm, ⟨48, _⟩ => ⟨S1024x8x2x32, .f32⟩
  | .hbm, ⟨49, _⟩ => ⟨S1024x2x8x32, .f32⟩
  | .hbm, ⟨50, _⟩ => ⟨S1024x512, .f32⟩
  | .hbm, ⟨51, _⟩ => ⟨S1024x664, .f32⟩
  | .hbm, ⟨52, _⟩ => ⟨S1024x512, .f32⟩
  | .hbm, ⟨53, _⟩ => ⟨S1024x1816, .f32⟩
  | .hbm, ⟨54, _⟩ => ⟨S1816x1024, .f32⟩
  | .hbm, ⟨55, _⟩ => ⟨S1024x1024, .f32⟩
  | .hbm, ⟨56, _⟩ => ⟨S1024x1024, .bf16⟩
  | .hbm, ⟨57, _⟩ => ⟨S1816x1024, .bf16⟩
  | .hbm, ⟨58, _⟩ => ⟨S256x8x96, .f32⟩
  | .hbm, ⟨59, _⟩ => ⟨S256x8x64, .f32⟩
  | .hbm, ⟨60, _⟩ => ⟨S256x512, .f32⟩
  | .hbm, ⟨61, _⟩ => ⟨S256x8x16, .f32⟩
  | .hbm, ⟨62, _⟩ => ⟨S256x128, .f32⟩
  | .hbm, ⟨63, _⟩ => ⟨S256x8x16, .f32⟩
  | .hbm, ⟨64, _⟩ => ⟨S256x128, .f32⟩
  | .hbm, ⟨65, _⟩ => ⟨S256x768, .f32⟩
  | .hbm, ⟨66, _⟩ => ⟨S768x256, .f32⟩
  | .hbm, ⟨67, _⟩ => ⟨S768x256, .bf16⟩
  | .hbm, ⟨68, _⟩ => ⟨S128x8x128, .f32⟩
  | .hbm, ⟨69, _⟩ => ⟨S128x8x64, .f32⟩
  | .hbm, ⟨70, _⟩ => ⟨S_, .i32⟩
  | .hbm, ⟨71, _⟩ => ⟨S_, .f32⟩
  | .hbm, ⟨72, _⟩ => ⟨S128x8x128, .f32⟩
  | .hbm, ⟨73, _⟩ => ⟨S128x1024, .f32⟩
  | .hbm, ⟨74, _⟩ => ⟨S128x1024, .bf16⟩
  | .hbm, ⟨75, _⟩ => ⟨S128x8x64, .f32⟩
  | .hbm, ⟨76, _⟩ => ⟨S8x64x128, .f32⟩
  | .hbm, ⟨77, _⟩ => ⟨S512x128, .f32⟩
  | .hbm, ⟨78, _⟩ => ⟨S512x128, .bf16⟩
  | .hbm, ⟨79, _⟩ => ⟨S1x1024, .f32⟩
  | .hbm, ⟨80, _⟩ => ⟨S1x256, .f32⟩
  | .hbm, ⟨81, _⟩ => ⟨S1x128, .f32⟩
  | .hbm, ⟨82, _⟩ => ⟨S4x512x4096, .bf16⟩
  | .hbm, ⟨83, _⟩ => ⟨S4x2x4096x128, .bf16⟩
  | .hbm, ⟨84, _⟩ => ⟨S4x2x4096x128, .bf16⟩
  | .hbm, ⟨85, _⟩ => ⟨S4x16x160x256, .bf16⟩
  | .hbm, ⟨86, _⟩ => ⟨S4x16x160x256, .bf16⟩
  | .hbm, ⟨87, _⟩ => ⟨S4x4096x128, .f32⟩
  | .hbm, ⟨88, _⟩ => ⟨S4x4096x128, .f32⟩
  | .hbm, ⟨89, _⟩ => ⟨S4x24x4096, .f32⟩
  | .hbm, ⟨90, _⟩ => ⟨S4x512x4096, .bf16⟩
  | .hbm, ⟨91, _⟩ => ⟨S4x512x4096, .bf16⟩
  | .hbm, ⟨92, _⟩ => ⟨S4x8x128x4096, .bf16⟩
  | .hbm, ⟨93, _⟩ => ⟨S4x8x4096x128, .bf16⟩
  | .hbm, ⟨94, _⟩ => ⟨S4x16x640x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S3x4x1024, .f32⟩
  | .local _ .vmem, ⟨3, _⟩ => ⟨S1x1024, .f32⟩
  | .local _ .vmem, ⟨4, _⟩ => ⟨S1024x1024, .bf16⟩
  | .local _ .vmem, ⟨5, _⟩ => ⟨S1816x1024, .bf16⟩
  | .local _ .vmem, ⟨6, _⟩ => ⟨S1x1x1024, .f32⟩
  | .local _ .vmem, ⟨7, _⟩ => ⟨S1x1x1024, .f32⟩
  | .local _ .vmem, ⟨8, _⟩ => ⟨S32x1, .f32⟩
  | .local _ .vmem, ⟨9, _⟩ => ⟨S16x1, .f32⟩
  | .local _ .vmem, ⟨10, _⟩ => ⟨S1x256, .f32⟩
  | .local _ .vmem, ⟨11, _⟩ => ⟨S1x128, .f32⟩
  | .local _ .vmem, ⟨12, _⟩ => ⟨S768x256, .bf16⟩
  | .local _ .vmem, ⟨13, _⟩ => ⟨S128x1024, .bf16⟩
  | .local _ .vmem, ⟨14, _⟩ => ⟨S512x128, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x2x1024x128, .bf16⟩
  | .local _ .vmem, ⟨18, _⟩ => ⟨S1x2x1024x128, .bf16⟩
  | .local _ .vmem, ⟨19, _⟩ => ⟨S1x2x1024x128, .bf16⟩
  | .local _ .vmem, ⟨20, _⟩ => ⟨S1x2x1024x128, .bf16⟩
  | .local _ .vmem, ⟨21, _⟩ => ⟨S1x4x160x256, .bf16⟩
  | .local _ .vmem, ⟨22, _⟩ => ⟨S1x4x160x256, .bf16⟩
  | .local _ .vmem, ⟨23, _⟩ => ⟨S1x4x160x256, .bf16⟩
  | .local _ .vmem, ⟨24, _⟩ => ⟨S1x4x160x256, .bf16⟩
  | .local _ .vmem, ⟨25, _⟩ => ⟨S1x1024x128, .f32⟩
  | .local _ .vmem, ⟨26, _⟩ => ⟨S1x1024x128, .f32⟩
  | .local _ .vmem, ⟨27, _⟩ => ⟨S1x1024x128, .f32⟩
  | .local _ .vmem, ⟨28, _⟩ => ⟨S1x1024x128, .f32⟩
  | .local _ .vmem, ⟨29, _⟩ => ⟨S1x24x1024, .f32⟩
  | .local _ .vmem, ⟨30, _⟩ => ⟨S1x24x1024, .f32⟩
  | .local _ .vmem, ⟨31, _⟩ => ⟨S1x512x1024, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x8x128x1024, .bf16⟩
  | .local _ .vmem, ⟨36, _⟩ => ⟨S1x8x128x1024, .bf16⟩
  | .local _ .vmem, ⟨37, _⟩ => ⟨S1x8x1024x128, .bf16⟩
  | .local _ .vmem, ⟨38, _⟩ => ⟨S1x8x1024x128, .bf16⟩
  | .local _ .vmem, ⟨39, _⟩ => ⟨S1x4x640x256, .bf16⟩
  | .local _ .vmem, ⟨40, _⟩ => ⟨S1x4x640x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_4 : Ref sig .tc := ⟨.hbm, 70, rfl⟩
abbrev main_call2_v0 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63_0 : Ref sig .tc := ⟨.hbm, 82, rfl⟩
abbrev main_v63_1 : Ref sig .tc := ⟨.hbm, 83, rfl⟩
abbrev main_v63_2 : Ref sig .tc := ⟨.hbm, 84, rfl⟩
abbrev main_v63_3 : Ref sig .tc := ⟨.hbm, 85, rfl⟩
abbrev main_v63_4 : Ref sig .tc := ⟨.hbm, 86, rfl⟩
abbrev main_v63_5 : Ref sig .tc := ⟨.hbm, 87, rfl⟩
abbrev main_v63_6 : Ref sig .tc := ⟨.hbm, 88, rfl⟩
abbrev main_v63_7 : Ref sig .tc := ⟨.hbm, 89, rfl⟩
abbrev main_v63_8 : Ref sig .tc := ⟨.hbm, 90, rfl⟩
abbrev main_v63_9 : Ref sig .tc := ⟨.hbm, 91, rfl⟩
abbrev main_v63_10 : Ref sig .tc := ⟨.hbm, 92, rfl⟩
abbrev main_v63_11 : Ref sig .tc := ⟨.hbm, 93, rfl⟩
abbrev main_v63_12 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let c0 : Index := 0#32
  let arg0 : BitVec 32 := BitVec.ofNat 32 (i 0).val
  let v0 : Index := Scalar.indexCast arg0
  let c0_0 : Index := 0#32
  ![0, v0.toNat, 0]
def k0_off2 (i : grid0.Coords) : Fin 3 → Nat :=
  let c1 : Index := 1#32
  let arg0 : BitVec 32 := BitVec.ofNat 32 (i 0).val
  let v3 : Index := Scalar.indexCast arg0
  let c0_1 : Index := 0#32
  ![1, v3.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_24 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S768x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x160x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x160x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x24x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x8x128x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x8x1024x128 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x4x640x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== Reference3Ideal.lean ====
abbrev S4x4096x1024 : Shape := ⟨3, ![4, 4096, 1024]⟩
abbrev S3x4x1024 : Shape := ⟨3, ![3, 4, 1024]⟩
abbrev S4x4096 : Shape := ⟨2, ![4, 4096]⟩
abbrev S1024 : Shape := ⟨1, ![1024]⟩
abbrev S1024x2744 : Shape := ⟨2, ![1024, 2744]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1x4x1024 : Shape := ⟨3, ![1, 4, 1024]⟩
abbrev S4x1024 : Shape := ⟨2, ![4, 1024]⟩
abbrev S_ : Shape := ⟨0, ![]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x2744 : Shape := ⟨3, ![4, 4096, 2744]⟩
abbrev S4x4096x512 : Shape := ⟨3, ![4, 4096, 512]⟩
abbrev S4x4096x128 : Shape := ⟨3, ![4, 4096, 128]⟩
abbrev S4x4096x24 : Shape := ⟨3, ![4, 4096, 24]⟩
abbrev S4x4096x256 : Shape := ⟨3, ![4, 4096, 256]⟩
abbrev S4x4096x32 : Shape := ⟨3, ![4, 4096, 32]⟩
abbrev S4x24x4096 : Shape := ⟨3, ![4, 24, 4096]⟩
abbrev S4x512x4096 : Shape := ⟨3, ![4, 512, 4096]⟩

abbrev nBuf : Space → Nat
  | .hbm => 83
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3x4x1024, .f32⟩
  | .hbm, ⟨2, _⟩ => ⟨S4x4096, .i32⟩
  | .hbm, ⟨3, _⟩ => ⟨S1024, .f32⟩
  | .hbm, ⟨4, _⟩ => ⟨S1024x2744, .f32⟩
  | .hbm, ⟨5, _⟩ => ⟨S256, .f32⟩
  | .hbm, ⟨6, _⟩ => ⟨S256x768, .f32⟩
  | .hbm, ⟨7, _⟩ => ⟨S128, .f32⟩
  | .hbm, ⟨8, _⟩ => ⟨S128x1024, .f32⟩
  | .hbm, ⟨9, _⟩ => ⟨S1x4x1024, .f32⟩
  | .hbm, ⟨10, _⟩ => ⟨S4x1024, .f32⟩
  | .hbm, ⟨11, _⟩ => ⟨S1x4x1024, .f32⟩
  | .hbm, ⟨12, _⟩ => ⟨S4x1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S4x1x1024, .f32⟩
  | .hbm, ⟨30, _⟩ => ⟨S_, .f32⟩
  | .hbm, ⟨31, _⟩ => ⟨S4x1x1024, .f32⟩
  | .hbm, ⟨32, _⟩ => ⟨S4x1x1024, .f32⟩
  | .hbm, ⟨33, _⟩ => ⟨S4x4096x1024, .f32⟩
  | .hbm, ⟨34, _⟩ => ⟨S4x4096x1024, .f32⟩
  | .hbm, ⟨35, _⟩ => ⟨S4x1x1024, .f32⟩
  | .hbm, ⟨36, _⟩ => ⟨S4x4096x1024, .f32⟩
  | .hbm, ⟨37, _⟩ => ⟨S4x4096x1024, .f32⟩
  | .hbm, ⟨38, _⟩ => ⟨S4x4096x2744, .f32⟩
  | .hbm, ⟨39, _⟩ => ⟨S4x4096x512, .f32⟩
  | .hbm, ⟨40, _⟩ => ⟨S4x4096x128, .f32⟩
  | .hbm, ⟨41, _⟩ => ⟨S4x4096x128, .f32⟩
  | .hbm, ⟨42, _⟩ => ⟨S4x4096x128, .f32⟩
  | .hbm, ⟨43, _⟩ => ⟨S4x4096x128, .f32⟩
  | .hbm, ⟨44, _⟩ => ⟨S4x4096x128, .f32⟩
  | .hbm, ⟨45, _⟩ => ⟨S4x4096x128, .f32⟩
  | .hbm, ⟨46, _⟩ => ⟨S4x4096x24, .f32⟩
  | .hbm, ⟨47, _⟩ => ⟨S4x4096x512, .f32⟩
  | .hbm, ⟨48, _⟩ => ⟨S4x4096x256, .f32⟩
  | .hbm, ⟨49, _⟩ => ⟨S4x4096x128, .f32⟩
  | .hbm, ⟨50, _⟩ => ⟨S4x4096x32, .f32⟩
  | .hbm, ⟨51, _⟩ => ⟨S4x4096x512, .f32⟩
  | .hbm, ⟨52, _⟩ => ⟨S4x4096x24, .f32⟩
  | .hbm, ⟨53, _⟩ => ⟨S4x4096x24, .f32⟩
  | .hbm, ⟨54, _⟩ => ⟨S_, .f32⟩
  | .hbm, ⟨55, _⟩ => ⟨S4x4096x24, .f32⟩
  | .hbm, ⟨56, _⟩ => ⟨S4x4096x24, .f32⟩
  | .hbm, ⟨57, _⟩ => ⟨S_, .f32⟩
  | .hbm, ⟨58, _⟩ => ⟨S4x4096x24, .f32⟩
  | .hbm, ⟨59, _⟩ => ⟨S4x4096x24, .f32⟩
  | .hbm, ⟨60, _⟩ => ⟨S4x24x4096, .f32⟩
  | .hbm, ⟨61, _⟩ => ⟨S4x4096x512, .f32⟩
  | .hbm, ⟨62, _⟩ => ⟨S4x4096x512, .f32⟩
  | .hbm, ⟨63, _⟩ => ⟨S_, .f32⟩
  | .hbm, ⟨64, _⟩ => ⟨S4x4096x512, .f32⟩
  | .hbm, ⟨65, _⟩ => ⟨S4x4096x512, .f32⟩
  | .hbm, ⟨66, _⟩ => ⟨S_, .f32⟩
  | .hbm, ⟨67, _⟩ => ⟨S4x4096x512, .f32⟩
  | .hbm, ⟨68, _⟩ => ⟨S4x4096x512, .f32⟩
  | .hbm, ⟨69, _⟩ => ⟨S4x4096x512, .f32⟩
  | .hbm, ⟨70, _⟩ => ⟨S4x512x4096, .f32⟩
  | .hbm, ⟨71, _⟩ => ⟨S4x512x4096, .bf16⟩
  | .hbm, ⟨72, _⟩ => ⟨S4x4096x512, .f32⟩
  | .hbm, ⟨73, _⟩ => ⟨S4x4096x512, .f32⟩
  | .hbm, ⟨74, _⟩ => ⟨S_, .f32⟩
  | .hbm, ⟨75, _⟩ => ⟨S4x4096x512, .f32⟩
  | .hbm, ⟨76, _⟩ => ⟨S4x4096x512, .f32⟩
  | .hbm, ⟨77, _⟩ => ⟨S_, .f32⟩
  | .hbm, ⟨78, _⟩ => ⟨S4x4096x512, .f32⟩
  | .hbm, ⟨79, _⟩ => ⟨S4x4096x512, .f32⟩
  | .hbm, ⟨80, _⟩ => ⟨S4x4096x512, .f32⟩
  | .hbm, ⟨81, _⟩ => ⟨S4x512x4096, .f32⟩
  | .hbm, ⟨82, _⟩ => ⟨S4x512x4096, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩

abbrev nD : Nat := 1
abbrev τ : Topo := Topo.v7x

variable {F : FTy → Type} [FloatOps F]
-- ==== Proof.Ops.lean ====
/-
  The latent attention's body, written as a composition of a few operations per head. The printed body is one long
  sequence of loads and stores; it is the sequence below, in which a step of one head (a tile of scores, an update of
  the running maximum and sum, a row of the result) is stated once for every head, tile and buffer.
-/
module

public import proofs.«01_k».proof.Proof.Gen.KernelIdeal

@[expose] public section

noncomputable section

namespace Cert.Mla

open Idealize.ShloMosaic Idealize.SL.Sem
open Cert.KernelIdeal (S1x8x128x256 S1x8x4096x128 S1x16x640x256 S1x512x256 S8x256x256 S8x1x256 S8x80x256 S256x256
  S1x1x256x128 S256x128 S8x128x256 S1x128x256 S128x256 S1x256x256 S1x1x80x256 S80x256 S1x1x256 S1x256 S256 S1x80x256
  S1x64x256 S64x256 grid0 k0_cond1 k0_cond2 k0_cond3 k0_cond4 k0_cond5 k0_t1_loop k0_t2_loop)
open Cert.KernelIdeal.Facts₀ Cert.KernelIdeal.Facts
open Cert.KernelIdeal (dot_S256x128_S128x256_S256x256_1_0_0_1_n_n dot_S80x256_S256x256_S80x256_1_0_0_1_n_n)

variable {F : FTy → Type} [FloatOps F]

/-! ## The values one step computes -/

/-- A tile of scores of one head: keys times queries. -/
def scorePay (K : Vec F S1x1x256x128 .bf16) (Q : Vec F S1x128x256 .bf16) : FVec F S1x256x256 .f32 :=
  shapeCast S1x256x256
    (matmul dot_S256x128_S128x256_S256x256_1_0_0_1_n_n none (shapeCast S256x128 K shapeCasts_S1x1x256x128_S256x128)
      (shapeCast S128x256 Q shapeCasts_S1x128x256_S128x256) (constant S256x256 .f32 0x00000000#32))
    shapeCasts_S256x256_S1x256x256

/-- A tile of scores as the update reads it, off the causal mask's diagonal tile. -/
def plain (s : Vec F S1x256x256 .f32) : FVec F S256x256 .f32 := shapeCast S256x256 s shapeCasts_S1x256x256_S256x256

/-- The causal mask of a diagonal tile: key position at most query position. -/
def keep : IVec S256x256 1 :=
  cmpi .sle (iota .tc S256x256 32 [0] iota_S256x256_d0_w32) (iota .tc S256x256 32 [1] iota_S256x256_d1_w32)

/-- A tile of scores as the update reads it on the diagonal: `mask` where the key comes after the query. -/
def masked (mask : F .f32) (s : Vec F S1x256x256 .f32) : FVec F S256x256 .f32 :=
  select keep (plain s) (broadcast S256x256 mask)

/-- The new running maximum. -/
def maxPay (s : FVec F S256x256 .f32) (m : Vec F S1x1x256 .f32) : FVec F S1x256 .f32 :=
  maximumf (shapeCast S1x256 m shapeCasts_S1x1x256_S1x256)
    (shapeCast S1x256 (multiReduction .maximumf [0] S256 s 0xFF800000#32 reduces_S256x256_S256 (.inl rfl) rfl)
      shapeCasts_S256_S1x256)

/-- The new running maximum, as stored. -/
def mPay (s : FVec F S256x256 .f32) (m : Vec F S1x1x256 .f32) : FVec F S1x1x256 .f32 :=
  shapeCast S1x1x256 (maxPay s m) shapeCasts_S1x256_S1x1x256

/-- The new accumulator (64 rows of weighted values, 16 rows of the sum of the weights). -/
def accPay (s : FVec F S256x256 .f32) (v : Vec F S1x1x80x256 .bf16) (m : Vec F S1x1x256 .f32)
    (a : Vec F S1x80x256 .f32) : FVec F S1x80x256 .f32 :=
  shapeCast S1x80x256
    (addf
      (mulf (broadcastTo S80x256 (exp2 (subf (shapeCast S1x256 m shapeCasts_S1x1x256_S1x256) (maxPay s m)))
          broadcasts_S1x256_S80x256)
        (shapeCast S80x256 a shapeCasts_S1x80x256_S80x256))
      (matmul dot_S80x256_S256x256_S80x256_1_0_0_1_n_n none (shapeCast S80x256 v shapeCasts_S1x1x80x256_S80x256)
        (truncf .bf16 (exp2 (subf s (broadcastTo S256x256 (maxPay s m) broadcasts_S1x256_S256x256))) bitsLt_bf16_f32)
        (constant S80x256 .f32 0x00000000#32)))
    shapeCasts_S80x256_S1x80x256

/-- A head's 64 rows of the result: the weighted values over the sum of the weights, times the gate. -/
def outPay (a : Vec F S1x64x256 .f32) (l : Vec F S1x1x256 .f32) (z : Vec F S1x64x256 .bf16) : FVec F S1x64x256 .bf16 :=
  shapeCast S1x64x256
    (truncf .bf16
      (mulf
        (mulf (shapeCast S64x256 a shapeCasts_S1x64x256_S64x256)
          (broadcastTo S64x256
            (divf (broadcast S1x256 (Scalar.ofBits .f32 0x3F800000#32)) (shapeCast S1x256 l shapeCasts_S1x1x256_S1x256))
            broadcasts_S1x256_S64x256))
        (extf .f32 (shapeCast S64x256 z shapeCasts_S1x64x256_S64x256) bitsLt_bf16_f32))
      bitsLt_bf16_f32)
    shapeCasts_S64x256_S1x64x256

/-! ## Where one step reads and writes -/

/-- Head `h`'s keys of the tile beginning at position `n`. -/
def kOff (n : ℕ) (h : Fin 8) : Fin 4 → ℕ := ![0, h.val, n, 0]
/-- Head `h`'s values of tile `j`. -/
def vOff (j : ℕ) (h : Fin 8) : Fin 4 → ℕ := ![0, j, 80 * h.val, 0]
/-- Head `h`'s slab of a three-axis buffer, from row `r`. -/
def hOff (h : Fin 8) (r : ℕ) : Fin 3 → ℕ := ![h.val, r, 0]
/-- Head `h`'s 64 rows of the gate and of the result. -/
def oOff (h : Fin 8) : Fin 3 → ℕ := ![0, 64 * h.val, 0]

theorem kOff_inb {n : ℕ} (hn : n + 256 ≤ 4096) (h : Fin 8) (a : Fin 4) :
    kOff n h a + S1x1x256x128.size a ≤ S1x8x4096x128.size a := by
  have := h.isLt
  fin_cases a <;> simp [kOff, S1x1x256x128, S1x8x4096x128] <;> omega

theorem vOff_inb {j : ℕ} (hj : j + 1 ≤ 16) (h : Fin 8) (a : Fin 4) :
    vOff j h a + S1x1x80x256.size a ≤ S1x16x640x256.size a := by
  have := h.isLt
  fin_cases a <;> simp [vOff, S1x1x80x256, S1x16x640x256] <;> omega

theorem hOff_inb {r n R C : ℕ} (hr : r + n ≤ R) (h : Fin 8) (a : Fin 3) :
    hOff h r a + (⟨3, ![1, n, C]⟩ : Shape).size a ≤ (⟨3, ![8, R, C]⟩ : Shape).size a := by
  have := h.isLt
  fin_cases a <;> simp [hOff] <;> omega

theorem oOff_inb (h : Fin 8) (a : Fin 3) : oOff h a + S1x64x256.size a ≤ S1x512x256.size a := by
  have := h.isLt
  fin_cases a <;> simp [oOff, S1x64x256, S1x512x256] <;> omega

/-- Head `h`'s slab of the scores. -/
abbrev sRect (h : Fin 8) : Rect S8x256x256 := Rect.unit (hOff h 0) S1x256x256.size (hOff_inb (by omega) h)
/-- Head `h`'s slab of the queries. -/
abbrev qRect (h : Fin 8) : Rect S8x128x256 := Rect.unit (hOff h 0) S1x128x256.size (hOff_inb (by omega) h)
/-- Head `h`'s row of the running maxima. -/
abbrev mRect (h : Fin 8) : Rect S8x1x256 := Rect.unit (hOff h 0) S1x1x256.size (hOff_inb (by omega) h)
/-- Head `h`'s slab of the accumulator. -/
abbrev aRect (h : Fin 8) : Rect S8x80x256 := Rect.unit (hOff h 0) S1x80x256.size (hOff_inb (by omega) h)
/-- Head `h`'s weighted values in the accumulator. -/
abbrev wRect (h : Fin 8) : Rect S8x80x256 := Rect.unit (hOff h 0) S1x64x256.size (hOff_inb (by omega) h)
/-- Head `h`'s sum of weights in the accumulator. -/
abbrev lRect (h : Fin 8) : Rect S8x80x256 := Rect.unit (hOff h 64) S1x1x256.size (hOff_inb (by omega) h)
/-- Head `h`'s keys of a tile. -/
abbrev kRect {n : ℕ} (hn : n + 256 ≤ 4096) (h : Fin 8) : Rect S1x8x4096x128 :=
  Rect.unit (kOff n h) S1x1x256x128.size (kOff_inb hn h)
/-- Head `h`'s values of a tile. -/
abbrev vRect {j : ℕ} (hj : j + 1 ≤ 16) (h : Fin 8) : Rect S1x16x640x256 :=
  Rect.unit (vOff j h) S1x1x80x256.size (vOff_inb hj h)
/-- Head `h`'s rows of the gate and of the result. -/
abbrev oRect (h : Fin 8) : Rect S1x512x256 := Rect.unit (oOff h) S1x64x256.size (oOff_inb h)

/-! ## The steps -/

variable {nD : ℕ} {τ : Topo} {sig : RefSig} {Λ : Labels}

/-- The queries' block without its leading axis of one. -/
abbrev sq (q : Memref sig .tc .vmem S1x8x128x256 .bf16) : Memref sig .tc .vmem S8x128x256 .bf16 :=
  (q.slice (Rect.unit (s := S1x8x128x256) ![0, 0, 0, 0] S1x8x128x256.size inb_S1x8x128x256_S1x8x128x256_0_0_0_0)
    (fun _ => rfl)).squeeze S8x128x256 squeezes_S1x8x128x256_S8x128x256

/-- Head `h`'s scores of the tile at `n`, stored into `dst`. -/
def score (q : Memref sig .tc .vmem S1x8x128x256 .bf16) (arg4 : Memref sig .tc .vmem S1x8x4096x128 .bf16)
    (dst : Memref sig .tc .vmem S8x256x256 .f32) {n : ℕ} (hn : n + 256 ≤ 4096) (h : Fin 8) :
    Prog (TpuEff nD τ sig (Elt F) Λ .tc) PUnit := do
  let k : Vec F S1x1x256x128 .bf16 ← Prog.lift (.load arg4 (kRect hn h).toLoadRect (View.loadsAt_vmem h_S1x1x256x128))
  let v : Vec F S1x128x256 .bf16 ← Prog.lift (.load (sq q) (qRect h).toLoadRect (View.loadsAt_vmem h_S1x128x256))
  let _o : Vec F S1x256x256 .f32 ← Prog.lift (.load dst (sRect h).toLoadRect (View.loadsAt_vmem h_S1x256x256))
  Prog.lift (.store dst (sRect h) (scorePay k v) Finset.univ (View.stores_vmem_bits_univ h_S1x256x256 rfl) (.inl rfl))

/-- Head `h`'s update of its running maximum and accumulator by the scores in `src` (read through `g`) and the values
    of tile `j`. -/
def chain (g : Vec F S1x256x256 .f32 → FVec F S256x256 .f32) (src : Memref sig .tc .vmem S8x256x256 .f32)
    (arg5 : Memref sig .tc .vmem S1x16x640x256 .bf16) (arg10 : Memref sig .tc .vmem S8x1x256 .f32)
    (arg11 : Memref sig .tc .vmem S8x80x256 .f32) {j : ℕ} (hj : j + 1 ≤ 16) (h : Fin 8) :
    Prog (TpuEff nD τ sig (Elt F) Λ .tc) PUnit := do
  let s : Vec F S1x256x256 .f32 ← Prog.lift (.load src (sRect h).toLoadRect (View.loadsAt_vmem h_S1x256x256))
  let v : Vec F S1x1x80x256 .bf16 ← Prog.lift (.load arg5 (vRect hj h).toLoadRect (View.loadsAt_vmem h_S1x1x80x256))
  let m : Vec F S1x1x256 .f32 ← Prog.lift (.load arg10 (mRect h).toLoadRect (View.loadsAt_vmem h_S1x1x256))
  let a : Vec F S1x80x256 .f32 ← Prog.lift (.load arg11 (aRect h).toLoadRect (View.loadsAt_vmem h_S1x80x256))
  let _a : Vec F S1x80x256 .f32 ← Prog.lift (.load arg11 (aRect h).toLoadRect (View.loadsAt_vmem h_S1x80x256))
  Prog.lift (.store arg11 (aRect h) (accPay (g s) v m a) Finset.univ (View.stores_vmem_bits_univ h_S1x80x256 rfl) (.inl rfl))
  let _m : Vec F S1x1x256 .f32 ← Prog.lift (.load arg10 (mRect h).toLoadRect (View.loadsAt_vmem h_S1x1x256))
  Prog.lift (.store arg10 (mRect h) (mPay (g s) m) Finset.univ (View.stores_vmem_bits_univ h_S1x1x256 rfl) (.inl rfl))

/-- Head `h`'s rows of the result. -/
def outRow (arg6 arg7 : Memref sig .tc .vmem S1x512x256 .bf16) (arg11 : Memref sig .tc .vmem S8x80x256 .f32) (h : Fin 8)
    (hx : (arg7.access (oRect h)).Stores Finset.univ) :
    Prog (TpuEff nD τ sig (Elt F) Λ .tc) PUnit := do
  let a : Vec F S1x64x256 .f32 ← Prog.lift (.load arg11 (wRect h).toLoadRect (View.loadsAt_vmem h_S1x64x256))
  let l : Vec F S1x1x256 .f32 ← Prog.lift (.load arg11 (lRect h).toLoadRect (View.loadsAt_vmem h_S1x1x256))
  let z : Vec F S1x64x256 .bf16 ← Prog.lift (.load arg6 (oRect h).toLoadRect (View.loadsAt_vmem h_S1x64x256))
  let _o : Vec F S1x64x256 .bf16 ← Prog.lift (.load arg7 (oRect h).toLoadRect (View.loadsAt_vmem h_S1x64x256))
  Prog.lift (.store arg7 (oRect h) (outPay a l z) Finset.univ hx (.inl rfl))

/-! ## The phases -/

section Phases

variable (arg2 arg3 : Memref sig .tc .vmem S1x8x128x256 .bf16) (arg4 : Memref sig .tc .vmem S1x8x4096x128 .bf16)
  (arg5 : Memref sig .tc .vmem S1x16x640x256 .bf16) (arg6 arg7 : Memref sig .tc .vmem S1x512x256 .bf16)
  (arg8 arg9 : Memref sig .tc .vmem S8x256x256 .f32) (arg10 : Memref sig .tc .vmem S8x1x256 .f32)
  (arg11 : Memref sig .tc .vmem S8x80x256 .f32)

/-- All heads' scores of the first tile. -/
def prologue : Prog (TpuEff nD τ sig (Elt F) Λ .tc) PUnit := do
  score arg2 arg4 arg8 (n := 0) (by omega) 0
  score arg2 arg4 arg8 (n := 0) (by omega) 1
  score arg2 arg4 arg8 (n := 0) (by omega) 2
  score arg2 arg4 arg8 (n := 0) (by omega) 3
  score arg2 arg4 arg8 (n := 0) (by omega) 4
  score arg2 arg4 arg8 (n := 0) (by omega) 5
  score arg2 arg4 arg8 (n := 0) (by omega) 6
  score arg2 arg4 arg8 (n := 0) (by omega) 7

/-- One tile of all heads: the updates by tile `j`, whose scores are in `src`, with the scores of the tile at `n`
    computed two heads ahead into `dst`. -/
def phase (src dst : Memref sig .tc .vmem S8x256x256 .f32) {n j : ℕ} (hn : n + 256 ≤ 4096) (hj : j + 1 ≤ 16) :
    Prog (TpuEff nD τ sig (Elt F) Λ .tc) PUnit := do
  score arg2 arg4 dst hn 0
  score arg2 arg4 dst hn 1
  score arg2 arg4 dst hn 2
  chain plain src arg5 arg10 arg11 hj 0
  score arg2 arg4 dst hn 3
  chain plain src arg5 arg10 arg11 hj 1
  score arg2 arg4 dst hn 4
  chain plain src arg5 arg10 arg11 hj 2
  score arg2 arg4 dst hn 5
  chain plain src arg5 arg10 arg11 hj 3
  score arg2 arg4 dst hn 6
  chain plain src arg5 arg10 arg11 hj 4
  score arg2 arg4 dst hn 7
  chain plain src arg5 arg10 arg11 hj 5
  chain plain src arg5 arg10 arg11 hj 6
  chain plain src arg5 arg10 arg11 hj 7

/-- The diagonal tile of all heads, each head's scores of the next block's first tile computed after its update. -/
def lastPhase (mask : F .f32) (src : Memref sig .tc .vmem S8x256x256 .f32) {j : ℕ} (hj : j + 1 ≤ 16) :
    Prog (TpuEff nD τ sig (Elt F) Λ .tc) PUnit := do
  chain (masked mask) src arg5 arg10 arg11 hj 0
  score arg3 arg4 arg8 (n := 0) (by omega) 0
  chain (masked mask) src arg5 arg10 arg11 hj 1
  score arg3 arg4 arg8 (n := 0) (by omega) 1
  chain (masked mask) src arg5 arg10 arg11 hj 2
  score arg3 arg4 arg8 (n := 0) (by omega) 2
  chain (masked mask) src arg5 arg10 arg11 hj 3
  score arg3 arg4 arg8 (n := 0) (by omega) 3
  chain (masked mask) src arg5 arg10 arg11 hj 4
  score arg3 arg4 arg8 (n := 0) (by omega) 4
  chain (masked mask) src arg5 arg10 arg11 hj 5
  score arg3 arg4 arg8 (n := 0) (by omega) 5
  chain (masked mask) src arg5 arg10 arg11 hj 6
  score arg3 arg4 arg8 (n := 0) (by omega) 6
  chain (masked mask) src arg5 arg10 arg11 hj 7
  score arg3 arg4 arg8 (n := 0) (by omega) 7

/-- The word of a tile's first position. -/
abbrev nWord (j : BitVec 32) : ℕ := (Scalar.indexCast (Scalar.muli j 256#32) : Index).toNat
/-- A tile's word as an index. -/
abbrev jWord (j : BitVec 32) : ℕ := (Scalar.indexCast j : Index).toNat

/-- The tiles `j0`, `j0 + 1`, … of a run, the word of the tile `u` places after `j0` and of the one after that. -/
abbrev cur (j0 u : BitVec 32) : BitVec 32 := Scalar.addi j0 u
abbrev nxt (j0 u : BitVec 32) : BitVec 32 := Scalar.addi (Scalar.addi j0 u) 1#32

/-- Four tiles, the scores alternating between the two buffers. -/
def trip (j0 : BitVec 32)
    (hn : ∀ u : Fin 4, nWord (nxt j0 (BitVec.ofNat 32 u.val)) + 256 ≤ 4096)
    (hj : ∀ u : Fin 4, jWord (cur j0 (BitVec.ofNat 32 u.val)) + 1 ≤ 16) :
    Prog (TpuEff nD τ sig (Elt F) Λ .tc) PUnit := do
  phase arg2 arg4 arg5 arg10 arg11 arg8 arg9 (hn 0) (hj 0)
  phase arg2 arg4 arg5 arg10 arg11 arg9 arg8 (hn 1) (hj 1)
  phase arg2 arg4 arg5 arg10 arg11 arg8 arg9 (hn 2) (hj 2)
  phase arg2 arg4 arg5 arg10 arg11 arg9 arg8 (hn 3) (hj 3)

/-- The running maxima at `mask` and the accumulators at zero. -/
def start (mask : F .f32) : Prog (TpuEff nD τ sig (Elt F) Λ .tc) PUnit := do
  let _m : Vec F S8x1x256 .f32 ← Prog.lift (.load arg10 (Rect.unit (s := S8x1x256) ![0, 0, 0] S8x1x256.size
    inb_S8x1x256_S8x1x256_0_0_0).toLoadRect (View.loadsAt_vmem h_S8x1x256))
  Prog.lift (.store arg10 (Rect.unit (s := S8x1x256) ![0, 0, 0] S8x1x256.size inb_S8x1x256_S8x1x256_0_0_0)
    (shapeCast S8x1x256 (broadcast S8x1x256 mask) shapeCasts_S8x1x256_S8x1x256) Finset.univ
    (View.stores_vmem_bits_univ h_S8x1x256 rfl) (.inl rfl))
  let _a : Vec F S8x80x256 .f32 ← Prog.lift (.load arg11 (Rect.unit (s := S8x80x256) ![0, 0, 0] S8x80x256.size
    inb_S8x80x256_S8x80x256_0_0_0).toLoadRect (View.loadsAt_vmem h_S8x80x256))
  Prog.lift (.store arg11 (Rect.unit (s := S8x80x256) ![0, 0, 0] S8x80x256.size inb_S8x80x256_S8x80x256_0_0_0)
    (shapeCast S8x80x256 (broadcast S8x80x256 (Scalar.ofBits .f32 0x00000000#32)) shapeCasts_S8x80x256_S8x80x256)
    Finset.univ (View.stores_vmem_bits_univ h_S8x80x256 rfl) (.inl rfl))

/-- All heads' rows of the result. -/
def outAll (hx : ∀ h, (arg7.access (oRect h)).Stores Finset.univ) :
    Prog (TpuEff nD τ sig (Elt F) Λ .tc) PUnit := do
  outRow arg6 arg7 arg11 0 (hx 0)
  outRow arg6 arg7 arg11 1 (hx 1)
  outRow arg6 arg7 arg11 2 (hx 2)
  outRow arg6 arg7 arg11 3 (hx 3)
  outRow arg6 arg7 arg11 4 (hx 4)
  outRow arg6 arg7 arg11 5 (hx 5)
  outRow arg6 arg7 arg11 6 (hx 6)
  outRow arg6 arg7 arg11 7 (hx 7)

/-- The word of the query block. -/
abbrev qw (i : grid0.Coords) : BitVec 32 := BitVec.ofNat 32 (i 1).val

/-- The start of the block of queries `i`: the maxima and sums, and at the first block the first tile's scores; then `K`. -/
def opening (mask : F .f32) (i : grid0.Coords) {α : Type} (K : Prog (TpuEff nD τ sig (Elt F) Λ .tc) α) :
    Prog (TpuEff nD τ sig (Elt F) Λ .tc) α := do
  start arg10 arg11 mask
  if _h1 : k0_cond1 i = 1#1 then prologue arg2 arg4 arg8 else pure ⟨⟩
  K

/-- The block's sweep: the tiles before the diagonal by fours, those left over, and the diagonal tile; then `K`. -/
def sweep (mask : F .f32) (i : grid0.Coords) {α : Type} (K : Prog (TpuEff nD τ sig (Elt F) Λ .tc) α) :
    Prog (TpuEff nD τ sig (Elt F) Λ .tc) α := do
  Scf.Loop.for (k0_t1_loop i) (k0_t1_ok i) PUnit.unit fun k _ =>
    trip arg2 arg4 arg5 arg8 arg9 arg10 arg11 (Scalar.muli 4#32 (Scf.iv (k0_t1_loop i).lb 1#32 k))
      (fun u => k0_off1_inb i k u 2) (fun u => k0_off4_inb i k u 1)
  Scf.Loop.for (k0_t2_loop i) (k0_t2_ok i) PUnit.unit fun k _ =>
    trip arg2 arg4 arg5 arg8 arg9 arg10 arg11 (Scalar.muli 4#32 (Scf.iv (k0_t2_loop i).lb 1#32 k))
      (fun u => k0_off17_inb i k u 2) (fun u => k0_off20_inb i k u 1)
  if h2 : k0_cond2 i = 1#1 then
    lastPhase arg3 arg4 arg5 arg8 arg10 arg11 mask arg8 (j := jWord (qw i)) (k0_off33_inb i h2 1)
  else pure ⟨⟩
  if h3 : k0_cond3 i = 1#1 then do
    phase arg2 arg4 arg5 arg10 arg11 arg8 arg9 (n := nWord (nxt (Scalar.subi (qw i) 1#32) 0#32))
      (j := jWord (cur (Scalar.subi (qw i) 1#32) 0#32)) (k0_off41_inb i h3 2) (k0_off44_inb i h3 1)
    lastPhase arg3 arg4 arg5 arg8 arg10 arg11 mask arg9 (j := jWord (qw i)) (k0_off57_inb i h3 1)
  else pure ⟨⟩
  if h4 : k0_cond4 i = 1#1 then do
    phase arg2 arg4 arg5 arg10 arg11 arg8 arg9 (n := nWord (nxt (Scalar.subi (qw i) 2#32) 0#32))
      (j := jWord (cur (Scalar.subi (qw i) 2#32) 0#32)) (k0_off65_inb i h4 0 2) (k0_off68_inb i h4 0 1)
    phase arg2 arg4 arg5 arg10 arg11 arg9 arg8 (n := nWord (nxt (Scalar.subi (qw i) 2#32) 1#32))
      (j := jWord (cur (Scalar.subi (qw i) 2#32) 1#32)) (k0_off65_inb i h4 1 2) (k0_off68_inb i h4 1 1)
    lastPhase arg3 arg4 arg5 arg8 arg10 arg11 mask arg8 (j := jWord (qw i)) (k0_off81_inb i h4 1)
  else pure ⟨⟩
  if h5 : k0_cond5 i = 1#1 then do
    phase arg2 arg4 arg5 arg10 arg11 arg8 arg9 (n := nWord (nxt (Scalar.subi (qw i) 3#32) 0#32))
      (j := jWord (cur (Scalar.subi (qw i) 3#32) 0#32)) (k0_off89_inb i h5 0 2) (k0_off92_inb i h5 0 1)
    phase arg2 arg4 arg5 arg10 arg11 arg9 arg8 (n := nWord (nxt (Scalar.subi (qw i) 3#32) 1#32))
      (j := jWord (cur (Scalar.subi (qw i) 3#32) 1#32)) (k0_off89_inb i h5 1 2) (k0_off92_inb i h5 1 1)
    phase arg2 arg4 arg5 arg10 arg11 arg8 arg9 (n := nWord (nxt (Scalar.subi (qw i) 3#32) 2#32))
      (j := jWord (cur (Scalar.subi (qw i) 3#32) 2#32)) (k0_off89_inb i h5 2 2) (k0_off92_inb i h5 2 1)
    lastPhase arg3 arg4 arg5 arg8 arg10 arg11 mask arg9 (j := jWord (qw i)) (k0_off105_inb i h5 1)
  else pure ⟨⟩
  K

/-- The block of queries `i`'s whole step. -/
def body (mask : F .f32) (hx : ∀ h, (arg7.access (oRect h)).Stores Finset.univ) (i : grid0.Coords) :
    Prog (TpuEff nD τ sig (Elt F) Λ .tc) PUnit :=
  opening arg2 arg4 arg8 arg10 arg11 mask i
    (sweep arg2 arg3 arg4 arg5 arg8 arg9 arg10 arg11 mask i (outAll arg6 arg7 arg11 hx))

omit arg2 arg3 arg4 arg5 arg6 arg7 arg8 arg9 arg10 arg11 in
/-- What follows a branch may be put inside both of its sides. -/
theorem dite_bind {E : Type → Type} {α β : Type} {c : Prop} [Decidable c] (t : c → Prog E α) (e : ¬ c → Prog E α)
    (f : α → Prog E β) : (dite c t e >>= f) = dite c (fun h => t h >>= f) (fun h => e h >>= f) := by
  split <;> rfl

/-- What follows the opening may be put inside it. -/
theorem opening_bind (mask : F .f32) (i : grid0.Coords) {α β : Type} (K : Prog (TpuEff nD τ sig (Elt F) Λ .tc) α)
    (f : α → Prog (TpuEff nD τ sig (Elt F) Λ .tc) β) :
    (opening arg2 arg4 arg8 arg10 arg11 mask i K >>= f) = opening arg2 arg4 arg8 arg10 arg11 mask i (K >>= f) := by
  simp only [opening, dite_bind, bind_assoc]

/-- What follows the sweep may be put inside it. -/
theorem sweep_bind (mask : F .f32) (i : grid0.Coords) {α β : Type} (K : Prog (TpuEff nD τ sig (Elt F) Λ .tc) α)
    (f : α → Prog (TpuEff nD τ sig (Elt F) Λ .tc) β) :
    (sweep arg2 arg3 arg4 arg5 arg8 arg9 arg10 arg11 mask i K >>= f) =
      sweep arg2 arg3 arg4 arg5 arg8 arg9 arg10 arg11 mask i (K >>= f) := by
  simp only [sweep, dite_bind, bind_assoc]

omit arg2 arg3 arg4 arg5 arg6 arg7 arg8 arg9 arg10 arg11 in
/-- Exactly one of the four ways to end the sweep is taken: the one of the block's number mod 4. -/
theorem cond_cases (i : grid0.Coords) :
    ((i 1).val % 4 = 0 ∧ k0_cond2 i = 1#1 ∧ ¬ k0_cond3 i = 1#1 ∧ ¬ k0_cond4 i = 1#1 ∧ ¬ k0_cond5 i = 1#1) ∨
    ((i 1).val % 4 = 1 ∧ ¬ k0_cond2 i = 1#1 ∧ k0_cond3 i = 1#1 ∧ ¬ k0_cond4 i = 1#1 ∧ ¬ k0_cond5 i = 1#1) ∨
    ((i 1).val % 4 = 2 ∧ ¬ k0_cond2 i = 1#1 ∧ ¬ k0_cond3 i = 1#1 ∧ k0_cond4 i = 1#1 ∧ ¬ k0_cond5 i = 1#1) ∨
    ((i 1).val % 4 = 3 ∧ ¬ k0_cond2 i = 1#1 ∧ ¬ k0_cond3 i = 1#1 ∧ ¬ k0_cond4 i = 1#1 ∧ k0_cond5 i = 1#1) := by
  unfold k0_cond2 k0_cond3 k0_cond4 k0_cond5
  generalize i 1 = a
  revert a
  change ∀ a : Fin 16, _
  decide

/-- A store of a head's rows of the result goes to whole packed words. -/
theorem out_stores (harg7 : arg7.IsWhole) (h : Fin 8) : (arg7.access (oRect h)).Stores Finset.univ := by
  refine View.stores_vmem h_S1x64x256 (harg7.storeExact_slice rfl _ ?_) (fun _ => rfl)
  fin_cases h
  · exact packedbf16_S1x512x256_S1x64x256_0_0_0
  · exact packedbf16_S1x512x256_S1x64x256_0_64_0
  · exact packedbf16_S1x512x256_S1x64x256_0_128_0
  · exact packedbf16_S1x512x256_S1x64x256_0_192_0
  · exact packedbf16_S1x512x256_S1x64x256_0_256_0
  · exact packedbf16_S1x512x256_S1x64x256_0_320_0
  · exact packedbf16_S1x512x256_S1x64x256_0_384_0
  · exact packedbf16_S1x512x256_S1x64x256_0_448_0

end Phases

end Cert.Mla

end
-- ==== Proof.Steps.lean ====
/-
  A load and a store of a memref held at stated contents: what is read is the contents at the rectangle, and a store
  leaves any contents that are the payload on the rectangle and the old ones off it.
-/
module

public import proofs.«01_k».proof.Proof.Ops
public import Idealize.ShloMosaic.Lib.Memref
public import Idealize.ShloMosaic.Lib.Tactic

@[expose] public section

noncomputable section

namespace Cert.Mla

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : ℕ} {τ : Topo} {sig : RefSig} {Ix : Type} [DecidableEq Ix] {Val : EltTy → Type} {Name : Type}
  [DecidableEq Name] {U : Type} [URA U] {Lvl : Type} {Λ : Labels} [Preorder Lvl] {defs : Defs nD τ sig Val Λ}
  (𝒱 : Variants) (c : Thread nD τ) (bd : Option 𝒱.V) (E : Set Name)

local notation "𝕄" => MT nD τ sig Ix Val Name U Lvl

variable {s : Shape} {e : EltTy}

/-- A load through a rectangle reads the contents there. -/
theorem load_owns {cs : CoreSpace} {m : Memref sig c.2.kind cs s e} {r : Rect s} {hl : m.view.LoadsAt r.toLoadRect}
    {q : PosShare TreeShare} {X : s.Idx → Val e} {Q : (r.shape.Idx → Val e) → sProp 𝕄} :
    owns c m q X ⊢ iprop((owns c m q X -∗ Q (fun x => X (r.emb x)))
      -∗ wp frame (wpE defs 𝒱 c bd) E (Prog.lift (.load m r.toLoadRect hl)) Q) := by
  unfold owns
  iintro ⟨%f, %hf, H⟩ HK
  iapply (wp_load 𝒱 c bd E (k := Prog.ret) (hl := hl) (S := m.view.set) (m.view.setOn_subset_set _)) $$ H
  iintro H
  subst hf
  have hv : View.readAt Val m.view r.toLoadRect f = fun x => m.view.read Val f (r.emb x) := rfl
  rw [hv]
  iapply (le_wp_ret _ _ _ _ Q)
  iapply HK
  iexists f
  isplitr
  · ipureintro; rfl
  iexact H

/-- A load through a rectangle of the memref without its leading axis of one. -/
theorem load_owns_squeeze {cs : CoreSpace} {m : Memref sig c.2.kind cs s e} {r₀ : Rect s} {h₀ : ∀ a, r₀.stride a = 1}
    {s' : Shape} {hs : r₀.shape.Squeezes s'} {r : Rect s'} {hl : ((m.slice r₀ h₀).squeeze s' hs).view.LoadsAt r.toLoadRect}
    {q : PosShare TreeShare} {X : s.Idx → Val e} {Q : (r.shape.Idx → Val e) → sProp 𝕄} :
    owns c m q X ⊢ iprop((owns c m q X -∗ Q (fun x => X (r₀.emb (Shape.reshapeEquiv hs.numel_eq (r.emb x)))))
      -∗ wp frame (wpE defs 𝒱 c bd) E (Prog.lift (.load ((m.slice r₀ h₀).squeeze s' hs) r.toLoadRect hl)) Q) := by
  unfold owns
  iintro ⟨%f, %hf, H⟩ HK
  have hS : ((m.slice r₀ h₀).squeeze s' hs).view.setOn r.toLoadRect.set ⊆ m.view.set := by
    refine (View.setOn_subset_set _ _).trans ?_
    show ((m.view.slice r₀).reshape s' _).set ⊆ _
    rw [View.set_reshape]
    exact m.view.set_slice_subset r₀
  iapply (wp_load 𝒱 c bd E (k := Prog.ret) (m := (m.slice r₀ h₀).squeeze s' hs) (hl := hl) hS) $$ H
  iintro H
  subst hf
  have hv : View.readAt Val ((m.slice r₀ h₀).squeeze s' hs).view r.toLoadRect f =
      fun x => m.view.read Val f (r₀.emb (Shape.reshapeEquiv hs.numel_eq (r.emb x))) := rfl
  rw [hv]
  iapply (le_wp_ret _ _ _ _ Q)
  iapply HK
  iexists f
  isplitr
  · ipureintro; rfl
  iexact H

/-- An unmasked store through a rectangle. -/
theorem store_owns {cs : CoreSpace} {m : Memref sig c.2.kind cs s e} {r : Rect s} {w : r.shape.Idx → Val e}
    {hx : (m.access r).Stores Finset.univ} {hm : Finset.univ = Finset.univ ∨ ∀ a, r.stride a = 1}
    {X : s.Idx → Val e} (X' : s.Idx → Val e) {Q : PUnit → sProp 𝕄} (hin : ∀ x, X' (r.emb x) = w x)
    (hout : ∀ y, y ∉ r.set → X' y = X y) :
    owns c m fullShare X ⊢ iprop((owns c m fullShare X' -∗ Q ⟨⟩)
      -∗ wp frame (wpE defs 𝒱 c bd) E (Prog.lift (.store m r w Finset.univ hx hm)) Q) := by
  unfold owns
  iintro ⟨%f, %hf, H⟩ HK
  iapply (wp_store 𝒱 c bd E (k := Prog.ret) (hx := hx) (hm := hm) (w := w) (m.setOn_access_subset r Finset.univ)) $$ H
  iintro H
  subst hf
  iapply (le_wp_ret _ _ _ _ Q)
  iapply HK
  iexists _
  isplitr
  swap
  · iexact H
  ipureintro
  funext y
  by_cases hy : y ∈ r.set
  · obtain ⟨x, rfl⟩ := r.exists_idx_of_mem hy
    exact (View.read_writes_cons_emb m.view f r w [] x).trans (hin x).symm
  · rw [hout y hy]
    exact View.read_writes_cons_miss m.view f ⟨r, w⟩ [] y hy

end Cert.Mla

end
-- ==== Proof.Model.lean ====
/-
  What each step of the sweep leaves, as a function of what the buffers held: the scratch buffers are held head by head.
-/
module

public import proofs.«01_k».proof.Proof.Steps

@[expose] public section

noncomputable section

namespace Cert.Mla

open Idealize.ShloMosaic
open Idealize.SL Idealize.SL.RA Idealize.SL.Sem Idealize.SL.ProofMode
open Idealize.SL.BI (sProp)
open scoped Idealize.SL.BI
open Idealize.SL.BI.BIBase Idealize.SL.BI.Laws
open Cert.KernelIdeal (S1x8x128x256 S1x8x4096x128 S1x16x640x256 S1x512x256 S8x256x256 S8x1x256 S8x80x256 S256x256
  S1x1x256x128 S256x128 S8x128x256 S1x128x256 S128x256 S1x256x256 S1x1x80x256 S80x256 S1x1x256 S1x256 S256 S1x80x256
  S1x64x256 S64x256 grid0)
open Cert.KernelIdeal.Facts₀ Cert.KernelIdeal.Facts

/-! ## Buffers held head by head -/

section Join

variable {R C : ℕ} {α : Type}

/-- An index of a head's slab, from its row and column. -/
def at3 (a : Fin R) (b : Fin C) : (⟨3, ![1, R, C]⟩ : Shape).Idx :=
  fun k => match k with
    | 0 => ⟨0, Nat.one_pos⟩
    | 1 => a
    | 2 => b

/-- The buffer whose head `h` holds `g h`. -/
def join (g : Fin 8 → (⟨3, ![1, R, C]⟩ : Shape).Idx → α) : (⟨3, ![8, R, C]⟩ : Shape).Idx → α :=
  fun y => g (y 0) (at3 (y 1) (y 2))

/-- Every buffer is held head by head. -/
theorem exists_join (X : (⟨3, ![8, R, C]⟩ : Shape).Idx → α) : ∃ g, X = join g := by
  refine ⟨fun h x => X (fun k => match k with | 0 => h | 1 => x 1 | 2 => x 2), ?_⟩
  funext y
  refine congrArg X (funext fun k => ?_)
  match k with
  | 0 => rfl
  | 1 => rfl
  | 2 => rfl

variable {r n : ℕ} (h : Fin 8) (hb : ∀ a, hOff h r a + (⟨3, ![1, n, C]⟩ : Shape).size a ≤ (⟨3, ![8, R, C]⟩ : Shape).size a)

/-- Row `r + i` of head `h`, read through the rectangle of its `n` rows from `r`. -/
theorem join_emb (g : Fin 8 → (⟨3, ![1, R, C]⟩ : Shape).Idx → α) (x : (⟨3, ![1, n, C]⟩ : Shape).Idx) :
    join g ((Rect.unit (s := ⟨3, ![8, R, C]⟩) (hOff h r) (⟨3, ![1, n, C]⟩ : Shape).size hb).emb x) =
      g h (at3 ⟨r + (x 1).val, lt_of_lt_of_le (Nat.add_lt_add_left (x 1).isLt r) (hb 1)⟩ (x 2)) := by
  have e0 : ((Rect.unit (s := ⟨3, ![8, R, C]⟩) (hOff h r) (⟨3, ![1, n, C]⟩ : Shape).size hb).emb x) 0 = h := by
    refine Fin.ext ?_
    show h.val + 1 * (x 0).val = h.val
    have : (x 0).val < 1 := (x 0).isLt
    omega
  have e1 : ((Rect.unit (s := ⟨3, ![8, R, C]⟩) (hOff h r) (⟨3, ![1, n, C]⟩ : Shape).size hb).emb x) 1 =
      ⟨r + (x 1).val, lt_of_lt_of_le (Nat.add_lt_add_left (x 1).isLt r) (hb 1)⟩ := by
    refine Fin.ext ?_
    show r + 1 * (x 1).val = r + (x 1).val
    omega
  have e2 : ((Rect.unit (s := ⟨3, ![8, R, C]⟩) (hOff h r) (⟨3, ![1, n, C]⟩ : Shape).size hb).emb x) 2 = x 2 := by
    refine Fin.ext ?_
    show 0 + 1 * (x 2).val = (x 2).val
    omega
  unfold join
  rw [e0, e1, e2]
  rfl

end Join

section Slab

variable {R C : ℕ} {α : Type} (h : Fin 8)
  (hb : ∀ a, hOff h 0 a + (⟨3, ![1, R, C]⟩ : Shape).size a ≤ (⟨3, ![8, R, C]⟩ : Shape).size a)

theorem at3_self (x : (⟨3, ![1, R, C]⟩ : Shape).Idx) : at3 (x 1) (x 2) = x := by
  funext k
  match k with
  | 0 => exact Fin.ext (by have : (x 0).val < 1 := (x 0).isLt; show 0 = (x 0).val; omega)
  | 1 => rfl
  | 2 => rfl

/-- Head `h`'s slab of a buffer held head by head. -/
theorem join_slab (g : Fin 8 → (⟨3, ![1, R, C]⟩ : Shape).Idx → α) (x : (⟨3, ![1, R, C]⟩ : Shape).Idx) :
    join g ((Rect.unit (s := ⟨3, ![8, R, C]⟩) (hOff h 0) (⟨3, ![1, R, C]⟩ : Shape).size hb).emb x) = g h x := by
  rw [join_emb]
  refine congrArg (g h) ?_
  refine Eq.trans ?_ (at3_self x)
  congr 1
  exact Fin.ext (Nat.zero_add _)

/-- Off head `h`'s slab, a change of head `h` changes nothing. -/
theorem join_update_of_not_mem (g : Fin 8 → (⟨3, ![1, R, C]⟩ : Shape).Idx → α)
    (w : (⟨3, ![1, R, C]⟩ : Shape).Idx → α) (y : (⟨3, ![8, R, C]⟩ : Shape).Idx)
    (hy : y ∉ (Rect.unit (s := ⟨3, ![8, R, C]⟩) (hOff h 0) (⟨3, ![1, R, C]⟩ : Shape).size hb).set) :
    join (Function.update g h w) y = join g y := by
  unfold join
  have : y 0 ≠ h := by
    rintro rfl
    refine hy ((LoadRect.mem_set _).mpr fun a => ?_)
    match a with
    | 0 => exact ⟨0, Nat.one_pos, by show (y 0).val = (y 0).val + 1 * 0; omega⟩
    | 1 => exact ⟨(y 1).val, (y 1).isLt, by show (y 1).val = 0 + 1 * (y 1).val; omega⟩
    | 2 => exact ⟨(y 2).val, (y 2).isLt, by show (y 2).val = 0 + 1 * (y 2).val; omega⟩
  exact congrFun (Function.update_of_ne (β := fun _ => _) this w g) _

end Slab

/-! ## What the blocks hold for one head and tile -/

variable {F : FTy → Type} [FloatOps F]

/-- Head `h`'s keys of the tile at `n`. -/
def kTile (K : Vec F S1x8x4096x128 .bf16) {n : ℕ} (hn : n + 256 ≤ 4096) (h : Fin 8) : Vec F S1x1x256x128 .bf16 :=
  fun x => K ((kRect hn h).emb x)

/-- Head `h`'s values of tile `j`. -/
def vTile (V : Vec F S1x16x640x256 .bf16) {j : ℕ} (hj : j + 1 ≤ 16) (h : Fin 8) : Vec F S1x1x80x256 .bf16 :=
  fun x => V ((vRect hj h).emb x)

/-- Head `h`'s queries. -/
def qHead (Q : Vec F S1x8x128x256 .bf16) (h : Fin 8) : Vec F S1x128x256 .bf16 :=
  fun x => Q ((Rect.unit (s := S1x8x128x256) ![0, 0, 0, 0] S1x8x128x256.size inb_S1x8x128x256_S1x8x128x256_0_0_0_0).emb
    (Shape.reshapeEquiv squeezes_S1x8x128x256_S8x128x256.numel_eq ((qRect h).emb x)))

/-- Head `h`'s 64 rows of the gate. -/
def zHead (Z : Vec F S1x512x256 .bf16) (h : Fin 8) : Vec F S1x64x256 .bf16 := fun x => Z ((oRect h).emb x)

/-- A head's scores of the tile at `n`. -/
def scores (Q : Vec F S1x8x128x256 .bf16) (K : Vec F S1x8x4096x128 .bf16) {n : ℕ} (hn : n + 256 ≤ 4096) (h : Fin 8) :
    Vec F S1x256x256 .f32 := scorePay (kTile K hn h) (qHead Q h)

/-- A head's first 64 rows of the accumulator. -/
def wRows (a : Vec F S1x80x256 .f32) : Vec F S1x64x256 .f32 :=
  fun x => a (at3 ⟨0 + (x 1).val, by have : (x 1).val < 64 := (x 1).isLt; omega⟩ (x 2))

/-- A head's row 64 of the accumulator. -/
def lRow (a : Vec F S1x80x256 .f32) : Vec F S1x1x256 .f32 :=
  fun x => a (at3 ⟨64 + (x 1).val, by have : (x 1).val < 1 := (x 1).isLt; omega⟩ (x 2))

/-! ## One head's step -/

variable {nD : ℕ} {τ : Topo} {sig : RefSig} {Ix : Type} [DecidableEq Ix] {Name : Type}
  [DecidableEq Name] {U : Type} [URA U] {Lvl : Type} {Λ : Labels} [Preorder Lvl] {defs : Defs nD τ sig (Elt F) Λ}
  (𝒱 : Variants) (d : Dev nD) (bd : Option 𝒱.V) (E : Set Name)

local notation "𝕄" => MT nD τ sig Ix (Elt F) Name U Lvl

local notation "OW" => owns (Val := Elt F) (Ix := Ix) (Name := Name) (U := U) (Lvl := Lvl) (Dev.tc d : Thread nD τ)

section Head

variable {q : Memref sig .tc .vmem S1x8x128x256 .bf16} {arg4 : Memref sig .tc .vmem S1x8x4096x128 .bf16}
  {arg5 : Memref sig .tc .vmem S1x16x640x256 .bf16} {arg6 arg7 : Memref sig .tc .vmem S1x512x256 .bf16}
  {src dst : Memref sig .tc .vmem S8x256x256 .f32} {arg10 : Memref sig .tc .vmem S8x1x256 .f32}
  {arg11 : Memref sig .tc .vmem S8x80x256 .f32}
  {Q : Vec F S1x8x128x256 .bf16} {K : Vec F S1x8x4096x128 .bf16} {V : Vec F S1x16x640x256 .bf16}
  {Z O : Vec F S1x512x256 .bf16} {ss sd : Fin 8 → Vec F S1x256x256 .f32} {mx : Fin 8 → Vec F S1x1x256 .f32}
  {ac : Fin 8 → Vec F S1x80x256 .f32}

/-- A head's scores are stored for that head. -/
theorem score_owns {n : ℕ} (hn : n + 256 ≤ 4096) (h : Fin 8) {Φ : PUnit → sProp 𝕄} :
    OW q fullShare Q ⊢ iprop(OW arg4 fullShare K -∗ OW dst fullShare (join sd) -∗
      (OW q fullShare Q -∗ OW arg4 fullShare K -∗
        OW dst fullShare (join (Function.update sd h (scores Q K hn h))) -∗ Φ ⟨⟩) -∗
      wp frame (wpE defs 𝒱 (Dev.tc d : Thread nD τ) bd) E (score q arg4 dst hn h) Φ) := by
  unfold score
  simp only [wp_bind]
  iintro Hq Hk Hd HΦ
  iapply (load_owns 𝒱 (Dev.tc d : Thread nD τ) bd E) $$ Hk
  iintro Hk
  iapply (load_owns_squeeze 𝒱 (Dev.tc d : Thread nD τ) bd E) $$ Hq
  iintro Hq
  iapply (load_owns 𝒱 (Dev.tc d : Thread nD τ) bd E) $$ Hd
  iintro Hd
  iapply (store_owns 𝒱 (Dev.tc d : Thread nD τ) bd E (join (Function.update sd h (scores Q K hn h)))
    (fun x => (join_slab h _ _ x).trans (congrFun (Function.update_self h _ sd) x))
    (fun y hy => join_update_of_not_mem h _ sd _ y hy)) $$ Hd
  iintro Hd
  iapply HΦ $$ Hq Hk Hd

/-- A head's update changes its running maximum and accumulator. -/
theorem chain_owns (g : Vec F S1x256x256 .f32 → FVec F S256x256 .f32) {j : ℕ} (hj : j + 1 ≤ 16) (h : Fin 8)
    {Φ : PUnit → sProp 𝕄} :
    OW src fullShare (join ss) ⊢ iprop(OW arg5 fullShare V -∗ OW arg10 fullShare (join mx) -∗
      OW arg11 fullShare (join ac) -∗
      (OW src fullShare (join ss) -∗ OW arg5 fullShare V -∗
        OW arg10 fullShare (join (Function.update mx h (mPay (g (ss h)) (mx h)))) -∗
        OW arg11 fullShare (join (Function.update ac h (accPay (g (ss h)) (vTile V hj h) (mx h) (ac h)))) -∗ Φ ⟨⟩) -∗
      wp frame (wpE defs 𝒱 (Dev.tc d : Thread nD τ) bd) E (chain g src arg5 arg10 arg11 hj h) Φ) := by
  unfold chain
  simp only [wp_bind]
  iintro Hs Hv Hm Ha HΦ
  iapply (load_owns 𝒱 (Dev.tc d : Thread nD τ) bd E) $$ Hs
  iintro Hs
  iapply (load_owns 𝒱 (Dev.tc d : Thread nD τ) bd E) $$ Hv
  iintro Hv
  iapply (load_owns 𝒱 (Dev.tc d : Thread nD τ) bd E) $$ Hm
  iintro Hm
  iapply (load_owns 𝒱 (Dev.tc d : Thread nD τ) bd E) $$ Ha
  iintro Ha
  iapply (load_owns 𝒱 (Dev.tc d : Thread nD τ) bd E) $$ Ha
  iintro Ha
  have e1 : (fun x => join ss ((sRect h).emb x)) = ss h := funext (join_slab h _ ss)
  have e2 : (fun x => join mx ((mRect h).emb x)) = mx h := funext (join_slab h _ mx)
  have e3 : (fun x => join ac ((aRect h).emb x)) = ac h := funext (join_slab h _ ac)
  rw [e1, e2, e3]
  iapply (store_owns 𝒱 (Dev.tc d : Thread nD τ) bd E
    (join (Function.update ac h (accPay (g (ss h)) (vTile V hj h) (mx h) (ac h))))
    (fun x => (join_slab h _ _ x).trans (congrFun (Function.update_self h _ ac) x))
    (fun y hy => join_update_of_not_mem h _ ac _ y hy)) $$ Ha
  iintro Ha
  iapply (load_owns 𝒱 (Dev.tc d : Thread nD τ) bd E) $$ Hm
  iintro Hm
  iapply (store_owns 𝒱 (Dev.tc d : Thread nD τ) bd E (join (Function.update mx h (mPay (g (ss h)) (mx h))))
    (fun x => (join_slab h _ _ x).trans (congrFun (Function.update_self h _ mx) x))
    (fun y hy => join_update_of_not_mem h _ mx _ y hy)) $$ Hm
  iintro Hm
  iapply HΦ $$ Hs Hv Hm Ha

/-- The result's block after head `h`'s rows are written. -/
def putRows (O : Vec F S1x512x256 .bf16) (h : Fin 8) (w : Vec F S1x64x256 .bf16) : Vec F S1x512x256 .bf16 :=
  fun y => if hy : 64 * h.val ≤ (y 1).val ∧ (y 1).val < 64 * h.val + 64 then
    w (at3 ⟨(y 1).val - 64 * h.val, by omega⟩ (y 2)) else O y

/-- A head's rows of the result are written. -/
theorem outRow_owns (h : Fin 8) (hx : (arg7.access (oRect h)).Stores Finset.univ) {Φ : PUnit → sProp 𝕄} :
    OW arg6 fullShare Z ⊢ iprop(OW arg7 fullShare O -∗ OW arg11 fullShare (join ac) -∗
      (OW arg6 fullShare Z -∗ OW arg7 fullShare (putRows O h (outPay (wRows (ac h)) (lRow (ac h)) (zHead Z h))) -∗
        OW arg11 fullShare (join ac) -∗ Φ ⟨⟩) -∗
      wp frame (wpE defs 𝒱 (Dev.tc d : Thread nD τ) bd) E (outRow arg6 arg7 arg11 h hx) Φ) := by
  unfold outRow
  simp only [wp_bind]
  iintro Hz Ho Ha HΦ
  iapply (load_owns 𝒱 (Dev.tc d : Thread nD τ) bd E) $$ Ha
  iintro Ha
  iapply (load_owns 𝒱 (Dev.tc d : Thread nD τ) bd E) $$ Ha
  iintro Ha
  iapply (load_owns 𝒱 (Dev.tc d : Thread nD τ) bd E) $$ Hz
  iintro Hz
  iapply (load_owns 𝒱 (Dev.tc d : Thread nD τ) bd E) $$ Ho
  iintro Ho
  have e1 : (fun x => join ac ((wRect h).emb x)) = wRows (ac h) := funext (join_emb h _ ac)
  have e2 : (fun x => join ac ((lRect h).emb x)) = lRow (ac h) := funext (join_emb h _ ac)
  rw [e1, e2]
  iapply (store_owns 𝒱 (Dev.tc d : Thread nD τ) bd E
    (putRows O h (outPay (wRows (ac h)) (lRow (ac h)) (zHead Z h))) ?_ ?_) $$ Ho
  · intro x
    have h1 : (((oRect h).emb x) 1).val = 64 * h.val + (x 1).val := by
      show 64 * h.val + 1 * (x 1).val = _
      omega
    have h2 : ((oRect h).emb x) 2 = x 2 := Fin.ext (by show 0 + 1 * (x 2).val = _; omega)
    have hx1 : (x 1).val < 64 := (x 1).isLt
    unfold putRows
    rw [dif_pos (by rw [h1]; omega)]
    refine congrArg (outPay (wRows (ac h)) (lRow (ac h)) (zHead Z h)) (Eq.trans ?_ (at3_self x))
    congr 1
    exact Fin.ext (by show (((oRect h).emb x) 1).val - 64 * h.val = _; rw [h1]; omega)
  · intro y hy
    unfold putRows
    rw [dif_neg]
    rintro ⟨ha, hb⟩
    refine hy ((LoadRect.mem_set _).mpr fun a => ?_)
    match a with
    | 0 => exact ⟨0, Nat.one_pos, by have : (y 0).val < 1 := (y 0).isLt; show (y 0).val = 0 + 1 * 0; omega⟩
    | 1 => exact ⟨(y 1).val - 64 * h.val, by show _ < 64; omega, by show (y 1).val = 64 * h.val + 1 * _; omega⟩
    | 2 => exact ⟨(y 2).val, (y 2).isLt, by show (y 2).val = 0 + 1 * (y 2).val; omega⟩
  iintro Ho
  iapply HΦ $$ Hz Ho Ha

end Head

end Cert.Mla

end
-- ==== Proof.Phases.lean ====
/-
  What a phase (one tile of all heads), a run of four, and a whole sweep leave.
-/
module

public import proofs.«01_k».proof.Proof.Model

@[expose] public section

noncomputable section

namespace Cert.Mla

open Idealize.ShloMosaic
open Idealize.SL Idealize.SL.RA Idealize.SL.Sem Idealize.SL.ProofMode
open Idealize.SL.BI (sProp)
open scoped Idealize.SL.BI
open Idealize.SL.BI.BIBase Idealize.SL.BI.Laws
open Cert.KernelIdeal (S1x8x128x256 S1x8x4096x128 S1x16x640x256 S1x512x256 S8x256x256 S8x1x256 S8x80x256 S256x256
  S1x1x256x128 S256x128 S8x128x256 S1x128x256 S128x256 S1x256x256 S1x1x80x256 S80x256 S1x1x256 S1x256 S256 S1x80x256
  S1x64x256 S64x256 grid0)
open Cert.KernelIdeal.Facts₀ Cert.KernelIdeal.Facts

/-! ## Heads done so far -/

section Done

variable {α : Type}

/-- The first `k` heads new, the others old. -/
def done (k : ℕ) (old new : Fin 8 → α) : Fin 8 → α := fun h => if h.val < k then new h else old h

theorem done_zero (old new : Fin 8 → α) : done 0 old new = old := funext fun h => if_neg (Nat.not_lt_zero _)

theorem done_all (old new : Fin 8 → α) : done 8 old new = new := funext fun h => if_pos h.isLt

theorem done_self (old new : Fin 8 → α) (h : Fin 8) {k : ℕ} (hk : h.val = k) : done k old new h = old h :=
  if_neg (by omega)

theorem done_succ (old new : Fin 8 → α) (h : Fin 8) {k : ℕ} (hk : h.val = k) :
    Function.update (done k old new) h (new h) = done (k + 1) old new := by
  funext x
  unfold done
  by_cases hx : x = h
  · subst hx
    rw [Function.update_self, if_pos (by omega)]
  · rw [Function.update_of_ne hx]
    have : x.val ≠ h.val := fun e => hx (Fin.ext e)
    by_cases hlt : x.val < k
    · rw [if_pos hlt, if_pos (by omega)]
    · rw [if_neg hlt, if_neg (by omega)]

end Done

variable {F : FTy → Type} [FloatOps F]

/-- The first tile fits. -/
theorem zero_ok : 0 + 256 ≤ 4096 := by omega

/-- All heads' running maxima after a tile. -/
def stepM (g : Vec F S1x256x256 .f32 → FVec F S256x256 .f32) (s : Fin 8 → Vec F S1x256x256 .f32)
    (mx : Fin 8 → Vec F S1x1x256 .f32) : Fin 8 → Vec F S1x1x256 .f32 := fun h => mPay (g (s h)) (mx h)

/-- All heads' accumulators after a tile. -/
def stepA (g : Vec F S1x256x256 .f32 → FVec F S256x256 .f32) (s : Fin 8 → Vec F S1x256x256 .f32)
    (V : Vec F S1x16x640x256 .bf16) {j : ℕ} (hj : j + 1 ≤ 16) (mx : Fin 8 → Vec F S1x1x256 .f32)
    (ac : Fin 8 → Vec F S1x80x256 .f32) : Fin 8 → Vec F S1x80x256 .f32 :=
  fun h => accPay (g (s h)) (vTile V hj h) (mx h) (ac h)

/-- The result's block from the accumulators and the gate. -/
def outBlock (ac : Fin 8 → Vec F S1x80x256 .f32) (Z : Vec F S1x512x256 .bf16) : Vec F S1x512x256 .bf16 :=
  fun y => outPay (wRows (ac ⟨(y 1).val / 64, by have : (y 1).val < 512 := (y 1).isLt; omega⟩))
    (lRow (ac ⟨(y 1).val / 64, by have : (y 1).val < 512 := (y 1).isLt; omega⟩))
    (zHead Z ⟨(y 1).val / 64, by have : (y 1).val < 512 := (y 1).isLt; omega⟩)
    (at3 ⟨(y 1).val % 64, Nat.mod_lt _ (by omega)⟩ (y 2))

/-- The first `k` heads' rows written. -/
def outDone (k : ℕ) (ac : Fin 8 → Vec F S1x80x256 .f32) (Z O : Vec F S1x512x256 .bf16) : Vec F S1x512x256 .bf16 :=
  fun y => if (y 1).val < 64 * k then outBlock ac Z y else O y

theorem outDone_zero (ac : Fin 8 → Vec F S1x80x256 .f32) (Z O : Vec F S1x512x256 .bf16) : outDone 0 ac Z O = O :=
  funext fun _ => if_neg (by omega)

theorem outDone_all (ac : Fin 8 → Vec F S1x80x256 .f32) (Z O : Vec F S1x512x256 .bf16) :
    outDone 8 ac Z O = outBlock ac Z :=
  funext fun y => if_pos (by have : (y 1).val < 512 := (y 1).isLt; omega)

theorem outDone_succ (ac : Fin 8 → Vec F S1x80x256 .f32) (Z O : Vec F S1x512x256 .bf16) (h : Fin 8) {k : ℕ}
    (hk : h.val = k) :
    putRows (outDone k ac Z O) h (outPay (wRows (ac h)) (lRow (ac h)) (zHead Z h)) = outDone (k + 1) ac Z O := by
  subst hk
  funext y
  unfold putRows outDone
  by_cases hy : 64 * h.val ≤ (y 1).val ∧ (y 1).val < 64 * h.val + 64
  · rw [dif_pos hy, if_pos (by omega)]
    unfold outBlock
    have hd : (⟨(y 1).val / 64, by have : (y 1).val < 512 := (y 1).isLt; omega⟩ : Fin 8) = h :=
      Fin.ext (by show (y 1).val / 64 = h.val; omega)
    rw [hd]
    refine congrArg (outPay (wRows (ac h)) (lRow (ac h)) (zHead Z h)) ?_
    congr 1
    exact Fin.ext (by show (y 1).val - 64 * h.val = (y 1).val % 64; omega)
  · rw [dif_neg hy]
    by_cases hlt : (y 1).val < 64 * h.val
    · rw [if_pos hlt, if_pos (by omega)]
    · rw [if_neg hlt, if_neg (by omega)]

variable {nD : ℕ} {τ : Topo} {sig : RefSig} {Ix : Type} [DecidableEq Ix] {Name : Type}
  [DecidableEq Name] {U : Type} [URA U] {Lvl : Type} {Λ : Labels} [Preorder Lvl] {defs : Defs nD τ sig (Elt F) Λ}
  (𝒱 : Variants) (d : Dev nD) (bd : Option 𝒱.V) (E : Set Name)

local notation "𝕄" => MT nD τ sig Ix (Elt F) Name U Lvl

local notation "OW" => owns (Val := Elt F) (Ix := Ix) (Name := Name) (U := U) (Lvl := Lvl) (Dev.tc d : Thread nD τ)

section Head

variable {q q' : Memref sig .tc .vmem S1x8x128x256 .bf16} {arg4 : Memref sig .tc .vmem S1x8x4096x128 .bf16}
  {arg5 : Memref sig .tc .vmem S1x16x640x256 .bf16} {arg6 arg7 : Memref sig .tc .vmem S1x512x256 .bf16}
  {src dst : Memref sig .tc .vmem S8x256x256 .f32} {arg10 : Memref sig .tc .vmem S8x1x256 .f32}
  {arg11 : Memref sig .tc .vmem S8x80x256 .f32}
  {Q Q' : Vec F S1x8x128x256 .bf16} {K : Vec F S1x8x4096x128 .bf16} {V : Vec F S1x16x640x256 .bf16}
  {Z O : Vec F S1x512x256 .bf16} {ss sd : Fin 8 → Vec F S1x256x256 .f32} {mx : Fin 8 → Vec F S1x1x256 .f32}
  {ac : Fin 8 → Vec F S1x80x256 .f32}

/-- The scores of head `k`, the heads before it done. -/
theorem score_step {n : ℕ} (hn : n + 256 ≤ 4096) (h : Fin 8) (k : ℕ) (hk : h.val = k) {Φ : PUnit → sProp 𝕄} :
    OW q fullShare Q ⊢ iprop(OW arg4 fullShare K -∗ OW dst fullShare (join (done k sd (scores Q K hn))) -∗
      (OW q fullShare Q -∗ OW arg4 fullShare K -∗
        OW dst fullShare (join (done (k + 1) sd (scores Q K hn))) -∗ Φ ⟨⟩) -∗
      wp frame (wpE defs 𝒱 (Dev.tc d : Thread nD τ) bd) E (score q arg4 dst hn h) Φ) := by
  rw [← done_succ sd (scores Q K hn) h hk]
  exact score_owns 𝒱 d bd E hn h

/-- The update of head `k`, the heads before it done. -/
theorem chain_step (g : Vec F S1x256x256 .f32 → FVec F S256x256 .f32) {j : ℕ} (hj : j + 1 ≤ 16) (h : Fin 8) (k : ℕ)
    (hk : h.val = k) {ss' : Fin 8 → Vec F S1x256x256 .f32} (hs : ss' h = ss h) {Φ : PUnit → sProp 𝕄} :
    OW src fullShare (join ss') ⊢ iprop(OW arg5 fullShare V -∗ OW arg10 fullShare (join (done k mx (stepM g ss mx))) -∗
      OW arg11 fullShare (join (done k ac (stepA g ss V hj mx ac))) -∗
      (OW src fullShare (join ss') -∗ OW arg5 fullShare V -∗
        OW arg10 fullShare (join (done (k + 1) mx (stepM g ss mx))) -∗
        OW arg11 fullShare (join (done (k + 1) ac (stepA g ss V hj mx ac))) -∗ Φ ⟨⟩) -∗
      wp frame (wpE defs 𝒱 (Dev.tc d : Thread nD τ) bd) E (chain g src arg5 arg10 arg11 hj h) Φ) := by
  have e := chain_owns (F := F) (Ix := Ix) (Name := Name) (U := U) (Lvl := Lvl) (defs := defs) (src := src) (arg5 := arg5)
    (arg10 := arg10) (arg11 := arg11) 𝒱 d bd E (ss := ss') (V := V)
    (mx := done k mx (stepM g ss mx)) (ac := done k ac (stepA g ss V hj mx ac)) g hj h (Φ := Φ)
  rw [done_self mx _ h hk, done_self ac _ h hk, hs] at e
  rw [← done_succ mx (stepM g ss mx) h hk, ← done_succ ac (stepA g ss V hj mx ac) h hk]
  exact e

/-- The rows of head `k`, the heads before it done. -/
theorem outRow_step (h : Fin 8) (k : ℕ) (hk : h.val = k) (hx : (arg7.access (oRect h)).Stores Finset.univ)
    {Φ : PUnit → sProp 𝕄} :
    OW arg6 fullShare Z ⊢ iprop(OW arg7 fullShare (outDone k ac Z O) -∗ OW arg11 fullShare (join ac) -∗
      (OW arg6 fullShare Z -∗ OW arg7 fullShare (outDone (k + 1) ac Z O) -∗ OW arg11 fullShare (join ac) -∗ Φ ⟨⟩) -∗
      wp frame (wpE defs 𝒱 (Dev.tc d : Thread nD τ) bd) E (outRow arg6 arg7 arg11 h hx) Φ) := by
  rw [← outDone_succ ac Z O h hk]
  exact outRow_owns 𝒱 d bd E h hx

end Head

section Phase

variable {arg2 arg3 : Memref sig .tc .vmem S1x8x128x256 .bf16} {arg4 : Memref sig .tc .vmem S1x8x4096x128 .bf16}
  {arg5 : Memref sig .tc .vmem S1x16x640x256 .bf16} {arg6 arg7 : Memref sig .tc .vmem S1x512x256 .bf16}
  {src dst arg8 : Memref sig .tc .vmem S8x256x256 .f32} {arg10 : Memref sig .tc .vmem S8x1x256 .f32}
  {arg11 : Memref sig .tc .vmem S8x80x256 .f32}
  {Q Q' : Vec F S1x8x128x256 .bf16} {K : Vec F S1x8x4096x128 .bf16} {V : Vec F S1x16x640x256 .bf16}
  {Z O : Vec F S1x512x256 .bf16} {ss sd : Fin 8 → Vec F S1x256x256 .f32} {mx : Fin 8 → Vec F S1x1x256 .f32}
  {ac : Fin 8 → Vec F S1x80x256 .f32}

/-- The first tile's scores of all heads. -/
theorem prologue_owns {Φ : PUnit → sProp 𝕄} :
    OW arg2 fullShare Q ⊢ iprop(OW arg4 fullShare K -∗ OW dst fullShare (join sd) -∗
      (OW arg2 fullShare Q -∗ OW arg4 fullShare K -∗
        OW dst fullShare (join (scores Q K zero_ok)) -∗ Φ ⟨⟩) -∗
      wp frame (wpE defs 𝒱 (Dev.tc d : Thread nD τ) bd) E (prologue arg2 arg4 dst) Φ) := by
  rw [← done_zero sd (scores Q K zero_ok)]
  unfold prologue
  simp only [wp_bind]
  iintro Hq Hk Hd HΦ
  iapply (score_step 𝒱 d bd E zero_ok 0 0 rfl) $$ Hq Hk Hd
  iintro Hq Hk Hd
  iapply (score_step 𝒱 d bd E zero_ok 1 1 rfl) $$ Hq Hk Hd
  iintro Hq Hk Hd
  iapply (score_step 𝒱 d bd E zero_ok 2 2 rfl) $$ Hq Hk Hd
  iintro Hq Hk Hd
  iapply (score_step 𝒱 d bd E zero_ok 3 3 rfl) $$ Hq Hk Hd
  iintro Hq Hk Hd
  iapply (score_step 𝒱 d bd E zero_ok 4 4 rfl) $$ Hq Hk Hd
  iintro Hq Hk Hd
  iapply (score_step 𝒱 d bd E zero_ok 5 5 rfl) $$ Hq Hk Hd
  iintro Hq Hk Hd
  iapply (score_step 𝒱 d bd E zero_ok 6 6 rfl) $$ Hq Hk Hd
  iintro Hq Hk Hd
  iapply (score_step 𝒱 d bd E zero_ok 7 7 rfl) $$ Hq Hk Hd
  iintro Hq Hk Hd
  rw [done_all]
  iapply HΦ $$ Hq Hk Hd

/-- One tile of all heads off the diagonal. -/
theorem phase_owns {n j : ℕ} (hn : n + 256 ≤ 4096) (hj : j + 1 ≤ 16) {Φ : PUnit → sProp 𝕄} :
    OW arg2 fullShare Q ⊢ iprop(OW arg4 fullShare K -∗ OW arg5 fullShare V -∗ OW src fullShare (join ss) -∗
      OW dst fullShare (join sd) -∗ OW arg10 fullShare (join mx) -∗ OW arg11 fullShare (join ac) -∗
      (OW arg2 fullShare Q -∗ OW arg4 fullShare K -∗ OW arg5 fullShare V -∗ OW src fullShare (join ss) -∗
        OW dst fullShare (join (scores Q K hn)) -∗ OW arg10 fullShare (join (stepM plain ss mx)) -∗
        OW arg11 fullShare (join (stepA plain ss V hj mx ac)) -∗ Φ ⟨⟩) -∗
      wp frame (wpE defs 𝒱 (Dev.tc d : Thread nD τ) bd) E (phase arg2 arg4 arg5 arg10 arg11 src dst hn hj) Φ) := by
  rw [← done_zero sd (scores Q K hn), ← done_zero mx (stepM plain ss mx), ← done_zero ac (stepA plain ss V hj mx ac)]
  unfold phase
  simp only [wp_bind]
  iintro Hq Hk Hv Hs Hd Hm Ha HΦ
  iapply (score_step 𝒱 d bd E hn 0 0 rfl) $$ Hq Hk Hd
  iintro Hq Hk Hd
  iapply (score_step 𝒱 d bd E hn 1 1 rfl) $$ Hq Hk Hd
  iintro Hq Hk Hd
  iapply (score_step 𝒱 d bd E hn 2 2 rfl) $$ Hq Hk Hd
  iintro Hq Hk Hd
  iapply (chain_step 𝒱 d bd E (ss := ss) (plain) hj 0 0 rfl rfl) $$ Hs Hv Hm Ha
  iintro Hs Hv Hm Ha
  iapply (score_step 𝒱 d bd E hn 3 3 rfl) $$ Hq Hk Hd
  iintro Hq Hk Hd
  iapply (chain_step 𝒱 d bd E (ss := ss) (plain) hj 1 1 rfl rfl) $$ Hs Hv Hm Ha
  iintro Hs Hv Hm Ha
  iapply (score_step 𝒱 d bd E hn 4 4 rfl) $$ Hq Hk Hd
  iintro Hq Hk Hd
  iapply (chain_step 𝒱 d bd E (ss := ss) (plain) hj 2 2 rfl rfl) $$ Hs Hv Hm Ha
  iintro Hs Hv Hm Ha
  iapply (score_step 𝒱 d bd E hn 5 5 rfl) $$ Hq Hk Hd
  iintro Hq Hk Hd
  iapply (chain_step 𝒱 d bd E (ss := ss) (plain) hj 3 3 rfl rfl) $$ Hs Hv Hm Ha
  iintro Hs Hv Hm Ha
  iapply (score_step 𝒱 d bd E hn 6 6 rfl) $$ Hq Hk Hd
  iintro Hq Hk Hd
  iapply (chain_step 𝒱 d bd E (ss := ss) (plain) hj 4 4 rfl rfl) $$ Hs Hv Hm Ha
  iintro Hs Hv Hm Ha
  iapply (score_step 𝒱 d bd E hn 7 7 rfl) $$ Hq Hk Hd
  iintro Hq Hk Hd
  iapply (chain_step 𝒱 d bd E (ss := ss) (plain) hj 5 5 rfl rfl) $$ Hs Hv Hm Ha
  iintro Hs Hv Hm Ha
  iapply (chain_step 𝒱 d bd E (ss := ss) (plain) hj 6 6 rfl rfl) $$ Hs Hv Hm Ha
  iintro Hs Hv Hm Ha
  iapply (chain_step 𝒱 d bd E (ss := ss) (plain) hj 7 7 rfl rfl) $$ Hs Hv Hm Ha
  iintro Hs Hv Hm Ha
  rw [done_all, done_all, done_all, done_zero, done_zero]
  iapply HΦ $$ Hq Hk Hv Hs Hd Hm Ha

/-- The diagonal tile of all heads, its scores in the second buffer. -/
theorem lastPhase_owns (mask : F .f32) {j : ℕ} (hj : j + 1 ≤ 16) {Φ : PUnit → sProp 𝕄} :
    OW arg3 fullShare Q ⊢ iprop(OW arg4 fullShare K -∗ OW arg5 fullShare V -∗ OW src fullShare (join ss) -∗
      OW arg8 fullShare (join sd) -∗ OW arg10 fullShare (join mx) -∗ OW arg11 fullShare (join ac) -∗
      (OW arg3 fullShare Q -∗ OW arg4 fullShare K -∗ OW arg5 fullShare V -∗ OW src fullShare (join ss) -∗
        OW arg8 fullShare (join (scores Q K zero_ok)) -∗
        OW arg10 fullShare (join (stepM (masked mask) ss mx)) -∗
        OW arg11 fullShare (join (stepA (masked mask) ss V hj mx ac)) -∗ Φ ⟨⟩) -∗
      wp frame (wpE defs 𝒱 (Dev.tc d : Thread nD τ) bd) E (lastPhase arg3 arg4 arg5 arg8 arg10 arg11 mask src hj) Φ) := by
  rw [← done_zero sd (scores Q K zero_ok), ← done_zero mx (stepM (masked mask) ss mx),
    ← done_zero ac (stepA (masked mask) ss V hj mx ac)]
  unfold lastPhase
  simp only [wp_bind]
  iintro Hq Hk Hv Hs Hd Hm Ha HΦ
  iapply (chain_step 𝒱 d bd E (ss := ss) (masked mask) hj 0 0 rfl rfl) $$ Hs Hv Hm Ha
  iintro Hs Hv Hm Ha
  iapply (score_step 𝒱 d bd E zero_ok 0 0 rfl) $$ Hq Hk Hd
  iintro Hq Hk Hd
  iapply (chain_step 𝒱 d bd E (ss := ss) (masked mask) hj 1 1 rfl rfl) $$ Hs Hv Hm Ha
  iintro Hs Hv Hm Ha
  iapply (score_step 𝒱 d bd E zero_ok 1 1 rfl) $$ Hq Hk Hd
  iintro Hq Hk Hd
  iapply (chain_step 𝒱 d bd E (ss := ss) (masked mask) hj 2 2 rfl rfl) $$ Hs Hv Hm Ha
  iintro Hs Hv Hm Ha
  iapply (score_step 𝒱 d bd E zero_ok 2 2 rfl) $$ Hq Hk Hd
  iintro Hq Hk Hd
  iapply (chain_step 𝒱 d bd E (ss := ss) (masked mask) hj 3 3 rfl rfl) $$ Hs Hv Hm Ha
  iintro Hs Hv Hm Ha
  iapply (score_step 𝒱 d bd E zero_ok 3 3 rfl) $$ Hq Hk Hd
  iintro Hq Hk Hd
  iapply (chain_step 𝒱 d bd E (ss := ss) (masked mask) hj 4 4 rfl rfl) $$ Hs Hv Hm Ha
  iintro Hs Hv Hm Ha
  iapply (score_step 𝒱 d bd E zero_ok 4 4 rfl) $$ Hq Hk Hd
  iintro Hq Hk Hd
  iapply (chain_step 𝒱 d bd E (ss := ss) (masked mask) hj 5 5 rfl rfl) $$ Hs Hv Hm Ha
  iintro Hs Hv Hm Ha
  iapply (score_step 𝒱 d bd E zero_ok 5 5 rfl) $$ Hq Hk Hd
  iintro Hq Hk Hd
  iapply (chain_step 𝒱 d bd E (ss := ss) (masked mask) hj 6 6 rfl rfl) $$ Hs Hv Hm Ha
  iintro Hs Hv Hm Ha
  iapply (score_step 𝒱 d bd E zero_ok 6 6 rfl) $$ Hq Hk Hd
  iintro Hq Hk Hd
  iapply (chain_step 𝒱 d bd E (ss := ss) (masked mask) hj 7 7 rfl rfl) $$ Hs Hv Hm Ha
  iintro Hs Hv Hm Ha
  iapply (score_step 𝒱 d bd E zero_ok 7 7 rfl) $$ Hq Hk Hd
  iintro Hq Hk Hd
  rw [done_all, done_all, done_all, done_zero, done_zero]
  iapply HΦ $$ Hq Hk Hv Hs Hd Hm Ha

/-- The diagonal tile of all heads, its scores in the first buffer, which each head's next scores then take. -/
theorem lastPhase_owns_self (mask : F .f32) {j : ℕ} (hj : j + 1 ≤ 16) {Φ : PUnit → sProp 𝕄} :
    OW arg3 fullShare Q ⊢ iprop(OW arg4 fullShare K -∗ OW arg5 fullShare V -∗
      OW arg8 fullShare (join ss) -∗ OW arg10 fullShare (join mx) -∗ OW arg11 fullShare (join ac) -∗
      (OW arg3 fullShare Q -∗ OW arg4 fullShare K -∗ OW arg5 fullShare V -∗
        OW arg8 fullShare (join (scores Q K zero_ok)) -∗
        OW arg10 fullShare (join (stepM (masked mask) ss mx)) -∗
        OW arg11 fullShare (join (stepA (masked mask) ss V hj mx ac)) -∗ Φ ⟨⟩) -∗
      wp frame (wpE defs 𝒱 (Dev.tc d : Thread nD τ) bd) E (lastPhase arg3 arg4 arg5 arg8 arg10 arg11 mask arg8 hj) Φ) := by
  have es : OW arg8 fullShare (join ss) = OW arg8 fullShare (join (done 0 ss (scores Q K zero_ok))) := by
    rw [done_zero]
  have em : OW arg10 fullShare (join mx) = OW arg10 fullShare (join (done 0 mx (stepM (masked mask) ss mx))) := by
    rw [done_zero]
  have ea : OW arg11 fullShare (join ac) =
      OW arg11 fullShare (join (done 0 ac (stepA (masked mask) ss V hj mx ac))) := by rw [done_zero]
  rw [es, em, ea]
  unfold lastPhase
  simp only [wp_bind]
  iintro Hq Hk Hv Hd Hm Ha HΦ
  iapply (chain_step 𝒱 d bd E (ss := ss) (masked mask) hj 0 0 rfl (done_self (k := 0) ss _ 0 rfl)) $$ Hd Hv Hm Ha
  iintro Hd Hv Hm Ha
  iapply (score_step 𝒱 d bd E zero_ok 0 0 rfl) $$ Hq Hk Hd
  iintro Hq Hk Hd
  iapply (chain_step 𝒱 d bd E (ss := ss) (masked mask) hj 1 1 rfl (done_self (k := 1) ss _ 1 rfl)) $$ Hd Hv Hm Ha
  iintro Hd Hv Hm Ha
  iapply (score_step 𝒱 d bd E zero_ok 1 1 rfl) $$ Hq Hk Hd
  iintro Hq Hk Hd
  iapply (chain_step 𝒱 d bd E (ss := ss) (masked mask) hj 2 2 rfl (done_self (k := 2) ss _ 2 rfl)) $$ Hd Hv Hm Ha
  iintro Hd Hv Hm Ha
  iapply (score_step 𝒱 d bd E zero_ok 2 2 rfl) $$ Hq Hk Hd
  iintro Hq Hk Hd
  iapply (chain_step 𝒱 d bd E (ss := ss) (masked mask) hj 3 3 rfl (done_self (k := 3) ss _ 3 rfl)) $$ Hd Hv Hm Ha
  iintro Hd Hv Hm Ha
  iapply (score_step 𝒱 d bd E zero_ok 3 3 rfl) $$ Hq Hk Hd
  iintro Hq Hk Hd
  iapply (chain_step 𝒱 d bd E (ss := ss) (masked mask) hj 4 4 rfl (done_self (k := 4) ss _ 4 rfl)) $$ Hd Hv Hm Ha
  iintro Hd Hv Hm Ha
  iapply (score_step 𝒱 d bd E zero_ok 4 4 rfl) $$ Hq Hk Hd
  iintro Hq Hk Hd
  iapply (chain_step 𝒱 d bd E (ss := ss) (masked mask) hj 5 5 rfl (done_self (k := 5) ss _ 5 rfl)) $$ Hd Hv Hm Ha
  iintro Hd Hv Hm Ha
  iapply (score_step 𝒱 d bd E zero_ok 5 5 rfl) $$ Hq Hk Hd
  iintro Hq Hk Hd
  iapply (chain_step 𝒱 d bd E (ss := ss) (masked mask) hj 6 6 rfl (done_self (k := 6) ss _ 6 rfl)) $$ Hd Hv Hm Ha
  iintro Hd Hv Hm Ha
  iapply (score_step 𝒱 d bd E zero_ok 6 6 rfl) $$ Hq Hk Hd
  iintro Hq Hk Hd
  iapply (chain_step 𝒱 d bd E (ss := ss) (masked mask) hj 7 7 rfl (done_self (k := 7) ss _ 7 rfl)) $$ Hd Hv Hm Ha
  iintro Hd Hv Hm Ha
  iapply (score_step 𝒱 d bd E zero_ok 7 7 rfl) $$ Hq Hk Hd
  iintro Hq Hk Hd
  rw [done_all, done_all, done_all]
  iapply HΦ $$ Hq Hk Hv Hd Hm Ha

/-- The result's rows of all heads. -/
theorem outAll_owns (hx : ∀ h, (arg7.access (oRect h)).Stores Finset.univ) {Φ : PUnit → sProp 𝕄} :
    OW arg6 fullShare Z ⊢ iprop(OW arg7 fullShare O -∗ OW arg11 fullShare (join ac) -∗
      (OW arg6 fullShare Z -∗ OW arg7 fullShare (outBlock ac Z) -∗ OW arg11 fullShare (join ac) -∗ Φ ⟨⟩) -∗
      wp frame (wpE defs 𝒱 (Dev.tc d : Thread nD τ) bd) E (outAll arg6 arg7 arg11 hx) Φ) := by
  have eo : OW arg7 fullShare O = OW arg7 fullShare (outDone 0 ac Z O) := by rw [outDone_zero]
  rw [← outDone_all ac Z O, eo]
  unfold outAll
  simp only [wp_bind]
  iintro Hz Ho Ha HΦ
  iapply (outRow_step 𝒱 d bd E 0 0 rfl (hx 0)) $$ Hz Ho Ha
  iintro Hz Ho Ha
  iapply (outRow_step 𝒱 d bd E 1 1 rfl (hx 1)) $$ Hz Ho Ha
  iintro Hz Ho Ha
  iapply (outRow_step 𝒱 d bd E 2 2 rfl (hx 2)) $$ Hz Ho Ha
  iintro Hz Ho Ha
  iapply (outRow_step 𝒱 d bd E 3 3 rfl (hx 3)) $$ Hz Ho Ha
  iintro Hz Ho Ha
  iapply (outRow_step 𝒱 d bd E 4 4 rfl (hx 4)) $$ Hz Ho Ha
  iintro Hz Ho Ha
  iapply (outRow_step 𝒱 d bd E 5 5 rfl (hx 5)) $$ Hz Ho Ha
  iintro Hz Ho Ha
  iapply (outRow_step 𝒱 d bd E 6 6 rfl (hx 6)) $$ Hz Ho Ha
  iintro Hz Ho Ha
  iapply (outRow_step 𝒱 d bd E 7 7 rfl (hx 7)) $$ Hz Ho Ha
  iintro Hz Ho Ha
  iapply HΦ $$ Hz Ho Ha

end Phase

end Cert.Mla

end
-- ==== Proof.Sweep.lean ====
/-
  The sweep of a block of queries over its tiles of keys, and the whole step of a block.
-/
module

public import proofs.«01_k».proof.Proof.Phases
public import Idealize.ShloMosaic.Lib.LoopRemainder

@[expose] public section

noncomputable section

namespace Cert.Mla

open Idealize.ShloMosaic
open Idealize.SL Idealize.SL.RA Idealize.SL.Sem Idealize.SL.ProofMode
open Idealize.SL.BI (sProp)
open scoped Idealize.SL.BI
open Idealize.SL.BI.BIBase Idealize.SL.BI.Laws
open Cert.KernelIdeal (S1x8x128x256 S1x8x4096x128 S1x16x640x256 S1x512x256 S8x256x256 S8x1x256 S8x80x256 S256x256
  S1x1x256x128 S256x128 S8x128x256 S1x128x256 S128x256 S1x256x256 S1x1x80x256 S80x256 S1x1x256 S1x256 S256 S1x80x256
  S1x64x256 S64x256 grid0 k0_t1_loop k0_t2_loop k0_cond1 k0_cond2 k0_cond3 k0_cond4 k0_cond5)
open Cert.KernelIdeal.Facts₀ Cert.KernelIdeal.Facts

/-! ## The words of the tiles -/

theorem jWord_eq (j : Fin 16) : jWord (BitVec.ofNat 32 j.val) = j.val % 16 := by
  revert j; decide

theorem cur_eq (j : Fin 16) (u : Fin 4) (h : j.val + u.val < 16) :
    jWord (cur (BitVec.ofNat 32 j.val) (BitVec.ofNat 32 u.val)) = (j.val + u.val) % 16 := by
  revert j u; decide

theorem nxt_eq (j : Fin 16) (u : Fin 4) (h : j.val + u.val + 1 < 16) :
    nWord (nxt (BitVec.ofNat 32 j.val) (BitVec.ofNat 32 u.val)) = 256 * ((j.val + u.val + 1) % 16) := by
  revert j u; decide

theorem subi_eq (i : Fin 16) (r : Fin 4) (h : i.val % 4 = r.val) :
    Scalar.subi (BitVec.ofNat 32 i.val) (BitVec.ofNat 32 r.val) = BitVec.ofNat 32 (i.val / 4 * 4) := by
  revert i r; decide

theorem trips_eq (i : grid0.Coords) : (k0_t1_loop i).trips = (i 1).val / 4 := by
  unfold k0_t1_loop
  generalize i 1 = a
  revert a
  change ∀ a : Fin 16, _
  decide

theorem rest_trips_eq (i : grid0.Coords) : (k0_t2_loop i).trips = 0 := by
  unfold k0_t2_loop
  generalize i 1 = a
  revert a
  change ∀ a : Fin 16, _
  decide

theorem iv_eq (k : Fin 4) : Scalar.muli 4#32 (Scf.iv 0#32 1#32 k.val) = BitVec.ofNat 32 (4 * k.val) := by
  revert k; decide

theorem first_iff (i : grid0.Coords) : Iff (k0_cond1 i = 1#1) ((i 1).val = 0) := by
  unfold k0_cond1
  generalize i 1 = a
  revert a
  change ∀ a : Fin 16, _
  decide

/-! ## What the sweep computes -/

section Run

variable {F : FTy → Type} [FloatOps F] (mask : F .f32) (Q : Vec F S1x8x128x256 .bf16)
  (K : Vec F S1x8x4096x128 .bf16) (V : Vec F S1x16x640x256 .bf16)

theorem tile_ok (j : ℕ) : 256 * (j % 16) + 256 ≤ 4096 := by omega
theorem row_ok (j : ℕ) : j % 16 + 1 ≤ 16 := by omega

/-- The scores of tile `j`, of all heads. -/
def sc (j : ℕ) : Fin 8 → Vec F S1x256x256 .f32 := scores Q K (tile_ok j)

/-- The maxima and accumulators after the tiles below `j`. -/
def run : ℕ → (Fin 8 → Vec F S1x1x256 .f32) × (Fin 8 → Vec F S1x80x256 .f32)
  | 0 => (fun _ _ => mask, fun _ _ => Scalar.ofBits .f32 0x00000000#32)
  | j + 1 => (stepM plain (sc Q K j) (run j).1, stepA plain (sc Q K j) V (row_ok j) (run j).1 (run j).2)

/-- The maxima after the diagonal tile `i`. -/
def lastM (i : ℕ) : Fin 8 → Vec F S1x1x256 .f32 := stepM (masked mask) (sc Q K i) (run mask Q K V i).1

/-- The accumulators after the diagonal tile `i`. -/
def lastA (i : ℕ) : Fin 8 → Vec F S1x80x256 .f32 :=
  stepA (masked mask) (sc Q K i) V (row_ok i) (run mask Q K V i).1 (run mask Q K V i).2

end Run

variable {F : FTy → Type} [FloatOps F]

variable {nD : ℕ} {τ : Topo} {sig : RefSig} {Ix : Type} [DecidableEq Ix] {Name : Type}
  [DecidableEq Name] {U : Type} [URA U] {Lvl : Type} {Λ : Labels} [Preorder Lvl] {defs : Defs nD τ sig (Elt F) Λ}
  (𝒱 : Variants) (d : Dev nD) (bd : Option 𝒱.V) (E : Set Name)

local notation "𝕄" => MT nD τ sig Ix (Elt F) Name U Lvl

local notation "OW" => owns (Val := Elt F) (Ix := Ix) (Name := Name) (U := U) (Lvl := Lvl) (Dev.tc d : Thread nD τ)

section Sweep

variable {arg2 arg3 : Memref sig .tc .vmem S1x8x128x256 .bf16} {arg4 : Memref sig .tc .vmem S1x8x4096x128 .bf16}
  {arg5 : Memref sig .tc .vmem S1x16x640x256 .bf16} {arg6 arg7 : Memref sig .tc .vmem S1x512x256 .bf16}
  {src dst arg8 arg9 : Memref sig .tc .vmem S8x256x256 .f32} {arg10 : Memref sig .tc .vmem S8x1x256 .f32}
  {arg11 : Memref sig .tc .vmem S8x80x256 .f32}
  {Q Q' : Vec F S1x8x128x256 .bf16} {K : Vec F S1x8x4096x128 .bf16} {V : Vec F S1x16x640x256 .bf16}
  {Z O : Vec F S1x512x256 .bf16} {ss sd : Fin 8 → Vec F S1x256x256 .f32} {mx : Fin 8 → Vec F S1x1x256 .f32}
  {ac : Fin 8 → Vec F S1x80x256 .f32} {mask : F .f32}

/-- What is held before tile `j`: its scores in `src`, anything in `dst`. -/
def held (src dst : Memref sig .tc .vmem S8x256x256 .f32) (arg2 : Memref sig .tc .vmem S1x8x128x256 .bf16)
    (arg4 : Memref sig .tc .vmem S1x8x4096x128 .bf16) (arg5 : Memref sig .tc .vmem S1x16x640x256 .bf16)
    (arg10 : Memref sig .tc .vmem S8x1x256 .f32) (arg11 : Memref sig .tc .vmem S8x80x256 .f32) (mask : F .f32)
    (Q : Vec F S1x8x128x256 .bf16) (K : Vec F S1x8x4096x128 .bf16) (V : Vec F S1x16x640x256 .bf16) (j : ℕ) : sProp 𝕄 :=
  iprop(OW arg2 fullShare Q ∗ OW arg4 fullShare K ∗ OW arg5 fullShare V ∗ OW src fullShare (join (sc Q K j)) ∗
    (∃ sd, OW dst fullShare (join sd)) ∗ OW arg10 fullShare (join (run mask Q K V j).1) ∗
    OW arg11 fullShare (join (run mask Q K V j).2))

local notation "HELD" => held (Ix := Ix) (Name := Name) (U := U) (Lvl := Lvl) (τ := τ) d

/-- A phase takes what is held from one tile to the next, the buffers exchanged. -/
theorem phase_held {n jj : ℕ} (hn : n + 256 ≤ 4096) (hj : jj + 1 ≤ 16) (j : ℕ) (en : n = 256 * ((j + 1) % 16))
    (ej : jj = j % 16) {Φ : PUnit → sProp 𝕄} :
    HELD src dst arg2 arg4 arg5 arg10 arg11 mask Q K V j ⊢
      iprop((HELD dst src arg2 arg4 arg5 arg10 arg11 mask Q K V (j + 1) -∗ Φ ⟨⟩) -∗
      wp frame (wpE defs 𝒱 (Dev.tc d : Thread nD τ) bd) E (phase arg2 arg4 arg5 arg10 arg11 src dst hn hj) Φ) := by
  subst en ej
  unfold held
  iintro ⟨Hq, Hk, Hv, Hs, ⟨%sd, Hd⟩, Hm, Ha⟩ HΦ
  iapply (phase_owns 𝒱 d bd E hn hj) $$ Hq Hk Hv Hs Hd Hm Ha
  iintro Hq Hk Hv Hs Hd Hm Ha
  iapply HΦ
  isplitl [Hq]; · iexact Hq
  isplitl [Hk]; · iexact Hk
  isplitl [Hv]; · iexact Hv
  isplitl [Hd]; · iexact Hd
  isplitl [Hs]
  · iexists _
    iexact Hs
  isplitl [Hm]; · iexact Hm
  iexact Ha

/-- Four phases. -/
theorem trip_held (j0 : BitVec 32) (hn : ∀ u : Fin 4, nWord (nxt j0 (BitVec.ofNat 32 u.val)) + 256 ≤ 4096)
    (hj : ∀ u : Fin 4, jWord (cur j0 (BitVec.ofNat 32 u.val)) + 1 ≤ 16) (j : Fin 16) (h : j.val + 4 < 16)
    (e : j0 = BitVec.ofNat 32 j.val) {Φ : PUnit → sProp 𝕄} :
    HELD arg8 arg9 arg2 arg4 arg5 arg10 arg11 mask Q K V j.val ⊢
      iprop((HELD arg8 arg9 arg2 arg4 arg5 arg10 arg11 mask Q K V (j.val + 4) -∗ Φ ⟨⟩) -∗
      wp frame (wpE defs 𝒱 (Dev.tc d : Thread nD τ) bd) E (trip arg2 arg4 arg5 arg8 arg9 arg10 arg11 j0 hn hj) Φ) := by
  subst e
  unfold trip
  simp only [wp_bind]
  iintro H HΦ
  iapply (phase_held 𝒱 d bd E (hn 0) (hj 0) j.val (nxt_eq j 0 (by show j.val + 0 + 1 < 16; omega))
    (cur_eq j 0 (by show j.val + 0 < 16; omega))) $$ H
  iintro H
  iapply (phase_held 𝒱 d bd E (hn 1) (hj 1) (j.val + 1) (nxt_eq j 1 (by show j.val + 1 + 1 < 16; omega))
    (cur_eq j 1 (by show j.val + 1 < 16; omega))) $$ H
  iintro H
  iapply (phase_held 𝒱 d bd E (hn 2) (hj 2) (j.val + 2) (nxt_eq j 2 (by show j.val + 2 + 1 < 16; omega))
    (cur_eq j 2 (by show j.val + 2 < 16; omega))) $$ H
  iintro H
  iapply (phase_held 𝒱 d bd E (hn 3) (hj 3) (j.val + 3) (nxt_eq j 3 (by show j.val + 3 + 1 < 16; omega))
    (cur_eq j 3 (by show j.val + 3 < 16; omega))) $$ H
  iintro H
  iapply HΦ $$ H

set_option maxRecDepth 20000 in
/-- The loop over fours. -/
theorem loop_held (i : grid0.Coords) {Φ : PUnit → sProp 𝕄} :
    HELD arg8 arg9 arg2 arg4 arg5 arg10 arg11 mask Q K V 0 ⊢
      iprop((HELD arg8 arg9 arg2 arg4 arg5 arg10 arg11 mask Q K V ((i 1).val / 4 * 4) -∗ Φ ⟨⟩) -∗
      wp frame (wpE defs 𝒱 (Dev.tc d : Thread nD τ) bd) E
        (Scf.Loop.for (k0_t1_loop i) (k0_t1_ok i) PUnit.unit fun k _ =>
          trip arg2 arg4 arg5 arg8 arg9 arg10 arg11 (Scalar.muli 4#32 (Scf.iv (k0_t1_loop i).lb 1#32 k))
            (fun u => k0_off1_inb i k u 2) (fun u => k0_off4_inb i k u 1)) Φ) := by
  have hi : (i 1).val < 16 := (i 1).isLt
  have hb : ∀ (k : Fin (k0_t1_loop i).trips) (acc : PUnit),
      HELD arg8 arg9 arg2 arg4 arg5 arg10 arg11 mask Q K V (k.val * 4) ⊢
        wp frame (wpE defs 𝒱 (Dev.tc d : Thread nD τ) bd) E
          (trip arg2 arg4 arg5 arg8 arg9 arg10 arg11 (Scalar.muli 4#32 (Scf.iv (k0_t1_loop i).lb 1#32 k))
            (fun u => k0_off1_inb i k u 2) (fun u => k0_off4_inb i k u 1))
          (fun _ => HELD arg8 arg9 arg2 arg4 arg5 arg10 arg11 mask Q K V ((k.val + 1) * 4)) := by
    intro k acc
    have hk : k.val < (i 1).val / 4 := (trips_eq i) ▸ k.isLt
    rw [Nat.succ_mul]
    iintro H
    iapply (trip_held 𝒱 d bd E _ (fun u => k0_off1_inb i k u 2) (fun u => k0_off4_inb i k u 1) ⟨k.val * 4, by omega⟩
      (by show k.val * 4 + 4 < 16; omega) ((iv_eq ⟨k.val, by omega⟩).trans (by rw [Nat.mul_comm]))) $$ H
    iintro H
    iexact H
  have e : Scf.trips (k0_t1_loop i).lb (k0_t1_loop i).ub (k0_t1_loop i).st = (i 1).val / 4 := trips_eq i
  rw [← e]
  have hw := Scf.wp_for Idealize.ShloMosaic.frame (wpE defs 𝒱 (Dev.tc d : Thread nD τ) bd) E (k0_t1_loop i).lb
    (k0_t1_loop i).ub (k0_t1_loop i).st (k0_t1_ok i) PUnit.unit _
    (fun k _ => HELD arg8 arg9 arg2 arg4 arg5 arg10 arg11 mask Q K V (k * 4)) hb (Q := Φ)
  rw [Nat.zero_mul] at hw
  iintro H HΦ
  iapply hw
  isplitl [H]
  · iexact H
  · iintro %acc H
    iapply HΦ $$ H

/-- The loop over what fours leave makes no trip. -/
theorem rest_loop (i : grid0.Coords) {Φ : PUnit → sProp 𝕄} :
    Φ ⟨⟩ ⊢ wp frame (wpE defs 𝒱 (Dev.tc d : Thread nD τ) bd) E
        (Scf.Loop.for (k0_t2_loop i) (k0_t2_ok i) PUnit.unit fun k _ =>
          trip arg2 arg4 arg5 arg8 arg9 arg10 arg11 (Scalar.muli 4#32 (Scf.iv (k0_t2_loop i).lb 1#32 k))
            (fun u => k0_off17_inb i k u 2) (fun u => k0_off20_inb i k u 1)) Φ := by
  have e := Scf.for_eq_ret (k0_t2_loop i).lb (k0_t2_loop i).ub (k0_t2_loop i).st (k0_t2_ok i) PUnit.unit
    (fun k _ => trip (nD := nD) (τ := τ) (Λ := Λ) (F := F) arg2 arg4 arg5 arg8 arg9 arg10 arg11
      (Scalar.muli 4#32 (Scf.iv (k0_t2_loop i).lb 1#32 k))
      (fun u => k0_off17_inb i k u 2) (fun u => k0_off20_inb i k u 1)) (rest_trips_eq i)
  rw [Scf.Loop.for, e]
  exact le_wp_ret _ _ _ _ Φ

/-- What is held after the diagonal tile `i`: the next block's first scores, and the block's sums. -/
def swept (arg8 arg9 : Memref sig .tc .vmem S8x256x256 .f32) (arg2 arg3 : Memref sig .tc .vmem S1x8x128x256 .bf16)
    (arg4 : Memref sig .tc .vmem S1x8x4096x128 .bf16) (arg5 : Memref sig .tc .vmem S1x16x640x256 .bf16)
    (arg10 : Memref sig .tc .vmem S8x1x256 .f32) (arg11 : Memref sig .tc .vmem S8x80x256 .f32) (mask : F .f32)
    (Q Q' : Vec F S1x8x128x256 .bf16) (K : Vec F S1x8x4096x128 .bf16) (V : Vec F S1x16x640x256 .bf16) (i : ℕ) :
    sProp 𝕄 :=
  iprop(OW arg2 fullShare Q ∗ OW arg3 fullShare Q' ∗ OW arg4 fullShare K ∗ OW arg5 fullShare V ∗
    OW arg8 fullShare (join (sc Q' K 0)) ∗ (∃ sd, OW arg9 fullShare (join sd)) ∗
    OW arg10 fullShare (join (lastM mask Q K V i)) ∗ OW arg11 fullShare (join (lastA mask Q K V i)))

local notation "SWEPT" => swept (Ix := Ix) (Name := Name) (U := U) (Lvl := Lvl) (τ := τ) d

/-- The diagonal tile from the first buffer. -/
theorem last_even {jj : ℕ} (hj : jj + 1 ≤ 16) (i : ℕ) (e : jj = i % 16) {Φ : PUnit → sProp 𝕄} :
    HELD arg8 arg9 arg2 arg4 arg5 arg10 arg11 mask Q K V i ⊢ iprop(OW arg3 fullShare Q' -∗
      (SWEPT arg8 arg9 arg2 arg3 arg4 arg5 arg10 arg11 mask Q Q' K V i -∗ Φ ⟨⟩) -∗
      wp frame (wpE defs 𝒱 (Dev.tc d : Thread nD τ) bd) E (lastPhase arg3 arg4 arg5 arg8 arg10 arg11 mask arg8 hj) Φ) := by
  subst e
  unfold held swept
  iintro ⟨Hq, Hk, Hv, Hs, ⟨%sd, Hd⟩, Hm, Ha⟩ Hn HΦ
  iapply (lastPhase_owns_self 𝒱 d bd E mask hj) $$ Hn Hk Hv Hs Hm Ha
  iintro Hn Hk Hv Hs Hm Ha
  iapply HΦ
  isplitl [Hq]; · iexact Hq
  isplitl [Hn]; · iexact Hn
  isplitl [Hk]; · iexact Hk
  isplitl [Hv]; · iexact Hv
  isplitl [Hs]; · iexact Hs
  isplitl [Hd]
  · iexists _
    iexact Hd
  isplitl [Hm]; · iexact Hm
  iexact Ha

/-- The diagonal tile from the second buffer. -/
theorem last_odd {jj : ℕ} (hj : jj + 1 ≤ 16) (i : ℕ) (e : jj = i % 16) {Φ : PUnit → sProp 𝕄} :
    HELD arg9 arg8 arg2 arg4 arg5 arg10 arg11 mask Q K V i ⊢ iprop(OW arg3 fullShare Q' -∗
      (SWEPT arg8 arg9 arg2 arg3 arg4 arg5 arg10 arg11 mask Q Q' K V i -∗ Φ ⟨⟩) -∗
      wp frame (wpE defs 𝒱 (Dev.tc d : Thread nD τ) bd) E (lastPhase arg3 arg4 arg5 arg8 arg10 arg11 mask arg9 hj) Φ) := by
  subst e
  unfold held swept
  iintro ⟨Hq, Hk, Hv, Hs, ⟨%sd, Hd⟩, Hm, Ha⟩ Hn HΦ
  iapply (lastPhase_owns 𝒱 d bd E mask hj) $$ Hn Hk Hv Hs Hd Hm Ha
  iintro Hn Hk Hv Hs Hd Hm Ha
  iapply HΦ
  isplitl [Hq]; · iexact Hq
  isplitl [Hn]; · iexact Hn
  isplitl [Hk]; · iexact Hk
  isplitl [Hv]; · iexact Hv
  isplitl [Hd]; · iexact Hd
  isplitl [Hs]
  · iexists _
    iexact Hs
  isplitl [Hm]; · iexact Hm
  iexact Ha

/-- The whole sweep. -/
theorem sweep_held (i : grid0.Coords) (KK : Prog (TpuEff nD τ sig (Elt F) Λ .tc) PUnit) {Φ : PUnit → sProp 𝕄} :
    HELD arg8 arg9 arg2 arg4 arg5 arg10 arg11 mask Q K V 0 ⊢ iprop(OW arg3 fullShare Q' -∗
      (SWEPT arg8 arg9 arg2 arg3 arg4 arg5 arg10 arg11 mask Q Q' K V (i 1).val -∗
        wp frame (wpE defs 𝒱 (Dev.tc d : Thread nD τ) bd) E KK Φ) -∗
      wp frame (wpE defs 𝒱 (Dev.tc d : Thread nD τ) bd) E
        (sweep arg2 arg3 arg4 arg5 arg8 arg9 arg10 arg11 mask i KK) Φ) := by
  have hi : (i 1).val < 16 := (i 1).isLt
  have hJ : (i 1).val / 4 * 4 < 16 := by omega
  have ej : jWord (qw i) = (i 1).val % 16 := jWord_eq (i 1)
  rcases cond_cases i with ⟨hr, h2, h3, h4, h5⟩ | ⟨hr, h2, h3, h4, h5⟩ | ⟨hr, h2, h3, h4, h5⟩ | ⟨hr, h2, h3, h4, h5⟩
  · simp only [sweep, dif_pos h2, dif_neg h3, dif_neg h4, dif_neg h5, pure_bind, bind_assoc, wp_bind]
    iintro H Hn HΦ
    iapply (loop_held 𝒱 d bd E i) $$ H
    iintro H
    iapply (rest_loop 𝒱 d bd E i)
    have ei : (i 1).val / 4 * 4 + 0 = (i 1).val := by omega
    iapply (last_even 𝒱 d bd E _ ((i 1).val / 4 * 4 + 0) (by rw [ei]; exact ej)) $$ H Hn
    rw [ei]
    iintro H
    iapply HΦ $$ H
  · simp only [sweep, dif_neg h2, dif_pos h3, dif_neg h4, dif_neg h5, pure_bind, bind_assoc, wp_bind]
    have es : Scalar.subi (qw i) 1#32 = BitVec.ofNat 32 ((i 1).val / 4 * 4) := subi_eq (i 1) 1 hr
    iintro H Hn HΦ
    iapply (loop_held 𝒱 d bd E i) $$ H
    iintro H
    iapply (rest_loop 𝒱 d bd E i)
    iapply (phase_held 𝒱 d bd E _ _ ((i 1).val / 4 * 4 + 0)
      (by rw [es]; exact nxt_eq ⟨(i 1).val / 4 * 4, hJ⟩ 0 (by show (i 1).val / 4 * 4 + 0 + 1 < 16; omega))
      (by rw [es]; exact cur_eq ⟨(i 1).val / 4 * 4, hJ⟩ 0 (by show (i 1).val / 4 * 4 + 0 < 16; omega))) $$ H
    iintro H
    have ei : (i 1).val / 4 * 4 + 1 = (i 1).val := by omega
    iapply (last_odd 𝒱 d bd E _ ((i 1).val / 4 * 4 + 1) (by rw [ei]; exact ej)) $$ H Hn
    rw [ei]
    iintro H
    iapply HΦ $$ H
  · simp only [sweep, dif_neg h2, dif_neg h3, dif_pos h4, dif_neg h5, pure_bind, bind_assoc, wp_bind]
    have es : Scalar.subi (qw i) 2#32 = BitVec.ofNat 32 ((i 1).val / 4 * 4) := subi_eq (i 1) 2 hr
    iintro H Hn HΦ
    iapply (loop_held 𝒱 d bd E i) $$ H
    iintro H
    iapply (rest_loop 𝒱 d bd E i)
    iapply (phase_held 𝒱 d bd E _ _ ((i 1).val / 4 * 4 + 0)
      (by rw [es]; exact nxt_eq ⟨(i 1).val / 4 * 4, hJ⟩ 0 (by show (i 1).val / 4 * 4 + 0 + 1 < 16; omega))
      (by rw [es]; exact cur_eq ⟨(i 1).val / 4 * 4, hJ⟩ 0 (by show (i 1).val / 4 * 4 + 0 < 16; omega))) $$ H
    iintro H
    iapply (phase_held 𝒱 d bd E _ _ ((i 1).val / 4 * 4 + 1)
      (by rw [es]; exact nxt_eq ⟨(i 1).val / 4 * 4, hJ⟩ 1 (by show (i 1).val / 4 * 4 + 1 + 1 < 16; omega))
      (by rw [es]; exact cur_eq ⟨(i 1).val / 4 * 4, hJ⟩ 1 (by show (i 1).val / 4 * 4 + 1 < 16; omega))) $$ H
    iintro H
    have ei : (i 1).val / 4 * 4 + 2 = (i 1).val := by omega
    iapply (last_even 𝒱 d bd E _ ((i 1).val / 4 * 4 + 2) (by rw [ei]; exact ej)) $$ H Hn
    rw [ei]
    iintro H
    iapply HΦ $$ H
  · simp only [sweep, dif_neg h2, dif_neg h3, dif_neg h4, dif_pos h5, pure_bind, bind_assoc, wp_bind]
    have es : Scalar.subi (qw i) 3#32 = BitVec.ofNat 32 ((i 1).val / 4 * 4) := subi_eq (i 1) 3 hr
    iintro H Hn HΦ
    iapply (loop_held 𝒱 d bd E i) $$ H
    iintro H
    iapply (rest_loop 𝒱 d bd E i)
    iapply (phase_held 𝒱 d bd E _ _ ((i 1).val / 4 * 4 + 0)
      (by rw [es]; exact nxt_eq ⟨(i 1).val / 4 * 4, hJ⟩ 0 (by show (i 1).val / 4 * 4 + 0 + 1 < 16; omega))
      (by rw [es]; exact cur_eq ⟨(i 1).val / 4 * 4, hJ⟩ 0 (by show (i 1).val / 4 * 4 + 0 < 16; omega))) $$ H
    iintro H
    iapply (phase_held 𝒱 d bd E _ _ ((i 1).val / 4 * 4 + 1)
      (by rw [es]; exact nxt_eq ⟨(i 1).val / 4 * 4, hJ⟩ 1 (by show (i 1).val / 4 * 4 + 1 + 1 < 16; omega))
      (by rw [es]; exact cur_eq ⟨(i 1).val / 4 * 4, hJ⟩ 1 (by show (i 1).val / 4 * 4 + 1 < 16; omega))) $$ H
    iintro H
    iapply (phase_held 𝒱 d bd E _ _ ((i 1).val / 4 * 4 + 2)
      (by rw [es]; exact nxt_eq ⟨(i 1).val / 4 * 4, hJ⟩ 2 (by show (i 1).val / 4 * 4 + 2 + 1 < 16; omega))
      (by rw [es]; exact cur_eq ⟨(i 1).val / 4 * 4, hJ⟩ 2 (by show (i 1).val / 4 * 4 + 2 < 16; omega))) $$ H
    iintro H
    have ei : (i 1).val / 4 * 4 + 3 = (i 1).val := by omega
    iapply (last_odd 𝒱 d bd E _ ((i 1).val / 4 * 4 + 3) (by rw [ei]; exact ej)) $$ H Hn
    rw [ei]
    iintro H
    iapply HΦ $$ H

/-- A whole buffer's rectangle leaves nothing out. -/
theorem whole_mem {R C : ℕ} (hb) (y : (⟨3, ![8, R, C]⟩ : Shape).Idx) :
    y ∈ (Rect.unit (s := ⟨3, ![8, R, C]⟩) ![0, 0, 0] (⟨3, ![8, R, C]⟩ : Shape).size hb).set := by
  refine (LoadRect.mem_set _).mpr fun a => ?_
  match a with
  | 0 => exact ⟨(y 0).val, (y 0).isLt, by show (y 0).val = 0 + 1 * (y 0).val; omega⟩
  | 1 => exact ⟨(y 1).val, (y 1).isLt, by show (y 1).val = 0 + 1 * (y 1).val; omega⟩
  | 2 => exact ⟨(y 2).val, (y 2).isLt, by show (y 2).val = 0 + 1 * (y 2).val; omega⟩

/-- The start. -/
theorem start_owns {M : Vec F S8x1x256 .f32} {A : Vec F S8x80x256 .f32} {Φ : PUnit → sProp 𝕄} :
    OW arg10 fullShare M ⊢ iprop(OW arg11 fullShare A -∗
      (OW arg10 fullShare (join (run mask Q K V 0).1) -∗ OW arg11 fullShare (join (run mask Q K V 0).2) -∗ Φ ⟨⟩) -∗
      wp frame (wpE defs 𝒱 (Dev.tc d : Thread nD τ) bd) E (start arg10 arg11 mask) Φ) := by
  unfold start
  simp only [wp_bind]
  iintro Hm Ha HΦ
  iapply (load_owns 𝒱 (Dev.tc d : Thread nD τ) bd E) $$ Hm
  iintro Hm
  iapply (store_owns 𝒱 (Dev.tc d : Thread nD τ) bd E (join (run mask Q K V 0).1) ?_ ?_) $$ Hm
  · intro x
    rfl
  · intro y hy
    exact absurd (whole_mem _ y) hy
  iintro Hm
  iapply (load_owns 𝒱 (Dev.tc d : Thread nD τ) bd E) $$ Ha
  iintro Ha
  iapply (store_owns 𝒱 (Dev.tc d : Thread nD τ) bd E (join (run mask Q K V 0).2) ?_ ?_) $$ Ha
  · intro x
    rfl
  · intro y hy
    exact absurd (whole_mem _ y) hy
  iintro Ha
  iapply HΦ $$ Hm Ha

/-- What is held before the first tile, put together. -/
theorem held_zero {s9 : Fin 8 → Vec F S1x256x256 .f32} :
    OW arg2 fullShare Q ⊢ (iprop(OW arg4 fullShare K -∗ OW arg5 fullShare V -∗ OW arg8 fullShare (join (sc Q K 0)) -∗
      OW arg9 fullShare (join s9) -∗ OW arg10 fullShare (join (run mask Q K V 0).1) -∗
      OW arg11 fullShare (join (run mask Q K V 0).2) -∗ HELD arg8 arg9 arg2 arg4 arg5 arg10 arg11 mask Q K V 0) :
        sProp 𝕄) := by
  unfold held
  iintro Hq Hk Hv Hs Hd Hm Ha
  isplitl [Hq]; · iexact Hq
  isplitl [Hk]; · iexact Hk
  isplitl [Hv]; · iexact Hv
  isplitl [Hs]; · iexact Hs
  isplitl [Hd]
  · iexists _
    iexact Hd
  isplitl [Hm]; · iexact Hm
  iexact Ha

/-- The first scores: computed at a first block, found there at any other. -/
theorem first_owns (i : grid0.Coords) (KK : Prog (TpuEff nD τ sig (Elt F) Λ .tc) PUnit)
    {S8 : Fin 8 → Vec F S1x256x256 .f32} (hS : (i 1).val ≠ 0 → S8 = sc Q K 0) {Φ : PUnit → sProp 𝕄} :
    OW arg2 fullShare Q ⊢ iprop(OW arg4 fullShare K -∗ OW arg8 fullShare (join S8) -∗
      (OW arg2 fullShare Q -∗ OW arg4 fullShare K -∗ OW arg8 fullShare (join (sc Q K 0)) -∗
        wp frame (wpE defs 𝒱 (Dev.tc d : Thread nD τ) bd) E KK Φ) -∗
      wp frame (wpE defs 𝒱 (Dev.tc d : Thread nD τ) bd) E
        (dite (k0_cond1 i = 1#1) (fun _ => prologue arg2 arg4 arg8 >>= fun _ => KK) (fun _ => KK)) Φ) := by
  by_cases h1 : k0_cond1 i = 1#1
  · have e := prologue_owns (F := F) (Ix := Ix) (Name := Name) (U := U) (Lvl := Lvl) (defs := defs) (arg2 := arg2)
      (arg4 := arg4) (dst := arg8) (Q := Q) (K := K) (sd := S8) 𝒱 d bd E
      (Φ := fun _ => wp frame (wpE defs 𝒱 (Dev.tc d : Thread nD τ) bd) E KK Φ)
    rw [dif_pos h1, wp_bind]
    exact e
  · obtain rfl := hS fun e => h1 ((first_iff i).mpr e)
    rw [dif_neg h1]
    iintro Hq Hk Hs HΦ
    iapply HΦ $$ Hq Hk Hs

/-- The opening. -/
theorem opening_held (i : grid0.Coords) (KK : Prog (TpuEff nD τ sig (Elt F) Λ .tc) PUnit)
    {S8 : Fin 8 → Vec F S1x256x256 .f32} {S9 : Vec F S8x256x256 .f32} {M : Vec F S8x1x256 .f32}
    {A : Vec F S8x80x256 .f32} (hS : (i 1).val ≠ 0 → S8 = sc Q K 0) {Φ : PUnit → sProp 𝕄} :
    OW arg2 fullShare Q ⊢ iprop(OW arg4 fullShare K -∗ OW arg5 fullShare V -∗
      OW arg8 fullShare (join S8) -∗ OW arg9 fullShare S9 -∗ OW arg10 fullShare M -∗ OW arg11 fullShare A -∗
      (HELD arg8 arg9 arg2 arg4 arg5 arg10 arg11 mask Q K V 0 -∗
        wp frame (wpE defs 𝒱 (Dev.tc d : Thread nD τ) bd) E KK Φ) -∗
      wp frame (wpE defs 𝒱 (Dev.tc d : Thread nD τ) bd) E (opening arg2 arg4 arg8 arg10 arg11 mask i KK) Φ) := by
  obtain ⟨s9, rfl⟩ := exists_join S9
  unfold opening
  simp only [wp_bind]
  iintro Hq Hk Hv Hs Hd Hm Ha HΦ
  iapply (start_owns (Q := Q) (K := K) (V := V) 𝒱 d bd E) $$ Hm Ha
  iintro Hm Ha
  iapply (first_owns 𝒱 d bd E i _ hS) $$ Hq Hk Hs
  iintro Hq Hk Hs
  iapply HΦ
  iapply (held_zero d) $$ Hq Hk Hv Hs Hd Hm Ha

/-- **The whole step of a block of queries**: from the blocks, and (except at a first block) the block's first scores
    in `arg8`, to the result's block and the next block's first scores. -/
theorem body_owns (hx : ∀ h, (arg7.access (oRect h)).Stores Finset.univ) (i : grid0.Coords)
    {S8 : Fin 8 → Vec F S1x256x256 .f32} {S9 : Vec F S8x256x256 .f32} {M : Vec F S8x1x256 .f32}
    {A : Vec F S8x80x256 .f32} (hS : (i 1).val ≠ 0 → S8 = sc Q K 0) {Φ : PUnit → sProp 𝕄} :
    OW arg2 fullShare Q ⊢ iprop(OW arg3 fullShare Q' -∗ OW arg4 fullShare K -∗ OW arg5 fullShare V -∗
      OW arg6 fullShare Z -∗ OW arg7 fullShare O -∗ OW arg8 fullShare (join S8) -∗ OW arg9 fullShare S9 -∗
      OW arg10 fullShare M -∗ OW arg11 fullShare A -∗
      (SWEPT arg8 arg9 arg2 arg3 arg4 arg5 arg10 arg11 mask Q Q' K V (i 1).val -∗ OW arg6 fullShare Z -∗
        OW arg7 fullShare (outBlock (lastA mask Q K V (i 1).val) Z) -∗ Φ ⟨⟩) -∗
      wp frame (wpE defs 𝒱 (Dev.tc d : Thread nD τ) bd) E
        (body arg2 arg3 arg4 arg5 arg6 arg7 arg8 arg9 arg10 arg11 mask hx i) Φ) := by
  unfold body
  iintro Hq Hn Hk Hv Hz Ho Hs Hd Hm Ha HΦ
  iapply (opening_held 𝒱 d bd E i _ hS) $$ Hq Hk Hv Hs Hd Hm Ha
  iintro H
  iapply (sweep_held 𝒱 d bd E i) $$ H Hn
  unfold swept
  iintro ⟨Hq, Hn, Hk, Hv, Hs, Hd, Hm, Ha⟩
  iapply (outAll_owns 𝒱 d bd E hx) $$ Hz Ho Ha
  iintro Hz Ho Ha
  iapply HΦ $$ [Hq Hn Hk Hv Hs Hd Hm Ha] Hz Ho
  isplitl [Hq]; · iexact Hq
  isplitl [Hn]; · iexact Hn
  isplitl [Hk]; · iexact Hk
  isplitl [Hv]; · iexact Hv
  isplitl [Hs]; · iexact Hs
  isplitl [Hd]; · iexact Hd
  isplitl [Hm]; · iexact Hm
  iexact Ha

end Sweep

end Cert.Mla

end
-- ==== Proof.MatchKernel.lean ====
/-
  The printed body is the composition of the per-head steps, by unfolding both.
-/
module

public import proofs.«01_k».proof.Proof.Ops
public import proofs.«01_k».proof.Proof.Gen.Kernel.Skeleton

@[expose] public section

noncomputable section

namespace Cert.Kernel.Hand

open Idealize.ShloMosaic Idealize.SL.Sem
open Cert.Kernel.Gen

variable {F : FTy → Type} [FloatOps F]

/-- What the diagonal's mask writes. -/
abbrev mask : F .f32 := Scalar.ofBits .f32 0xF149F2CA#32

section

variable (i : grid0.Coords)
    (arg2 : Memref sig .tc .vmem S1x8x128x256 .bf16) (harg2 : arg2.IsWhole)
    (arg3 : Memref sig .tc .vmem S1x8x128x256 .bf16) (harg3 : arg3.IsWhole)
    (arg4 : Memref sig .tc .vmem S1x8x4096x128 .bf16) (harg4 : arg4.IsWhole)
    (arg5 : Memref sig .tc .vmem S1x16x640x256 .bf16) (harg5 : arg5.IsWhole)
    (arg6 : Memref sig .tc .vmem S1x512x256 .bf16) (harg6 : arg6.IsWhole)
    (arg7 : Memref sig .tc .vmem S1x512x256 .bf16) (harg7 : arg7.IsWhole)
    (arg8 : Memref sig .tc .vmem S8x256x256 .f32) (harg8 : arg8.IsWhole)
    (arg9 : Memref sig .tc .vmem S8x256x256 .f32) (harg9 : arg9.IsWhole)
    (arg10 : Memref sig .tc .vmem S8x1x256 .f32) (harg10 : arg10.IsWhole)
    (arg11 : Memref sig .tc .vmem S8x80x256 .f32) (harg11 : arg11.IsWhole)

include harg2 harg3 harg4 harg5 harg6 harg7 harg8 harg9 harg10 harg11

set_option maxRecDepth 65536 in
set_option maxHeartbeats 4000000 in
/-- The body's first part is the opening. -/
theorem part193_eq : ∃ w : BitVec 32,
    k0_part193 (F := F) i arg2 harg2 arg3 harg3 arg4 harg4 arg5 harg5 arg6 harg6 arg7 harg7 arg8 harg8 arg9 harg9 arg10 harg10 arg11 harg11 =
      Mla.opening arg2 arg4 arg8 arg10 arg11 mask i (pure ⟨Mla.qw i, Mla.keep, 0#32, w, 1#32⟩) :=
  ⟨_, by with_unfolding_all rfl⟩

set_option maxRecDepth 1000000 in
set_option maxHeartbeats 4000000 in
/-- The body's second part is the sweep, with the first read of the result's. -/
theorem part194_eq (w : BitVec 32) :
    k0_part194 (F := F) i arg2 harg2 arg3 harg3 arg4 harg4 arg5 harg5 arg6 harg6 arg7 harg7 arg8 harg8 arg9 harg9 arg10 harg10 arg11 harg11
        (Mla.qw i) Mla.keep 0#32 w 1#32 =
      Mla.sweep arg2 arg3 arg4 arg5 arg8 arg9 arg10 arg11 mask i (do
        let a : Vec F S1x64x256 .f32 ←
          Prog.lift (.load arg11 (Mla.wRect 0).toLoadRect (View.loadsAt_vmem Facts₀.h_S1x64x256))
        pure (shapeCast S64x256 a Facts₀.shapeCasts_S1x64x256_S64x256)) := by
  rcases Mla.cond_cases i with ⟨-, h2, h3, h4, h5⟩ | ⟨-, h2, h3, h4, h5⟩ | ⟨-, h2, h3, h4, h5⟩ | ⟨-, h2, h3, h4, h5⟩
  · have g2 : k0_cond2 i = 1#1 := h2
    have g3 : ¬ k0_cond3 i = 1#1 := h3
    have g4 : ¬ k0_cond4 i = 1#1 := h4
    have g5 : ¬ k0_cond5 i = 1#1 := h5
    simp only [k0_part194, Mla.sweep, dif_pos h2, dif_pos g2, dif_neg h3, dif_neg g3, dif_neg h4, dif_neg g4, dif_neg h5, dif_neg g5]
    with_unfolding_all rfl
  · have g2 : ¬ k0_cond2 i = 1#1 := h2
    have g3 : k0_cond3 i = 1#1 := h3
    have g4 : ¬ k0_cond4 i = 1#1 := h4
    have g5 : ¬ k0_cond5 i = 1#1 := h5
    simp only [k0_part194, Mla.sweep, dif_neg h2, dif_neg g2, dif_pos h3, dif_pos g3, dif_neg h4, dif_neg g4, dif_neg h5, dif_neg g5]
    with_unfolding_all rfl
  · have g2 : ¬ k0_cond2 i = 1#1 := h2
    have g3 : ¬ k0_cond3 i = 1#1 := h3
    have g4 : k0_cond4 i = 1#1 := h4
    have g5 : ¬ k0_cond5 i = 1#1 := h5
    simp only [k0_part194, k0_part150, Mla.sweep, dif_neg h2, dif_neg g2, dif_neg h3, dif_neg g3, dif_pos h4, dif_pos g4, dif_neg h5, dif_neg g5, bind_assoc, pure_bind]
    with_unfolding_all rfl
  · have g2 : ¬ k0_cond2 i = 1#1 := h2
    have g3 : ¬ k0_cond3 i = 1#1 := h3
    have g4 : ¬ k0_cond4 i = 1#1 := h4
    have g5 : k0_cond5 i = 1#1 := h5
    simp only [k0_part194, Mla.sweep, dif_neg h2, dif_neg g2, dif_neg h3, dif_neg g3, dif_neg h4, dif_neg g4, dif_pos h5, dif_pos g5]
    with_unfolding_all rfl

set_option maxRecDepth 65536 in
set_option maxHeartbeats 4000000 in
/-- The printed body is `Mla.body`. -/
theorem body_eq :
    cc0_mla (F := F) i arg2 harg2 arg3 harg3 arg4 harg4 arg5 harg5 arg6 harg6 arg7 harg7 arg8 harg8 arg9 harg9 arg10 harg10 arg11 harg11 =
      Mla.body arg2 arg3 arg4 arg5 arg6 arg7 arg8 arg9 arg10 arg11 mask (Mla.out_stores arg7 harg7) i := by
  obtain ⟨w, hw⟩ := part193_eq (F := F) i arg2 harg2 arg3 harg3 arg4 harg4 arg5 harg5 arg6 harg6 arg7 harg7 arg8 harg8 arg9 harg9 arg10 harg10 arg11 harg11
  rw [cc0_mla, hw, Mla.opening_bind, Mla.body]
  congr 1
  rw [pure_bind]
  dsimp only
  rw [part194_eq, Mla.sweep_bind]
  congr 1

end

end Cert.Kernel.Hand

end
-- ==== Proof.MatchKernelIdeal.lean ====
/-
  The printed body is the composition of the per-head steps, by unfolding both.
-/
module

public import proofs.«01_k».proof.Proof.Ops
public import proofs.«01_k».proof.Proof.Gen.KernelIdeal.Skeleton

@[expose] public section

noncomputable section

namespace Cert.KernelIdeal.Hand

open Idealize.ShloMosaic Idealize.SL.Sem
open Cert.KernelIdeal.Gen

variable {F : FTy → Type} [FloatOps F] [Named F]

/-- What the diagonal's mask writes. -/
abbrev mask : F .f32 := Named.named κ "mask" 0xF149F2CA#32

section

variable (i : grid0.Coords)
    (arg2 : Memref sig .tc .vmem S1x8x128x256 .bf16) (harg2 : arg2.IsWhole)
    (arg3 : Memref sig .tc .vmem S1x8x128x256 .bf16) (harg3 : arg3.IsWhole)
    (arg4 : Memref sig .tc .vmem S1x8x4096x128 .bf16) (harg4 : arg4.IsWhole)
    (arg5 : Memref sig .tc .vmem S1x16x640x256 .bf16) (harg5 : arg5.IsWhole)
    (arg6 : Memref sig .tc .vmem S1x512x256 .bf16) (harg6 : arg6.IsWhole)
    (arg7 : Memref sig .tc .vmem S1x512x256 .bf16) (harg7 : arg7.IsWhole)
    (arg8 : Memref sig .tc .vmem S8x256x256 .f32) (harg8 : arg8.IsWhole)
    (arg9 : Memref sig .tc .vmem S8x256x256 .f32) (harg9 : arg9.IsWhole)
    (arg10 : Memref sig .tc .vmem S8x1x256 .f32) (harg10 : arg10.IsWhole)
    (arg11 : Memref sig .tc .vmem S8x80x256 .f32) (harg11 : arg11.IsWhole)

include harg2 harg3 harg4 harg5 harg6 harg7 harg8 harg9 harg10 harg11

set_option maxRecDepth 65536 in
set_option maxHeartbeats 4000000 in
/-- The body's first part is the opening. -/
theorem part193_eq : ∃ w : BitVec 32,
    k0_part193 (F := F) i arg2 harg2 arg3 harg3 arg4 harg4 arg5 harg5 arg6 harg6 arg7 harg7 arg8 harg8 arg9 harg9 arg10 harg10 arg11 harg11 =
      Mla.opening arg2 arg4 arg8 arg10 arg11 mask i (pure ⟨Mla.qw i, Mla.keep, 0#32, w, 1#32⟩) :=
  ⟨_, by with_unfolding_all rfl⟩

set_option maxRecDepth 1000000 in
set_option maxHeartbeats 4000000 in
/-- The body's second part is the sweep, with the first read of the result's. -/
theorem part194_eq (w : BitVec 32) :
    k0_part194 (F := F) i arg2 harg2 arg3 harg3 arg4 harg4 arg5 harg5 arg6 harg6 arg7 harg7 arg8 harg8 arg9 harg9 arg10 harg10 arg11 harg11
        (Mla.qw i) Mla.keep 0#32 w 1#32 =
      Mla.sweep arg2 arg3 arg4 arg5 arg8 arg9 arg10 arg11 mask i (do
        let a : Vec F S1x64x256 .f32 ←
          Prog.lift (.load arg11 (Mla.wRect 0).toLoadRect (View.loadsAt_vmem Facts₀.h_S1x64x256))
        pure (shapeCast S64x256 a Facts₀.shapeCasts_S1x64x256_S64x256)) := by
  rcases Mla.cond_cases i with ⟨-, h2, h3, h4, h5⟩ | ⟨-, h2, h3, h4, h5⟩ | ⟨-, h2, h3, h4, h5⟩ | ⟨-, h2, h3, h4, h5⟩
  · simp only [k0_part194, Mla.sweep, dif_pos h2, dif_neg h3, dif_neg h4, dif_neg h5]
    with_unfolding_all rfl
  · simp only [k0_part194, Mla.sweep, dif_neg h2, dif_pos h3, dif_neg h4, dif_neg h5]
    with_unfolding_all rfl
  · simp only [k0_part194, k0_part150, Mla.sweep, dif_neg h2, dif_neg h3, dif_pos h4, dif_neg h5, bind_assoc, pure_bind]
    with_unfolding_all rfl
  · simp only [k0_part194, Mla.sweep, dif_neg h2, dif_neg h3, dif_neg h4, dif_pos h5]
    with_unfolding_all rfl

set_option maxRecDepth 65536 in
set_option maxHeartbeats 4000000 in
/-- The printed body is `Mla.body`. -/
theorem body_eq :
    cc0_mla (F := F) i arg2 harg2 arg3 harg3 arg4 harg4 arg5 harg5 arg6 harg6 arg7 harg7 arg8 harg8 arg9 harg9 arg10 harg10 arg11 harg11 =
      Mla.body arg2 arg3 arg4 arg5 arg6 arg7 arg8 arg9 arg10 arg11 mask (Mla.out_stores arg7 harg7) i := by
  obtain ⟨w, hw⟩ := part193_eq (F := F) i arg2 harg2 arg3 harg3 arg4 harg4 arg5 harg5 arg6 harg6 arg7 harg7 arg8 harg8 arg9 harg9 arg10 harg10 arg11 harg11
  rw [cc0_mla, hw, Mla.opening_bind, Mla.body]
  congr 1
  rw [pure_bind]
  dsimp only
  rw [part194_eq, Mla.sweep_bind]
  congr 1

end

end Cert.KernelIdeal.Hand

end
-- ==== Proof.RunKernelIdeal.lean ====
/-
  The run of the call: every grid point's step from its blocks, the next block's first scores carried over.
-/
module

public import proofs.«01_k».proof.Proof.Sweep
public import proofs.«01_k».proof.Proof.MatchKernelIdeal
public import proofs.«01_k».proof.Proof.Gen.KernelIdeal.Frame
public import proofs.«01_k».proof.Proof.Gen.KernelIdeal.Points
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The blocks -/

/-- Each window's block of a grid point. -/
theorem idx (t : Fin cfg0.N) : win0_0.index t = ![t.val / 16, 0, 0, t.val % 16] ∧
    win0_1.index t = ![t.val / 16, 0, 0, min (t.val % 16 + 1) 15] ∧ win0_2.index t = ![t.val / 16, 0, 0, 0] ∧
    win0_3.index t = ![t.val / 16, 0, 0, 0] ∧ win0_4.index t = ![t.val / 16, 0, t.val % 16] ∧
    win0_5.index t = ![t.val / 16, 0, t.val % 16] := by
  revert t; decide +kernel

theorem coord_one (t : Fin cfg0.N) : (grid0.coords t 1).val = t.val % 16 := by
  revert t; decide +kernel

/-- The second window of the queries is the next point's first. -/
theorem iblk_next (c : Dev nD) (t : Fin cfg0.N) (h : t.val + 1 < cfg0.N) (hm : (t.val + 1) % 16 ≠ 0) :
    iblk m c 1 t = iblk m c 0 ⟨t.val + 1, h⟩ := by
  obtain ⟨-, e1, -⟩ := idx t
  obtain ⟨e0, -⟩ := idx ⟨t.val + 1, h⟩
  funext x
  blk_ext [iblk, e0, e1]

/-- Inside a batch entry the keys' block stays. -/
theorem iblk_keys (c : Dev nD) (t : Fin cfg0.N) (h : t.val + 1 < cfg0.N) (hm : (t.val + 1) % 16 ≠ 0) :
    iblk m c 2 t = iblk m c 2 ⟨t.val + 1, h⟩ := by
  obtain ⟨-, -, e1, -⟩ := idx t
  obtain ⟨-, -, e0, -⟩ := idx ⟨t.val + 1, h⟩
  funext x
  blk_ext [iblk, e0, e1]

/-- The result's block of point `t`. -/
def outAt (c : Dev nD) (t : Fin cfg0.N) : Vec F S1x512x256 .bf16 :=
  Mla.outBlock (Mla.lastA mask (iblk m c 0 t) (iblk m c 2 t) (iblk m c 3 t) (t.val % 16)) (iblk m c 4 t)

/-! ## The proof data -/

/-- What is kept between points: the first buffer holds the point's first scores, unless a batch entry begins. -/
def kept (c : Dev nD) (n : ℕ) : sProp 𝕄 :=
  iprop((∃ S8, ⌜∀ h : n < cfg0.N, n % 16 ≠ 0 → S8 = Mla.sc (iblk m c 0 ⟨n, h⟩) (iblk m c 2 ⟨n, h⟩) 0⌝ ∗
      owns (c : Thread nD τ) (Memref.whole cc0_scratch0) fullShare (Mla.join S8)) ∗
    (∃ X, owns (c : Thread nD τ) (Memref.whole cc0_scratch1) fullShare X) ∗
    (∃ X, owns (c : Thread nD τ) (Memref.whole cc0_scratch2) fullShare X) ∗
    (∃ X, owns (c : Thread nD τ) (Memref.whole cc0_scratch3) fullShare X) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := kept m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## A point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The step of any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = kept m c (t.val + 1) from rfl, show (dats m 0 c).Φ t.castSucc = kept m c t.val from rfl,
    show (dats m 0 c).owesAt () t.succ = (dats m 0 c).owesAt () t.castSucc from rfl,
    after_0, after_1, after_2, after_3, after_4, after_5, body_eq]
  unfold kept outAt
  rw [← coord_one t]
  iintro ⟨⟨⟨%S8, %hS, Hs⟩, ⟨%X9, Hd⟩, ⟨%X10, Hm⟩, ⟨%X11, Ha⟩, Hg⟩, Ho, ⟨%d0, H0⟩, ⟨%d1, H1⟩, ⟨%d2, H2⟩, ⟨%d3, H3⟩, ⟨%d4, H4⟩, ⟨%d5, H5⟩⟩
  iapply (Mla.body_owns Variants.none c none Set.univ _ (grid0.coords t) (S8 := S8)
    (fun e => hS t.isLt e)) $$ H0 H1 H2 H3 H4 H5 Hs Hd Hm Ha
  unfold Mla.swept
  iintro ⟨H0, H1, H2, H3, Hs, ⟨%sd, Hd⟩, Hm, Ha⟩ H4 H5
  isplitl [Hs Hd Hm Ha Hg]
  · isplitl [Hs]
    · iexists _
      isplitr
      swap
      · iexact Hs
      ipureintro
      intro h hm
      rw [iblk_next m c t h hm, iblk_keys m c t h hm]
    isplitl [Hd]; · iexists _; iexact Hd
    isplitl [Hm]; · iexists _; iexact Hm
    isplitl [Ha]; · iexists _; iexact Ha
    iexact Hg
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the first buffer. -/
theorem kept_in (c : Dev nD) : (Pipeline.ΦA spec0 c : sProp 𝕄) ⊢ kept m c 0 := by
  unfold Pipeline.ΦA kept
  rw [scopedRest0_eq]
  simp only [owns_whole]
  iintro ⟨⟨⟨%f0, H0⟩, H1, H2, H3⟩, Hg⟩
  obtain ⟨S8, e⟩ := Mla.exists_join (α := Elt F .f32) f0
  isplitl [H0]
  · iexists S8
    isplitr
    · ipureintro
      exact fun _ h => absurd rfl h
    · rw [← e]
      iexact H0
  isplitl [H1]; · iexact H1
  isplitl [H2]; · iexact H2
  isplitl [H3]; · iexact H3
  iexact Hg

/-- After the last point it is given back. -/
theorem kept_out (c : Dev nD) (n : ℕ) : kept m c n ⊢ (Pipeline.ΦA spec0 c : sProp 𝕄) := by
  unfold Pipeline.ΦA kept
  rw [scopedRest0_eq]
  simp only [owns_whole]
  iintro ⟨⟨%S8, -, H0⟩, H1, H2, H3, Hg⟩
  isplitl [H0 H1 H2 H3]
  · isplitl [H0]; · iexists _; iexact H0
    isplitl [H1]; · iexact H1
    isplitl [H2]; · iexact H2
    iexact H3
  iexact Hg

/-! ## The run and the frame -/

set_option backward.isDefEq.respectTransparency.types false in
/-- The run, every semaphore's counter at zero at the end. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => kept_in m c) (hout := fun c => kept_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c)))⟩, h.2⟩)
    (run_main_quiescent m ρ)

end Cert.KernelIdeal.Hand

end
-- ==== Proof.Precondition.lean ====
/-
  The precondition, read: the queries and keys are real numbers, and the values' row of ones holds ones.
-/
module

public import proofs.«01_k».proof.Pre_finite_with_ones
public import Idealize.ShloMosaic.Lib.Pointwise
public import Idealize.ShloMosaic.Lib.IdealHost
public import Idealize.ShloMosaic.Lib.Pipeline.ValueKit

@[expose] public section

set_option maxRecDepth 16384

noncomputable section

namespace Cert.Mla

open Idealize.ShloMosaic
open Cert.Pre_finite_with_ones

theorem top_bits : Ideal.ofBits .bf16 0x7F80#16 = ⊤ := by
  simp [Ideal.ofBits, Ideal.ieee]

theorem bot_bits_bf16 : Ideal.ofBits .bf16 0xFF80#16 = ⊥ := by
  simp [Ideal.ofBits, Ideal.ieee]

/-- Two comparisons with the infinities hold of real numbers alone. -/
theorem real_of {s : Shape} {d : Fin S_.rank → Fin s.rank} (hd : S_.BroadcastsInDim s d) (x : FVec Ideal s .bf16)
    (e : andi (cmpf .olt x (broadcastInDim s d hd (constant S_ .bf16 0x7F80#16)))
      (cmpf .ogt x (broadcastInDim s d hd (constant S_ .bf16 0xFF80#16))) = fun _ => 1#1) (j : s.Idx) :
    ∃ r : ℝ, x j = r := by
  have ej := congrFun e j
  have : BitVec.ofBool (decide (x j < Ideal.ofBits .bf16 0x7F80#16)) &&&
      BitVec.ofBool (decide (Ideal.ofBits .bf16 0xFF80#16 < x j)) = 1#1 := ej
  rw [top_bits, bot_bits_bf16] at this
  generalize (x j : EReal) = w at this
  change EReal at w
  induction w using EReal.rec with
  | bot => simp at this
  | top => simp at this
  | coe r => exact ⟨r, rfl⟩

variable [Facts] (q : FVec Ideal S4x8x128x4096 .bf16) (k : FVec Ideal S4x8x4096x128 .bf16)
  (v : FVec Ideal S4x16x640x256 .bf16) (z : FVec Ideal S4x512x4096 .bf16)

theorem queries_real (e : (fn q k v z).1 = fun _ => 1#1) (j : S4x8x128x4096.Idx) : ∃ r : ℝ, q j = r :=
  real_of _ q e j

theorem keys_real (e : (fn q k v z).2.1 = fun _ => 1#1) (j : S4x8x4096x128.Idx) : ∃ r : ℝ, k j = r :=
  real_of _ k e j

theorem ones (e : (fn q k v z).2.2 = fun _ => 1#1) (b : Fin 4) (j : Fin 16) (h : Fin 8) (x : Fin 256) :
    v (ix4 b j ⟨80 * h.val + 64, by omega⟩ x) = 1 := by
  have ej := congrFun e (ix4 b j h x)
  have r : shapeCast S4x16x8x256 (extractStridedSlice S4x16x8x1x256 ![0, 0, 0, 64, 0]
      (shapeCast S4x16x8x80x256 v Facts.shapeCasts_S4x16x640x256_S4x16x8x80x256)
      Facts.slices_S4x16x8x80x256_S4x16x8x1x256_0_0_0_64_0) Facts.shapeCasts_S4x16x8x1x256_S4x16x8x256 (ix4 b j h x) =
      v (ix4 b j ⟨80 * h.val + 64, by omega⟩ x) := by
    pointwise
    blk_ext
  have e1 : BitVec.ofBool (decide (shapeCast S4x16x8x256 (extractStridedSlice S4x16x8x1x256 ![0, 0, 0, 64, 0]
      (shapeCast S4x16x8x80x256 v Facts.shapeCasts_S4x16x640x256_S4x16x8x80x256)
      Facts.slices_S4x16x8x80x256_S4x16x8x1x256_0_0_0_64_0) Facts.shapeCasts_S4x16x8x1x256_S4x16x8x256 (ix4 b j h x) =
      Ideal.ofBits .bf16 0x3F80#16)) = 1#1 := ej
  rw [r, Ideal.ofBits_one_bf16] at e1
  by_contra hne
  rw [decide_eq_false hne] at e1
  exact absurd e1 (by decide)

end Cert.Mla
-- ==== Proof.Softmax.lean ====
/-
  The mathematics of the sweep over the extended reals. A row of scores is read tile by tile, keeping the greatest score
  so far and the sum of the weights relative to it; after the last tile the weighted sum over the sum of the weights is
  the softmax-weighted sum over the whole row.
-/
module

public import Idealize.ShloMosaic.PureOps.Ideal
public import Mathlib.Algebra.BigOperators.Fin
public import Mathlib.Data.Finset.Fold
public import Mathlib.Data.Finset.Lattice.Fold

@[expose] public section

noncomputable section

namespace Cert.Mla.Softmax

open Idealize.ShloMosaic
open scoped BigOperators

/-! ## Powers of two -/

theorem exp2_nonneg (x : EReal) : 0 ≤ Ideal.exp2 x := by
  induction x with
  | bot => simp
  | top => simp
  | coe r => rw [Ideal.exp2_coe]; exact_mod_cast (Real.rpow_pos_of_pos two_pos r).le

/-- A power of two of a score relative to a greater one is a real number. -/
theorem exp2_sub_ne_top {s M : EReal} (h : s ≤ M) : Ideal.exp2 (s - M) ≠ ⊤ := by
  induction M with
  | bot =>
    obtain rfl := le_bot_iff.mp h
    simp
  | top =>
    have : s - ⊤ = ⊥ := by induction s <;> rfl
    rw [this]; simp
  | coe μ =>
    induction s with
    | bot => simp
    | top => exact absurd h (not_le.mpr (EReal.coe_lt_top μ))
    | coe r => rw [← EReal.coe_sub, Ideal.exp2_coe]; exact EReal.coe_ne_top _

/-- Weights relative to one maximum, brought to a greater one. -/
theorem exp2_mul {s m m' : EReal} (h : s ≤ m) (h' : m ≤ m') :
    Ideal.exp2 (m - m') * Ideal.exp2 (s - m) = Ideal.exp2 (s - m') := by
  induction m' with
  | top =>
    have e : ∀ x : EReal, x - ⊤ = ⊥ := fun x => by induction x <;> rfl
    rw [e, e, Ideal.exp2_bot, zero_mul]
  | bot =>
    obtain rfl := le_bot_iff.mp h'
    obtain rfl := le_bot_iff.mp h
    simp
  | coe μ' =>
    induction m with
    | top => exact absurd h' (not_le.mpr (EReal.coe_lt_top μ'))
    | bot =>
      obtain rfl := le_bot_iff.mp h
      simp
    | coe μ =>
      induction s with
      | top => exact absurd h (not_le.mpr (EReal.coe_lt_top μ))
      | bot => simp
      | coe r =>
        rw [← EReal.coe_sub, ← EReal.coe_sub, ← EReal.coe_sub, Ideal.exp2_coe, Ideal.exp2_coe, Ideal.exp2_coe,
          ← EReal.coe_mul]
        refine congrArg _ ?_
        show (2 : ℝ) ^ (μ - μ') * (2 : ℝ) ^ (r - μ) = (2 : ℝ) ^ (r - μ')
        rw [← Real.rpow_add two_pos]
        congr 1
        ring

/-- A nonnegative number other than `⊤` multiplies a sum term by term. -/
theorem mul_sum {ι : Type*} (S : Finset ι) {c : EReal} (h0 : 0 ≤ c) (h1 : c ≠ ⊤) (f : ι → EReal) :
    c * ∑ k ∈ S, f k = ∑ k ∈ S, c * f k := by
  classical
  induction S using Finset.induction_on with
  | empty => simp
  | insert a S ha ih =>
    rw [Finset.sum_insert ha, Finset.sum_insert ha, EReal.left_distrib_of_nonneg_of_ne_top h0 h1, ih]

/-- A sum of real numbers, read in the extended reals. -/
theorem coe_sum {ι : Type*} (S : Finset ι) (f : ι → ℝ) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-! ## One pass over a row -/

/-- After `n` scores: `M` is the greatest and `A` the sum of the values `v`, weighted relative to `M`. -/
structure Held (s v : ℕ → EReal) (n : ℕ) (M A : EReal) : Prop where
  le : ∀ k < n, s k ≤ M
  least : ∀ B, (∀ k < n, s k ≤ B) → M ≤ B
  sum : A = ∑ k ∈ Finset.range n, v k * Ideal.exp2 (s k - M)

theorem Held.zero (s v : ℕ → EReal) : Held s v 0 ⊥ 0 :=
  ⟨fun k hk => absurd hk (Nat.not_lt_zero k), fun _ _ => bot_le, by simp⟩

/-- A tile of `c` further scores. -/
theorem Held.step {s v : ℕ → EReal} {n : ℕ} {M A : EReal} (h : Held s v n M A) {c : ℕ} {t u : Fin c → EReal}
    (ht : ∀ x : Fin c, t x = s (n + x.val)) (hu : ∀ x : Fin c, u x = v (n + x.val)) {M' : EReal}
    (hM' : M' = max M ((Finset.univ : Finset (Fin c)).fold max ⊥ t)) :
    Held s v (n + c) M' (Ideal.exp2 (M - M') * A + ∑ x : Fin c, u x * Ideal.exp2 (t x - M')) := by
  have hMM : M ≤ M' := hM' ▸ le_max_left _ _
  have htM : ∀ x, t x ≤ M' := fun x =>
    hM' ▸ le_max_of_le_right ((Finset.le_fold_max _).mpr (.inr ⟨x, Finset.mem_univ x, le_rfl⟩))
  refine ⟨fun k hk => ?_, fun B hB => ?_, ?_⟩
  · by_cases hkn : k < n
    · exact (h.le k hkn).trans hMM
    · have := htM ⟨k - n, by omega⟩
      rw [ht] at this
      rwa [show n + (k - n) = k by omega] at this
  · rw [hM']
    refine max_le (h.least B fun k hk => hB k (by omega)) ((Finset.fold_max_le _).mpr ⟨bot_le, fun x _ => ?_⟩)
    rw [ht]
    exact hB _ (by have := x.isLt; omega)
  · rw [Finset.sum_range_add, h.sum, mul_sum _ (exp2_nonneg _) (exp2_sub_ne_top hMM)]
    congr 1
    · refine Finset.sum_congr rfl fun k hk => ?_
      rw [mul_left_comm, exp2_mul (h.le k (Finset.mem_range.mp hk)) hMM]
    · rw [← Fin.sum_univ_eq_sum_range (fun x => v (n + x) * Ideal.exp2 (s (n + x) - M')) c]
      exact Finset.sum_congr rfl fun x _ => by rw [ht, hu]

/-! ## The whole row -/

/-- A score where the key comes no later than the query, and `⊥` elsewhere. -/
def causal (q : ℕ) (r : ℕ → EReal) (k : ℕ) : EReal := if k ≤ q then r k else ⊥

/-- The greatest of a row is a real number, its scores being real. -/
theorem Held.real {q n : ℕ} (hq : q < n) {r : ℕ → ℝ} {v : ℕ → EReal} {M A : EReal}
    (h : Held (causal q fun k => (r k : EReal)) v n M A) : ∃ μ : ℝ, M = μ := by
  have h0 : ((r 0 : ℝ) : EReal) ≤ M := by
    have := h.le 0 (by omega)
    rwa [causal, if_pos (Nat.zero_le q)] at this
  have h1 : M ≤ ((∑ k ∈ Finset.range n, |r k| : ℝ) : EReal) := by
    refine h.least _ fun k hk => ?_
    unfold causal
    split
    · refine EReal.coe_le_coe_iff.mpr ((le_abs_self _).trans ?_)
      exact Finset.single_le_sum (f := fun k => |r k|) (fun _ _ => abs_nonneg _) (Finset.mem_range.mpr hk)
    · exact bot_le
  induction M with
  | bot => exact absurd h0 (not_le.mpr (EReal.bot_lt_coe _))
  | top => exact absurd h1 (not_le.mpr (EReal.coe_lt_top _))
  | coe μ => exact ⟨μ, rfl⟩

theorem exp_mul_log_two (r μ : ℝ) :
    Ideal.exp ((r : EReal) * (Real.log 2 : ℝ) - ((μ * Real.log 2 : ℝ) : EReal)) = Ideal.exp2 ((r : EReal) - μ) := by
  rw [← EReal.coe_mul, ← EReal.coe_sub, ← EReal.coe_sub, Ideal.exp_coe, Ideal.exp2_coe]
  refine congrArg _ ?_
  show _ = (2 : ℝ) ^ (r - μ)
  rw [Real.rpow_def_of_pos two_pos]
  congr 1
  ring

/-- THE EQUATION. The weighted sum of one pass over a row, over the sum of its weights, is the row's softmax in base `e`
    of the scores times `log 2`, zero where the key comes after the query, summed against the values. -/
theorem softmax_eq {q n N : ℕ} (hq : q < n) (hn : n ≤ N) {r : ℕ → ℝ} {v : ℕ → EReal} {M A L : EReal}
    (hA : Held (causal q fun k => (r k : EReal)) v n M A)
    (hL : Held (causal q fun k => (r k : EReal)) (fun _ => 1) n M L) {s : Fin N → EReal}
    (hs : ∀ k, s k = if k.val ≤ q then (r k.val : EReal) * (Real.log 2 : ℝ) else ⊥) {Mx l : EReal}
    (hMx : Mx = (Finset.univ : Finset (Fin N)).fold max ⊥ s) (hl : l = ∑ k : Fin N, Ideal.exp (s k - Mx)) :
    A * Ideal.div 1 L =
      ∑ k : Fin N, v k.val * (if k.val ≤ q then Ideal.div (Ideal.exp (s k - Mx)) l else 0) := by
  obtain ⟨μ, rfl⟩ := hA.real hq
  have hlog : 0 < Real.log 2 := Real.log_pos one_lt_two
  -- the reference's maximum
  have hMx' : Mx = ((μ * Real.log 2 : ℝ) : EReal) := by
    have hle : ∀ k : Fin N, s k ≤ Mx := fun k =>
      hMx ▸ (Finset.le_fold_max _).mpr (.inr ⟨k, Finset.mem_univ k, le_rfl⟩)
    have hup : Mx ≤ ((μ * Real.log 2 : ℝ) : EReal) := by
      rw [hMx]
      refine (Finset.fold_max_le _).mpr ⟨bot_le, fun k _ => ?_⟩
      rw [hs]
      split
      next hk =>
        have := hA.le k.val (by omega)
        rw [causal, if_pos hk, EReal.coe_le_coe_iff] at this
        rw [← EReal.coe_mul, EReal.coe_le_coe_iff]
        exact mul_le_mul_of_nonneg_right this hlog.le
      next => exact bot_le
    refine le_antisymm hup ?_
    have h0 : (r 0 : EReal) * (Real.log 2 : ℝ) ≤ Mx := by
      have := hle ⟨0, by omega⟩
      rwa [hs, if_pos (Nat.zero_le q)] at this
    rw [← EReal.coe_mul] at h0
    clear hMx hl
    induction Mx with
    | bot => exact absurd h0 (not_le.mpr (EReal.bot_lt_coe _))
    | top => exact le_top
    | coe x =>
      rw [EReal.coe_le_coe_iff]
      have := hA.least ((x / Real.log 2 : ℝ) : EReal) fun k hk => by
        unfold causal
        split
        next hkq =>
          have := hle ⟨k, by omega⟩
          rw [hs, if_pos hkq, ← EReal.coe_mul, EReal.coe_le_coe_iff] at this
          rw [EReal.coe_le_coe_iff, le_div_iff₀ hlog]
          exact this
        next => exact bot_le
      rw [EReal.coe_le_coe_iff, le_div_iff₀ hlog] at this
      exact this
  -- the reference's weights
  have he : ∀ k : Fin N, Ideal.exp (s k - Mx) = Ideal.exp2 (causal q (fun k => (r k : EReal)) k.val - μ) := fun k => by
    rw [hs, hMx']
    unfold causal
    split
    · exact exp_mul_log_two _ _
    · simp
  -- beyond the row's end there is nothing
  have hz : ∀ k, q < k → Ideal.exp2 (causal q (fun k => (r k : EReal)) k - (μ : EReal)) = 0 := fun k hk => by
    rw [causal, if_neg (by omega)]; simp
  have ext : ∀ f : ℕ → EReal, (∀ k, q < k → f k = 0) → ∑ k ∈ Finset.range n, f k = ∑ k : Fin N, f k.val := fun f hf => by
    rw [Fin.sum_univ_eq_sum_range f N]
    refine Finset.sum_subset (Finset.range_mono hn) fun k _ hk => hf k ?_
    have := Finset.mem_range.not.mp hk
    omega
  have hLl : L = l := by
    rw [hL.sum, hl, ext _ fun k hk => by rw [hz k hk, mul_zero]]
    exact Finset.sum_congr rfl fun k _ => by rw [he, one_mul]
  -- the sum of the weights is a positive real number
  have hpos : ∃ y : ℝ, 0 < y ∧ L = y := by
    refine ⟨∑ k ∈ Finset.range n, if k ≤ q then (2 : ℝ) ^ (r k - μ) else 0, ?_, ?_⟩
    · refine Finset.sum_pos' (fun k _ => ?_) ⟨0, Finset.mem_range.mpr (by omega), ?_⟩
      · split
        · exact (Real.rpow_pos_of_pos two_pos _).le
        · exact le_rfl
      · rw [if_pos (Nat.zero_le q)]
        exact Real.rpow_pos_of_pos two_pos _
    · rw [hL.sum, coe_sum]
      refine Finset.sum_congr rfl fun k _ => ?_
      rw [one_mul]
      unfold causal
      split
      · rw [← EReal.coe_sub, Ideal.exp2_coe]; rfl
      · simp
  obtain ⟨y, hy, hLy⟩ := hpos
  have hc0 : (0 : EReal) ≤ ((1 / y : ℝ) : EReal) := by exact_mod_cast (one_div_pos.mpr hy).le
  rw [← hLl, hLy, Ideal.div_coe hy.ne', one_mul, mul_comm, hA.sum, mul_sum _ hc0 (EReal.coe_ne_top _),
    ext _ fun k hk => by rw [hz k hk, mul_zero, mul_zero]]
  refine Finset.sum_congr rfl fun k _ => ?_
  split
  · rw [Ideal.div_coe hy.ne', he, mul_left_comm, mul_comm ((1 / y : ℝ) : EReal)]
  next hk => rw [hz _ (by omega), mul_zero, mul_zero]

end Cert.Mla.Softmax
-- ==== Proof.Block.lean ====
/-
  One step of the body at the extended reals, read at an index: a tile of scores, the running maximum, the accumulator and
  the block of the result.
-/
module

public import proofs.«01_k».proof.Proof.Sweep
public import proofs.«01_k».proof.Proof.Softmax
public import Idealize.ShloMosaic.Lib.Pointwise
public import Idealize.ShloMosaic.Lib.WordCmp
public import Idealize.ShloMosaic.Lib.Pipeline.ValueKit

@[expose] public section

set_option maxRecDepth 16384

noncomputable section

namespace Cert.Mla

open Idealize.ShloMosaic
open Cert.KernelIdeal (S1x8x128x256 S1x8x4096x128 S1x16x640x256 S1x512x256 S256x256 S1x1x256x128 S1x128x256 S1x256x256
  S1x1x80x256 S1x1x256 S1x80x256 S1x64x256 S8x128x256)
open Cert.KernelIdeal.Facts₀ Cert.KernelIdeal.Facts
open Cert.KernelIdeal (dot_S256x128_S128x256_S256x256_1_0_0_1_n_n dot_S80x256_S256x256_S80x256_1_0_0_1_n_n)
open scoped BigOperators

theorem bot_bits : Ideal.ofBits .f32 0xFF800000#32 = ⊥ := by
  simp [Ideal.ofBits, Ideal.ieee]

theorem scorePay_apply (K : Vec Ideal S1x1x256x128 .bf16) (Q : Vec Ideal S1x128x256 .bf16) (x y : Fin 256) :
    scorePay K Q (ix3 0 x y) = ∑ d : Fin 128, K (ix4 0 0 x d) * Q (ix3 0 d y) := by
  pointwise [scorePay]

theorem plain_apply (s : Vec Ideal S1x256x256 .f32) (x y : Fin 256) : plain s (ix2 x y) = s (ix3 0 x y) := by
  pointwise [plain]

theorem masked_apply (mask : Ideal .f32) (s : Vec Ideal S1x256x256 .f32) (x y : Fin 256) :
    masked mask s (ix2 x y) = if x.val ≤ y.val then s (ix3 0 x y) else mask := by
  pointwise [masked, keep, plain]
  rw [WordCmp.cmpi_sle_ofNat (by omega) (by omega), WordCmp.select_ofBool]
  simp only [decide_eq_true_eq]

theorem mPay_apply (s : FVec Ideal S256x256 .f32) (m : Vec Ideal S1x1x256 .f32) (y : Fin 256) :
    mPay s m (ix3 0 0 y) = max (m (ix3 0 0 y)) ((Finset.univ : Finset (Fin 256)).fold max ⊥ fun x => s (ix2 x y)) := by
  pointwise [mPay, maxPay]
  rw [bot_bits]

theorem accPay_apply (s : FVec Ideal S256x256 .f32) (v : Vec Ideal S1x1x80x256 .bf16) (m : Vec Ideal S1x1x256 .f32)
    (a : Vec Ideal S1x80x256 .f32) (r : Fin 80) (y : Fin 256) :
    accPay s v m a (ix3 0 r y) = Ideal.exp2 (m (ix3 0 0 y) - mPay s m (ix3 0 0 y)) * a (ix3 0 r y)
      + ∑ x : Fin 256, v (ix4 0 0 r x) * Ideal.exp2 (s (ix2 x y) - mPay s m (ix3 0 0 y)) := by
  pointwise [mPay, accPay]
  rfl

theorem outPay_apply (a : Vec Ideal S1x64x256 .f32) (l : Vec Ideal S1x1x256 .f32) (z : Vec Ideal S1x64x256 .bf16)
    (d : Fin 64) (y : Fin 256) :
    outPay a l z (ix3 0 d y) = a (ix3 0 d y) * Ideal.div 1 (l (ix3 0 0 y)) * z (ix3 0 d y) := by
  pointwise [outPay]

theorem kTile_apply (K : Vec Ideal S1x8x4096x128 .bf16) {n : ℕ} (hn : n + 256 ≤ 4096) (h : Fin 8) (x : Fin 256)
    (d : Fin 128) : kTile K hn h (ix4 0 0 x d) = K (ix4 0 h ⟨n + x.val, by omega⟩ d) := by
  unfold kTile
  blk_ext [kOff]

theorem vTile_apply (V : Vec Ideal S1x16x640x256 .bf16) {j : ℕ} (hj : j + 1 ≤ 16) (h : Fin 8) (r : Fin 80)
    (x : Fin 256) : vTile V hj h (ix4 0 0 r x) = V (ix4 0 ⟨j, by omega⟩ ⟨80 * h.val + r.val, by omega⟩ x) := by
  unfold vTile
  blk_ext [vOff]

theorem zHead_apply (Z : Vec Ideal S1x512x256 .bf16) (h : Fin 8) (d : Fin 64) (y : Fin 256) :
    zHead Z h (ix3 0 d y) = Z (ix3 0 ⟨64 * h.val + d.val, by omega⟩ y) := by
  unfold zHead
  blk_ext [oOff]

theorem qHead_apply (Q : Vec Ideal S1x8x128x256 .bf16) (h : Fin 8) (d : Fin 128) (y : Fin 256) :
    qHead Q h (ix3 0 d y) = Q (ix4 0 h d y) := by
  have e : (qRect h).emb (ix3 0 d y) = ix3 h d y := by blk_ext [hOff]
  have hs : S1x8x128x256.ShapeCasts S8x128x256 := by decide
  have r : shapeCast S8x128x256 Q hs (ix3 h d y) = Q (ix4 0 h d y) := by pointwise
  rw [← r, ← e]
  refine congrArg Q (funext fun a => Fin.ext ?_)
  fin_cases a <;> simp [Rect.unit, Rect.emb]

/-- A tile of scores of the sweep. -/
theorem sc_apply (Q : Vec Ideal S1x8x128x256 .bf16) (K : Vec Ideal S1x8x4096x128 .bf16) {j : ℕ} (hj : j < 16)
    (h : Fin 8) (x y : Fin 256) :
    sc Q K j h (ix3 0 x y) =
      ∑ d : Fin 128, K (ix4 0 h ⟨256 * j + x.val, by omega⟩ d) * Q (ix4 0 h d y) := by
  unfold sc scores
  rw [scorePay_apply]
  refine Finset.sum_congr rfl fun d _ => ?_
  rw [kTile_apply, qHead_apply]
  congr 1
  blk_ext

/-- The block of the result. -/
theorem outBlock_apply (ac : Fin 8 → Vec Ideal S1x80x256 .f32) (Z : Vec Ideal S1x512x256 .bf16) (h : Fin 8) (d : Fin 64)
    (y : Fin 256) :
    outBlock ac Z (ix3 0 ⟨64 * h.val + d.val, by omega⟩ y) =
      ac h (ix3 0 ⟨d.val, by omega⟩ y) * Ideal.div 1 (ac h (ix3 0 64 y)) *
        Z (ix3 0 ⟨64 * h.val + d.val, by omega⟩ y) := by
  have e1 : (⟨(64 * h.val + d.val) / 64, by omega⟩ : Fin 8) = h := Fin.ext (by simp only; omega)
  have e2 : (⟨(64 * h.val + d.val) % 64, by omega⟩ : Fin 64) = d := Fin.ext (by simp only; omega)
  show outPay (wRows (ac ⟨(64 * h.val + d.val) / 64, _⟩)) (lRow (ac ⟨(64 * h.val + d.val) / 64, _⟩))
    (zHead Z ⟨(64 * h.val + d.val) / 64, _⟩) (at3 ⟨(64 * h.val + d.val) % 64, _⟩ y) = _
  rw [e1, e2]
  show outPay _ _ _ (ix3 0 d y) = _
  rw [outPay_apply, zHead_apply]
  refine congrArg₂ (· * ·) (congrArg₂ (· * ·) ?_ (congrArg _ ?_)) rfl
  · refine congrArg (ac h) (funext fun a => Fin.ext ?_)
    fin_cases a
    · rfl
    · show 0 + d.val = d.val
      omega
    · rfl
  · refine congrArg (ac h) (funext fun a => Fin.ext ?_)
    fin_cases a <;> rfl

/-! ## A column of the sweep -/

section Column

variable (Q : Vec Ideal S1x8x128x256 .bf16) (K : Vec Ideal S1x8x4096x128 .bf16) (V : Vec Ideal S1x16x640x256 .bf16)
  (h : Fin 8) (y : Fin 256)

/-- Row `ρ` of head `h`'s values at each key position. -/
def valueRow (ρ : Fin 80) (k : ℕ) : EReal :=
  if hk : k < 4096 then V (ix4 0 ⟨k / 256, by omega⟩ ⟨80 * h.val + ρ.val, by omega⟩ ⟨k % 256, Nat.mod_lt _ (by omega)⟩)
  else 0

theorem vTile_row {j : ℕ} (hj : j + 1 ≤ 16) (ρ : Fin 80) (x : Fin 256) :
    vTile V hj h (ix4 0 0 ρ x) = valueRow V h ρ (256 * j + x.val) := by
  rw [vTile_apply, valueRow, dif_pos (by omega)]
  blk_ext

variable {r : ℕ → ℝ}
  (hr : ∀ k (hk : k < 4096), ∑ d : Fin 128, K (ix4 0 h ⟨k, hk⟩ d) * Q (ix4 0 h d y) = (r k : EReal))

/-- One tile of scores `g`, which reads as the row's scores at its positions. -/
theorem step_held {q j j' : ℕ} (e : j' = j) (hj : j' + 1 ≤ 16) (ρ : Fin 80) (g : FVec Ideal S256x256 .f32) (m : Vec Ideal S1x1x256 .f32)
    (a : Vec Ideal S1x80x256 .f32)
    (hg : ∀ x : Fin 256, g (ix2 x y) = Softmax.causal q (fun k => (r k : EReal)) (256 * j + x.val))
    (ih : Softmax.Held (Softmax.causal q fun k => (r k : EReal)) (valueRow V h ρ) (256 * j) (m (ix3 0 0 y))
      (a (ix3 0 ρ y))) :
    Softmax.Held (Softmax.causal q fun k => (r k : EReal)) (valueRow V h ρ) (256 * (j + 1)) (mPay g m (ix3 0 0 y))
      (accPay g (vTile V hj h) m a (ix3 0 ρ y)) := by
  subst e
  have st := ih.step (t := fun x : Fin 256 => g (ix2 x y)) (u := fun x : Fin 256 => vTile V hj h (ix4 0 0 ρ x)) hg
    (fun x => vTile_row V h hj ρ x) (mPay_apply g m y)
  rw [accPay_apply, show 256 * (j' + 1) = 256 * j' + 256 by omega]
  exact st

include hr

/-- After the tiles below `j`, all of them before the query's own tile `i`: the maximum and each row of the accumulator. -/
theorem run_held {i : ℕ} (hi : i < 16) (ρ : Fin 80) (j : ℕ) (hj : j ≤ i) :
    Softmax.Held (Softmax.causal (256 * i + y.val) fun k => (r k : EReal)) (valueRow V h ρ) (256 * j)
      ((run (⊥ : Ideal .f32) Q K V j).1 h (ix3 0 0 y)) ((run (⊥ : Ideal .f32) Q K V j).2 h (ix3 0 ρ y)) := by
  induction j with
  | zero =>
    have e : (run (⊥ : Ideal .f32) Q K V 0).2 h (ix3 0 ρ y) = (0 : EReal) := Ideal.ofBits_zero_f32
    have e' : (run (⊥ : Ideal .f32) Q K V 0).1 h (ix3 0 0 y) = (⊥ : EReal) := rfl
    rw [e, e', Nat.mul_zero]
    exact Softmax.Held.zero _ _
  | succ j ih =>
    have hj16 : j < 16 := by omega
    refine step_held V h y (Nat.mod_eq_of_lt hj16) (row_ok j) ρ (plain (sc Q K j h)) _ _ (fun x => ?_) (ih (by omega))
    rw [plain_apply, sc_apply Q K hj16, hr, Softmax.causal, if_pos (by omega)]

/-- After the query's own tile. -/
theorem last_held {i : ℕ} (hi : i < 16) (ρ : Fin 80) :
    Softmax.Held (Softmax.causal (256 * i + y.val) fun k => (r k : EReal)) (valueRow V h ρ) (256 * (i + 1))
      (lastM (⊥ : Ideal .f32) Q K V i h (ix3 0 0 y)) (lastA (⊥ : Ideal .f32) Q K V i h (ix3 0 ρ y)) := by
  refine step_held V h y (Nat.mod_eq_of_lt hi) (row_ok i) ρ (masked (⊥ : Ideal .f32) (sc Q K i h)) _ _ (fun x => ?_)
    (run_held Q K V h y hr hi ρ i le_rfl)
  rw [masked_apply, sc_apply Q K hi, hr, Softmax.causal]
  by_cases hx : x.val ≤ y.val
  · rw [if_pos hx, if_pos (by omega)]
  · rw [if_neg hx, if_neg (by omega)]

end Column

end Cert.Mla
-- ==== Proof.Reference.lean ====
/-
  What the reference computes, read at an index: the causal softmax of the scores times `log 2`, summed against the values
  and times the gate.
-/
module

public import proofs.«01_k».proof.Proof.Gen.ReferenceIdeal.Run
public import Idealize.ShloMosaic.Lib.Pointwise
public import Idealize.ShloMosaic.Lib.WordCmp
public import Idealize.ShloMosaic.Lib.Pipeline.ValueKit

@[expose] public section

set_option maxRecDepth 16384

noncomputable section

namespace Cert.ReferenceIdeal.Reading

open Cert.ReferenceIdeal Cert.ReferenceIdeal.Gen
open Idealize.ShloMosaic
open Cert.ReferenceIdeal.Facts
open scoped BigOperators

/-- The causal mask, of a query and a key position. -/
def maskT : IVec S4x8x4096x4096 1 :=
  broadcastInDim S4x8x4096x4096 ![2, 3] bcast_S4096x4096_S4x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The masked scores. -/
def scoreT (q : FVec Ideal S4x8x128x4096 .bf16) (k : FVec Ideal S4x8x4096x128 .bf16) : FVec Ideal S4x8x4096x4096 .f32 :=
  select maskT (mulf (Host.dotGeneral dot_S4x8x128x4096_S4x8x4096x128_S4x8x4096x4096_2_3_3_2_01_01 none q k) (broadcastInDim S4x8x4096x4096 ![] bcast_S_S4x8x4096x4096 (Host.log (constant S_ .f32 0x40000000#32)))) (broadcastInDim S4x8x4096x4096 ![] bcast_S_S4x8x4096x4096 (id (constant S_ .f32 0xFF800000#32)))

/-- The greatest score of a query. -/
def maxT (s : FVec Ideal S4x8x4096x4096 .f32) : FVec Ideal S4x8x4096 .f32 :=
  maximumf (broadcastInDim S4x8x4096 ![] bcast_S_S4x8x4096 (constant S_ .f32 0xFF800000#32)) (Host.reduce FloatOps.maximumf s (constant S_ .f32 0xFF800000#32) reducesTo_S4x8x4096x4096_S4x8x4096_d3 h_S_)

/-- The weights relative to it. -/
def expT (s : FVec Ideal S4x8x4096x4096 .f32) : FVec Ideal S4x8x4096x4096 .f32 :=
  Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (maxT s))))

/-- The sum of a query's weights. -/
def sumT (e : FVec Ideal S4x8x4096x4096 .f32) : FVec Ideal S4x8x4096 .f32 :=
  Host.reduceAdd e (constant S_ .f32 0x00000000#32) reducesTo_S4x8x4096x4096_S4x8x4096_d3 h_S_

/-- The softmax, zero where masked. -/
def probT (e : FVec Ideal S4x8x4096x4096 .f32) : FVec Ideal S4x8x4096x4096 .f32 :=
  select maskT (Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2 (sumT e)))) (broadcastInDim S4x8x4096x4096 ![] bcast_S_S4x8x4096x4096 (id (constant S_ .f32 0x00000000#32)))

/-- The values, of a head and a key position. -/
def valueT (v : FVec Ideal S4x16x640x256 .bf16) : FVec Ideal S4x8x4096x64 .bf16 :=
  shapeCast _ (transpose S4x8x16x256x64 [0, 2, 1, 4, 3] (extractStridedSlice S4x16x8x64x256 ![0, 0, 0, 0, 0] (shapeCast _ v shapeCasts_S4x16x640x256_S4x16x8x80x256) slices_S4x16x8x80x256_S4x16x8x64x256_0_0_0_0_0) transposes_S4x16x8x64x256_S4x8x16x256x64_0_2_1_4_3) shapeCasts_S4x8x16x256x64_S4x8x4096x64

/-- The whole. -/
def outT (p : FVec Ideal S4x8x4096x4096 .f32) (v : FVec Ideal S4x8x4096x64 .bf16) (z : FVec Ideal S4x512x4096 .bf16) :
    FVec Ideal S4x512x4096 .bf16 :=
  truncf .bf16 (mulf (shapeCast _ (Host.dotGeneral dot_S4x8x4096x64_S4x8x4096x4096_S4x8x64x4096_2_3_3_2_01_01 none v (truncf .bf16 p bitsLt_bf16_f32)) shapeCasts_S4x8x64x4096_S4x512x4096) (extf .f32 z bitsLt_bf16_f32)) bitsLt_bf16_f32

theorem res_eq (m : (ℓ : Loc nD τ sig) → Buf (Elt Ideal) ℓ) (c : Dev nD) :
    Value.res_out0 m c = outT (probT (expT (scoreT (m ((c.tc : Thread nD τ).loc main_arg0)) (m ((c.tc : Thread nD τ).loc main_arg1)))))
      (valueT (m ((c.tc : Thread nD τ).loc main_arg2))) (m ((c.tc : Thread nD τ).loc main_arg3)) := rfl

theorem maskT_apply (b : Fin 4) (h : Fin 8) (q k : Fin 4096) :
    maskT (ix4 b h q k) = BitVec.ofBool (decide (k.val ≤ q.val)) := by
  pointwise [maskT]
  rw [WordCmp.cmpi_sle_ofNat (by omega) (by omega)]

theorem bot_bits : Ideal.ofBits .f32 0xFF800000#32 = ⊥ := by
  simp [Ideal.ofBits, Ideal.ieee]

theorem two_bits : Ideal.ofBits .f32 0x40000000#32 = ((2 : ℝ) : EReal) := by
  simp [Ideal.ofBits, Ideal.ieee, -EReal.coe_mul]
  norm_num

theorem log_two : Ideal.log (Ideal.ofBits .f32 0x40000000#32) = ((Real.log 2 : ℝ) : EReal) := by
  rw [two_bits]
  simp

theorem scoreT_apply (q : FVec Ideal S4x8x128x4096 .bf16) (k : FVec Ideal S4x8x4096x128 .bf16) (b : Fin 4) (h : Fin 8)
    (i j : Fin 4096) : scoreT q k (ix4 b h i j) =
      if j.val ≤ i.val then (∑ d : Fin 128, q (ix4 b h d i) * k (ix4 b h j d)) * (Real.log 2 : ℝ) else ⊥ := by
  unfold scoreT
  show Scalar.select (maskT _) _ _ = _
  rw [maskT_apply, WordCmp.select_ofBool]
  pointwise
  by_cases hj : j.val ≤ i.val
  · simp only [hj, decide_true, if_true]
    rw [log_two]
  · simp only [hj, decide_false, if_false, Bool.false_eq_true]
    exact bot_bits

/-- A host maximum along the last of four axes. -/
theorem reduceMax_last {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel) (a : Fin n0) (b : Fin n1)
    (c : Fin n2) : Host.reduce FloatOps.maximumf x init h hu (ix3 a b c) =
      (Finset.univ : Finset (Fin n3)).fold max (init (Shape.Idx.first hu)) fun j => x (ix4 a b c j) := by
  rw [Ideal.maximumf_eq_max, Host.reduce_eq_fold, Shape.ReducesTo.fold_fiber_r4_a3]
  rfl

theorem maximumf_at {t : Shape} (a b : FVec Ideal t .f32) (j : t.Idx) : maximumf a b j = max (a j) (b j) := rfl

theorem constant_bot {t : Shape} (j : t.Idx) : constant (F := Ideal) t .f32 0xFF800000#32 j = ⊥ := bot_bits

theorem splat_bot {t u : Shape} {d : Fin u.rank → Fin t.rank} (hd : u.BroadcastsInDim t d) (j : t.Idx) :
    broadcastInDim t d hd (constant (F := Ideal) u .f32 0xFF800000#32) j = ⊥ := bot_bits

theorem maxT_apply (s : FVec Ideal S4x8x4096x4096 .f32) (b : Fin 4) (h : Fin 8) (i : Fin 4096) :
    maxT s (ix3 b h i) = (Finset.univ : Finset (Fin 4096)).fold max ⊥ fun j => s (ix4 b h i j) := by
  unfold maxT
  rw [maximumf_at, reduceMax_last, constant_bot, splat_bot]
  exact max_eq_right bot_le

theorem expT_apply (s : FVec Ideal S4x8x4096x4096 .f32) (b : Fin 4) (h : Fin 8) (i j : Fin 4096) :
    expT s (ix4 b h i j) = Ideal.exp (s (ix4 b h i j) - maxT s (ix3 b h i)) := by
  pointwise [expT]

theorem sumT_apply (e : FVec Ideal S4x8x4096x4096 .f32) (b : Fin 4) (h : Fin 8) (i : Fin 4096) :
    sumT e (ix3 b h i) = ∑ j : Fin 4096, e (ix4 b h i j) := by
  pointwise [sumT]

theorem probT_apply (e : FVec Ideal S4x8x4096x4096 .f32) (b : Fin 4) (h : Fin 8) (i j : Fin 4096) :
    probT e (ix4 b h i j) = if j.val ≤ i.val then Ideal.div (e (ix4 b h i j)) (sumT e (ix3 b h i)) else 0 := by
  unfold probT
  show Scalar.select (maskT _) _ _ = _
  rw [maskT_apply, WordCmp.select_ofBool]
  pointwise
  by_cases hj : j.val ≤ i.val
  · simp only [hj, decide_true, if_true]
  · simp only [hj, decide_false, if_false, Bool.false_eq_true]
    exact Ideal.ofBits_zero_f32

theorem valueT_apply (v : FVec Ideal S4x16x640x256 .bf16) (b : Fin 4) (h : Fin 8) (j : Fin 4096) (d : Fin 64) :
    valueT v (ix4 b h j d) = v (ix4 b ⟨j.val / 256, by omega⟩ ⟨80 * h.val + d.val, by omega⟩ ⟨j.val % 256, by omega⟩) := by
  pointwise [valueT]
  blk_ext

theorem outT_apply (p : FVec Ideal S4x8x4096x4096 .f32) (v : FVec Ideal S4x8x4096x64 .bf16)
    (z : FVec Ideal S4x512x4096 .bf16) (b : Fin 4) (h : Fin 8) (d : Fin 64) (i : Fin 4096) :
    outT p v z (ix3 b ⟨64 * h.val + d.val, by omega⟩ i) =
      (∑ j : Fin 4096, v (ix4 b h j d) * p (ix4 b h i j)) * z (ix3 b ⟨64 * h.val + d.val, by omega⟩ i) := by
  pointwise [outT]

end Cert.ReferenceIdeal.Reading
-- ==== Proof.Equation.lean ====
/-
  The equation: a block of the kernel's result is the reference's at the block's place, for finite queries and keys and with
  ones in the values' row of ones.
-/
module

public import proofs.«01_k».proof.Proof.Block
public import proofs.«01_k».proof.Proof.Reference

@[expose] public section

set_option maxRecDepth 16384

noncomputable section

namespace Cert.Mla

open Idealize.ShloMosaic
open Cert.KernelIdeal (S1x8x128x256 S1x8x4096x128 S1x16x640x256 S1x512x256)
open Cert.ReferenceIdeal (S4x8x128x4096 S4x8x4096x128 S4x16x640x256 S4x512x4096)
open Cert.ReferenceIdeal.Reading
open scoped BigOperators

/-- What the reference computes of its arguments. -/
def attention (q : FVec Ideal S4x8x128x4096 .bf16) (k : FVec Ideal S4x8x4096x128 .bf16)
    (v : FVec Ideal S4x16x640x256 .bf16) (z : FVec Ideal S4x512x4096 .bf16) : FVec Ideal S4x512x4096 .bf16 :=
  outT (probT (expT (scoreT q k))) (valueT v) z

/-- A sum of products of real numbers is real. -/
theorem dot_real {n : ℕ} {f g : Fin n → EReal} (hf : ∀ d, ∃ r : ℝ, f d = r) (hg : ∀ d, ∃ r : ℝ, g d = r) :
    ∃ r : ℝ, ∑ d, f d * g d = r := by
  choose a ha using hf
  choose b hb using hg
  refine ⟨∑ d, a d * b d, ?_⟩
  rw [Softmax.coe_sum]
  exact Finset.sum_congr rfl fun d _ => by rw [ha, hb, EReal.coe_mul]

/-- Block `(b, i)` of the kernel's result is the reference's: batch entry `b`, queries from `256 * i`. -/
theorem block_eq {q : FVec Ideal S4x8x128x4096 .bf16} {k : FVec Ideal S4x8x4096x128 .bf16}
    {v : FVec Ideal S4x16x640x256 .bf16} {z : FVec Ideal S4x512x4096 .bf16}
    {Q : Vec Ideal S1x8x128x256 .bf16} {K : Vec Ideal S1x8x4096x128 .bf16} {V : Vec Ideal S1x16x640x256 .bf16}
    {Z : Vec Ideal S1x512x256 .bf16} (b : Fin 4) {i : ℕ} (hi : i < 16)
    (hQ : ∀ h d (y : Fin 256), Q (ix4 0 h d y) = q (ix4 b h d ⟨256 * i + y.val, by omega⟩))
    (hK : ∀ h n d, K (ix4 0 h n d) = k (ix4 b h n d)) (hV : ∀ j r x, V (ix4 0 j r x) = v (ix4 b j r x))
    (hZ : ∀ r (y : Fin 256), Z (ix3 0 r y) = z (ix3 b r ⟨256 * i + y.val, by omega⟩))
    (hq : ∀ x, ∃ r : ℝ, q x = r) (hk : ∀ x, ∃ r : ℝ, k x = r)
    (h1 : ∀ j (h : Fin 8) x, v (ix4 b j ⟨80 * h.val + 64, by omega⟩ x) = 1) (h : Fin 8) (d : Fin 64) (y : Fin 256) :
    outBlock (lastA (⊥ : Ideal .f32) Q K V i) Z (ix3 0 ⟨64 * h.val + d.val, by omega⟩ y) =
      attention q k v z (ix3 b ⟨64 * h.val + d.val, by omega⟩ ⟨256 * i + y.val, by omega⟩) := by
  have ex : ∀ n, ∃ r : ℝ, ∀ hn : n < 4096, ∑ d : Fin 128, K (ix4 0 h ⟨n, hn⟩ d) * Q (ix4 0 h d y) = (r : EReal) := fun n => by
    by_cases hn : n < 4096
    · obtain ⟨r, hr⟩ := dot_real (f := fun d : Fin 128 => K (ix4 0 h ⟨n, hn⟩ d)) (g := fun d => Q (ix4 0 h d y))
        (fun d => by rw [hK]; exact hk _) (fun d => by rw [hQ]; exact hq _)
      exact ⟨r, fun _ => hr⟩
    · exact ⟨0, fun hn' => absurd hn' hn⟩
  choose r hr using ex
  have hA := last_held Q K V h y hr hi ⟨d.val, by omega⟩
  have hL' := last_held Q K V h y hr hi 64
  have hL : Softmax.Held (Softmax.causal (256 * i + y.val) fun k => (r k : EReal)) (fun _ => 1) (256 * (i + 1))
      (lastM (⊥ : Ideal .f32) Q K V i h (ix3 0 0 y)) (lastA (⊥ : Ideal .f32) Q K V i h (ix3 0 64 y)) :=
    ⟨hL'.le, hL'.least, hL'.sum.trans (Finset.sum_congr rfl fun n hn => by
      have hn' := Finset.mem_range.mp hn
      rw [valueRow, dif_pos (by omega), hV]
      exact congrArg (· * _) (h1 _ h _))⟩
  have eq := Softmax.softmax_eq (N := 4096) (by omega) (by omega) hA hL
    (s := fun j => scoreT q k (ix4 b h ⟨256 * i + y.val, by omega⟩ j))
    (fun j => by
      rw [scoreT_apply, ← hr j.val j.isLt]
      by_cases hj : j.val ≤ 256 * i + y.val
      · rw [if_pos hj, if_pos hj]
        refine congrArg (· * _) (Finset.sum_congr rfl fun d _ => ?_)
        rw [hK, hQ, mul_comm]
      · rw [if_neg hj, if_neg hj])
    (maxT_apply _ _ _ _).symm.symm rfl
  rw [outBlock_apply, hZ, attention, outT_apply]
  refine congrArg (· * _) (eq.trans (Finset.sum_congr rfl fun j _ => ?_))
  rw [valueRow, dif_pos j.isLt, hV, valueT_apply, probT_apply, sumT_apply]
  simp only [expT_apply]

end Cert.Mla
-- ==== Proof.Result.lean ====
/-
  The kernel's result array after the run: every block is the reference's.
-/
module

public import proofs.«01_k».proof.Proof.RunKernelIdeal
public import proofs.«01_k».proof.Proof.Equation

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ)

/-- The mask is the least extended real. -/
theorem mask_eq : (mask : Ideal .f32) = (⊥ : EReal) := rfl

/-- The blocks of a grid point, read from the arguments. -/
theorem iblk_q (c : Dev nD) (t : Fin cfg0.N) (hb : t.val / 16 < 4) (h : Fin 8) (d : Fin 128) (y : Fin 256) :
    iblk m c 0 t (ix4 0 h d y) = m ((c.tc : Thread nD τ).loc main_arg0)
      (ix4 ⟨t.val / 16, hb⟩ h d ⟨256 * (t.val % 16) + y.val, by omega⟩) := by
  obtain ⟨e, -⟩ := idx t
  blk_ext [iblk, e]

theorem iblk_k (c : Dev nD) (t : Fin cfg0.N) (hb : t.val / 16 < 4) (h : Fin 8) (n : Fin 4096) (d : Fin 128) :
    iblk m c 2 t (ix4 0 h n d) = m ((c.tc : Thread nD τ).loc main_arg1) (ix4 ⟨t.val / 16, hb⟩ h n d) := by
  obtain ⟨-, -, e, -⟩ := idx t
  blk_ext [iblk, e]

theorem iblk_v (c : Dev nD) (t : Fin cfg0.N) (hb : t.val / 16 < 4) (j : Fin 16) (r : Fin 640) (x : Fin 256) :
    iblk m c 3 t (ix4 0 j r x) = m ((c.tc : Thread nD τ).loc main_arg2) (ix4 ⟨t.val / 16, hb⟩ j r x) := by
  obtain ⟨-, -, -, e, -⟩ := idx t
  blk_ext [iblk, e]

theorem iblk_z (c : Dev nD) (t : Fin cfg0.N) (hb : t.val / 16 < 4) (r : Fin 512) (y : Fin 256) :
    iblk m c 4 t (ix3 0 r y) = m ((c.tc : Thread nD τ).loc main_arg3)
      (ix3 ⟨t.val / 16, hb⟩ r ⟨256 * (t.val % 16) + y.val, by omega⟩) := by
  obtain ⟨-, -, -, -, e, -⟩ := idx t
  blk_ext [iblk, e]

/-- The result array after the run, for finite queries and keys and a row of ones. -/
theorem result_eq (c : Dev nD) (hq : ∀ x, ∃ r : ℝ, m ((c.tc : Thread nD τ).loc main_arg0) x = (r : EReal))
    (hk : ∀ x, ∃ r : ℝ, m ((c.tc : Thread nD τ).loc main_arg1) x = (r : EReal))
    (h1 : ∀ (b : Fin 4) (j : Fin 16) (h : Fin 8) (x : Fin 256),
      m ((c.tc : Thread nD τ).loc main_arg2) (ix4 b j ⟨80 * h.val + 64, by omega⟩ x) = (1 : EReal)) :
    (dats m 0 c).arrAt 5 (cfgs 0).N = Mla.attention (m ((c.tc : Thread nD τ).loc main_arg0))
      (m ((c.tc : Thread nD τ).loc main_arg1)) (m ((c.tc : Thread nD τ).loc main_arg2))
      (m ((c.tc : Thread nD τ).loc main_arg3)) := by
  refine (dats m 0 c).arrAt_eq_of_covers 5 _ (by decide +kernel) fun t hf y => ?_
  have hb : t.val / 16 < 4 := by have : t.val < 64 := t.isLt; omega
  have hi : t.val % 16 < 16 := Nat.mod_lt _ (by omega)
  obtain ⟨-, -, -, -, -, e⟩ := idx t
  blk_simp
  rw [after_5, outAt, mask_eq]
  obtain ⟨a, r, x, rfl⟩ : ∃ (a : Fin 1) (r : Fin 512) (x : Fin 256), y = ix3 a r x := ⟨y 0, y 1, y 2, eq_ix3 y⟩
  obtain rfl : a = 0 := Subsingleton.elim _ _
  obtain ⟨h, d, rfl⟩ : ∃ (h : Fin 8) (d : Fin 64), r = ⟨64 * h.val + d.val, by omega⟩ :=
    ⟨⟨r.val / 64, by omega⟩, ⟨r.val % 64, by omega⟩, Fin.ext (by simp only; omega)⟩
  have ey : (win0_5.blk t).view.emb (ix3 0 ⟨64 * h.val + d.val, by omega⟩ x) =
      ix3 ⟨t.val / 16, hb⟩ ⟨64 * h.val + d.val, by omega⟩ ⟨256 * (t.val % 16) + x.val, by omega⟩ := by
    blk_ext [e]
  rw [ey]
  exact Mla.block_eq ⟨t.val / 16, hb⟩ hi (iblk_q m c t hb) (iblk_k m c t hb) (iblk_v m c t hb) (iblk_z m c t hb) hq hk
    (h1 _) h d x

end Cert.KernelIdeal.Hand
-- ==== Proof.RunOutputIdeal.lean ====
/-
  The run of the output projection, of its ideal program: every grid point's step from its blocks and the ring of row blocks of
  the residual input, and what the step leaves in the result's block.
-/
module

public import proofs.«01_k».proof.Proof.Gen.Kernel2Ideal.Frame.Runs
public import Idealize.ShloMosaic.Lib.Claim
public import Idealize.ShloMosaic.Lib.Pipeline.ValueKit
public import Idealize.ShloMosaic.Lib.WholeRead

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What a step stores -/

/-- The block of the residual input that point `t` reads: the ring's slot holding block `t` of the array. -/
def rowsRead (c : Dev nD) (t : Fin cfg0.N) (fh : HbBuf0 (F := F) c hbM0_0) : Vec F S1x1024x1024 .f32 :=
  View.readAt (Elt F) scM0_0.view
    (Rect.unit (s := S3x1024x1024) (k0_off10 (grid0.coords t)) S1x1024x1024.size (k0_off10_inb (grid0.coords t))).toLoadRect
    (landed0_0 c fh (Ring.sl 3 t.val) (Ring.bk 16 t.val) (rslot0_0 (Ring.sl 3 t.val)).view.junk)

/-- The result's block of point `t`, from the blocks of the two head groups, the weights, the modulation and the gain. -/
def stored (c : Dev nD) (t : Fin cfg0.N) (x0 x1 : Vec F S1x512x1024 .bf16) (x2 : Vec F S1024x1024 .bf16)
    (x3 : Vec F S3x4x1024 .f32) (x4 : Vec F S1x1024 .f32) (fh : HbBuf0 (F := F) c hbM0_0) : Vec F S1x1024x1024 .f32 :=
  k0_pay1
    (k0_pay2 (fun x => x0 ((Rect.unit (s := S1x512x1024) ![0, 0, 0] S1x512x1024.size inb_S1x512x1024_S1x512x1024_0_0_0).toLoadRect.idx x))
      (fun x => x2 ((Rect.unit (s := S1024x1024) ![0, 0] S512x1024.size inb_S1024x1024_S512x1024_0_0).toLoadRect.idx x))
      (fun x => x1 ((Rect.unit (s := S1x512x1024) ![0, 0, 0] S1x512x1024.size inb_S1x512x1024_S1x512x1024_0_0_0).toLoadRect.idx x))
      (fun x => x2 ((Rect.unit (s := S1024x1024) ![512, 0] S512x1024.size inb_S1024x1024_S512x1024_512_0).toLoadRect.idx x)))
    (rowsRead c t fh)
    (fun x => x3 ((Rect.unit (s := S3x4x1024) (k0_off11 (grid0.coords t)) S1x1x1024.size (k0_off11_inb (grid0.coords t))).toLoadRect.idx x))
    (fun x => x4 ((Rect.unit (s := S1x1024) ![0, 0] S1x1024.size inb_S1x1024_S1x1024_0_0).toLoadRect.idx x))

/-- A load from a whole buffer that reads `X` picks `X`'s entries. -/
theorem load_eq {κ : Kind} {sp : Space} {s : Shape} {e : EltTy} {M : Memref sig κ sp s e} (h : M.IsWhole) (X : s.Idx → Elt F e) (B : LoadRect s) :
    View.readAt (Elt F) M.view B (h.unread X) = fun x => X (B.idx x) :=
  funext (h.readAt_unread X B)

/-- A store over a whole buffer is what the buffer reads afterwards. -/
theorem read_store {κ : Kind} {sp : Space} {s : Shape} {e : EltTy} (v : View sig κ sp s e) (f : v.ty.Contents (Elt F)) (off : Fin s.rank → ℕ)
    (h : ∀ a, off a = 0) (inb : ∀ a, off a + s.size a ≤ s.size a) (w : s.Idx → Elt F e) :
    v.read (Elt F) (v.writes (Elt F) f [⟨Rect.unit (s := s) off s.size inb, w⟩]) = w := by
  funext y
  have e : (Rect.unit (s := s) off s.size inb).emb y = y := by
    funext a
    apply Fin.ext
    rw [Rect.emb_apply]
    show off a + 1 * (y a : ℕ) = y a
    rw [h a]; omega
  have hr := View.read_writes_cons_emb (v := v) (f := f) (Rect.unit (s := s) off s.size inb) w [] y
  rw [e] at hr
  exact hr

/-- The stored block from the parts the run names. -/
theorem stored_eq (c : Dev nD) (t : Fin cfg0.N) (x0 x1 : Vec F S1x512x1024 .bf16) (x2 : Vec F S1024x1024 .bf16)
    (x3 : Vec F S3x4x1024 .f32) (x4 : Vec F S1x1024 .f32) (fh : HbBuf0 (F := F) c hbM0_0)
    (a : FVec F S1024x1024 .f32) (b : Vec F S1x1024x1024 .f32) (y3 : Vec F S1x1x1024 .f32) (y4 : Vec F S1x1024 .f32)
    (ha : a = k0_pay2 (fun x => x0 ((Rect.unit (s := S1x512x1024) ![0, 0, 0] S1x512x1024.size inb_S1x512x1024_S1x512x1024_0_0_0).toLoadRect.idx x))
      (fun x => x2 ((Rect.unit (s := S1024x1024) ![0, 0] S512x1024.size inb_S1024x1024_S512x1024_0_0).toLoadRect.idx x))
      (fun x => x1 ((Rect.unit (s := S1x512x1024) ![0, 0, 0] S1x512x1024.size inb_S1x512x1024_S1x512x1024_0_0_0).toLoadRect.idx x))
      (fun x => x2 ((Rect.unit (s := S1024x1024) ![512, 0] S512x1024.size inb_S1024x1024_S512x1024_512_0).toLoadRect.idx x)))
    (hb : b = rowsRead c t fh)
    (h3 : y3 = fun x => x3 ((Rect.unit (s := S3x4x1024) (k0_off11 (grid0.coords t)) S1x1x1024.size (k0_off11_inb (grid0.coords t))).toLoadRect.idx x))
    (h4 : y4 = fun x => x4 ((Rect.unit (s := S1x1024) ![0, 0] S1x1024.size inb_S1x1024_S1x1024_0_0).toLoadRect.idx x)) :
    k0_pay1 a b y3 y4 = stored c t x0 x1 x2 x3 x4 fh := by
  subst ha hb h3 h4; rfl

/-! ## The step at a point, by what the ring holds -/

/-- A run of the body at point `t`: from the blocks and the ring's pieces `pre` to the stored block and the pieces `post`. -/
def Step (c : Dev nD) (t : Fin cfg0.N) (fh : HbBuf0 (F := F) c hbM0_0) (pre post : sProp 𝕄) : Prop :=
  ∀ (arg3 : Memref sig .tc .vmem S1x512x1024 .bf16) (harg3 : arg3.IsWhole) (arg4 : Memref sig .tc .vmem S1x512x1024 .bf16) (harg4 : arg4.IsWhole)
    (arg5 : Memref sig .tc .vmem S1024x1024 .bf16) (harg5 : arg5.IsWhole) (arg6 : Memref sig .tc .vmem S3x4x1024 .f32) (harg6 : arg6.IsWhole)
    (arg7 : Memref sig .tc .vmem S1x1024 .f32) (harg7 : arg7.IsWhole) (arg8 : Memref sig .tc .vmem S1x1024x1024 .f32) (harg8 : arg8.IsWhole)
    (x0 x1 : Vec F S1x512x1024 .bf16) (x2 : Vec F S1024x1024 .bf16) (x3 : Vec F S3x4x1024 .f32) (x4 : Vec F S1x1024 .f32)
    (W : Waits sig Unit) (K : PUnit → sProp 𝕄),
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ pre ∗ owes (c : Thread nD τ) 0 W
        ∗ (iprop(owns (c : Thread nD τ) arg3 fullShare x0 ∗ owns (c : Thread nD τ) arg4 fullShare x1 ∗ owns (c : Thread nD τ) arg5 fullShare x2
          ∗ owns (c : Thread nD τ) arg6 fullShare x3 ∗ owns (c : Thread nD τ) arg7 fullShare x4
          ∗ (∃ f w, ⌜w = stored c t x0 x1 x2 x3 x4 fh⌝ ∗ arg8.view.loc (c : Thread nD τ) ↦[arg8.view.set]{fullShare} arg8.view.writes (Elt F) f
              [⟨Rect.unit (s := S1x1024x1024) ![0, 0, 0] S1x1024x1024.size inb_S1x1024x1024_S1x1024x1024_0_0_0, w⟩])
          ∗ post ∗ (∃ W', owes (c : Thread nD τ) 0 W')) -∗ K ⟨⟩))
      ⊢ wp frame (wpE (defs₀ (F := F)) Variants.none c none) Set.univ
          (cc0_out_proj (grid0.coords t) (Memref.whole main_arg0) (Memref.isWhole_whole _) arg3 harg3 arg4 harg4 arg5 harg5 arg6 harg6 arg7 harg7
            arg8 harg8 scM0_0 (Memref.isWhole_whole _) cc0_scratch1) K

set_option maxHeartbeats 1000000 in
/-- The first point starts blocks 0, 1 and 2 of the array and reads block 0. -/
theorem run_first (c : Dev nD) (t : Fin cfg0.N) (fh : HbBuf0 (F := F) c hbM0_0) (hc0 : cond0_0 (grid0.coords t)) (hc1 : cond0_1 (grid0.coords t)) :
    Step c t fh
      iprop(Ring.free (cellP0_0 c) (slotW0_0 c fh) (Ring.sl 3 t.val) ∗ Ring.free (cellP0_0 c) (slotW0_0 c fh) (Ring.sl 3 (t.val + 1)) ∗ Ring.free (cellP0_0 c) (slotW0_0 c fh) (Ring.sl 3 (t.val + 2)))
      iprop(Ring.inflight (flightW0_0 c fh) (Ring.sl 3 (t.val + 1)) (Ring.bk 16 (t.val + 1)) ∗ Ring.inflight (flightW0_0 c fh) (Ring.sl 3 (t.val + 2)) (Ring.bk 16 (t.val + 2)) ∗ Ring.free (cellP0_0 c) (slotW0_0 c fh) (Ring.sl 3 t.val)) := by
  intro arg3 harg3 arg4 harg4 arg5 harg5 arg6 harg6 arg7 harg7 arg8 harg8 x0 x1 x2 x3 x4 W K
  haveI : Fact (cond0_0 (grid0.coords t)) := ⟨hc0⟩
  haveI : Fact (cond0_1 (grid0.coords t)) := ⟨hc1⟩
  rw [cc0_out_proj_eq_skeleton]; unfold cc0_out_proj_skel
  rw [k0_part1_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨⟨Hc0, ⟨%fs0, Hs0, Hw0⟩⟩, ⟨Hc1, ⟨%fs1, Hs1, Hw1⟩⟩, ⟨Hc2, ⟨%fs2, Hs2, Hw2⟩⟩⟩, HW, Hk⟩
  ihave Hsp0 := (src0_0_split c fh (Ring.sl 3 t.val) (Ring.bk 16 t.val)).1 $$ Hw0
  icases Hsp0 with ⟨Hh0, Hr0⟩
  ihave Hsp1 := (src0_0_split c fh (Ring.sl 3 (t.val + 1)) (Ring.bk 16 (t.val + 1))).1 $$ Hw1
  icases Hsp1 with ⟨Hh1, Hr1⟩
  ihave Hsp2 := (src0_0_split c fh (Ring.sl 3 (t.val + 2)) (Ring.bk 16 (t.val + 2))).1 $$ Hw2
  icases Hsp2 with ⟨Hh2, Hr2⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc0 | sl_exact hc1)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]
  · iexists _, _; isplitr
    swap; · iexact H5
    ipureintro
    refine stored_eq c t x0 x1 x2 x3 x4 fh _ _ _ _ ?_ ?_ (load_eq harg6 x3 _) (load_eq harg7 x4 _)
    · unfold run_first.sl.r
      rw [load_eq harg3, load_eq harg4, load_eq harg5, load_eq harg5]; rfl
    · unfold run_first.sl.v33 rowsRead landed0_0; rfl
  isplitl [Hc0 Hs0 Hh0 Hr0 Hc1 Hr1 Hc2 Hr2]
  · isplitl [Hc1 Hr1]; · iexists _; isplitl [Hc1]; · iexact Hc1
                         iexact Hr1
    isplitl [Hc2 Hr2]; · iexists _; isplitl [Hc2]; · iexact Hc2
                         iexact Hr2
    isplitl [Hc0]; · iexact Hc0
    iexists _; isplitl [Hs0]; · iexact Hs0
    iapply (src0_0_split c fh (Ring.sl 3 t.val) (Ring.bk 16 t.val)).2; isplitl [Hh0]; · iexact Hh0
    iexact Hr0
  iexists _; iexact HW

set_option maxHeartbeats 1000000 in
/-- A middle point starts the block two ahead and reads its own. -/
theorem run_middle (c : Dev nD) (t : Fin cfg0.N) (fh : HbBuf0 (F := F) c hbM0_0) (hc0 : ¬cond0_0 (grid0.coords t)) (hc1 : cond0_1 (grid0.coords t)) :
    Step c t fh
      iprop(Ring.inflight (flightW0_0 c fh) (Ring.sl 3 t.val) (Ring.bk 16 t.val) ∗ Ring.inflight (flightW0_0 c fh) (Ring.sl 3 (t.val + 1)) (Ring.bk 16 (t.val + 1)) ∗ Ring.free (cellP0_0 c) (slotW0_0 c fh) (Ring.sl 3 (t.val + 2)))
      iprop(Ring.inflight (flightW0_0 c fh) (Ring.sl 3 (t.val + 1)) (Ring.bk 16 (t.val + 1)) ∗ Ring.inflight (flightW0_0 c fh) (Ring.sl 3 (t.val + 2)) (Ring.bk 16 (t.val + 2)) ∗ Ring.free (cellP0_0 c) (slotW0_0 c fh) (Ring.sl 3 t.val)) := by
  intro arg3 harg3 arg4 harg4 arg5 harg5 arg6 harg6 arg7 harg7 arg8 harg8 x0 x1 x2 x3 x4 W K
  haveI : Fact (¬cond0_0 (grid0.coords t)) := ⟨hc0⟩
  haveI : Fact (cond0_1 (grid0.coords t)) := ⟨hc1⟩
  rw [cc0_out_proj_eq_skeleton]; unfold cc0_out_proj_skel
  rw [k0_part1_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨⟨%ff0, Hf0, Hrf0⟩, ⟨%ff1, Hf1, Hrf1⟩, ⟨Hc2, ⟨%fs2, Hs2, Hw2⟩⟩⟩, HW, Hk⟩
  ihave Hsp2 := (src0_0_split c fh (Ring.sl 3 (t.val + 2)) (Ring.bk 16 (t.val + 2))).1 $$ Hw2
  icases Hsp2 with ⟨Hh2, Hr2⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc0 | sl_exact hc1)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]
  · iexists _, _; isplitr
    swap; · iexact H5
    ipureintro
    refine stored_eq c t x0 x1 x2 x3 x4 fh _ _ _ _ ?_ ?_ (load_eq harg6 x3 _) (load_eq harg7 x4 _)
    · unfold run_middle.sl.r
      rw [load_eq harg3, load_eq harg4, load_eq harg5, load_eq harg5]; rfl
    · unfold run_middle.sl.v33 rowsRead landed0_0; rfl
  isplitl [Hf0 Hf0_dst Hf0_src Hrf0 Hf1 Hrf1 Hc2 Hr2]
  · isplitl [Hf1 Hrf1]; · iexists ff1; isplitl [Hf1]; · iexact Hf1
                          iexact Hrf1
    isplitl [Hc2 Hr2]; · iexists _; isplitl [Hc2]; · iexact Hc2
                         iexact Hr2
    isplitl [Hf0]; · iexact Hf0
    iexists _; isplitl [Hf0_dst]; · iexact Hf0_dst
    iapply (src0_0_split c fh (Ring.sl 3 t.val) (Ring.bk 16 t.val)).2; isplitl [Hf0_src]; · iexact Hf0_src
    iexact Hrf0
  iexists _; iexact HW

set_option maxHeartbeats 1000000 in
/-- The last two points start nothing and read their own block. -/
theorem run_last (c : Dev nD) (t : Fin cfg0.N) (fh : HbBuf0 (F := F) c hbM0_0) (hc0 : ¬cond0_0 (grid0.coords t)) (hc1 : ¬cond0_1 (grid0.coords t)) :
    Step c t fh
      iprop(Ring.inflight (flightW0_0 c fh) (Ring.sl 3 t.val) (Ring.bk 16 t.val) ∗ Ring.slotAt 2 (cellP0_0 c) (slotW0_0 c fh) (flightW0_0 c fh) t.val 1 ∗ Ring.free (cellP0_0 c) (slotW0_0 c fh) (Ring.sl 3 (t.val + 2)))
      iprop(Ring.slotAt 2 (cellP0_0 c) (slotW0_0 c fh) (flightW0_0 c fh) t.val 1 ∗ Ring.free (cellP0_0 c) (slotW0_0 c fh) (Ring.sl 3 (t.val + 2)) ∗ Ring.free (cellP0_0 c) (slotW0_0 c fh) (Ring.sl 3 t.val)) := by
  intro arg3 harg3 arg4 harg4 arg5 harg5 arg6 harg6 arg7 harg7 arg8 harg8 x0 x1 x2 x3 x4 W K
  haveI : Fact (¬cond0_0 (grid0.coords t)) := ⟨hc0⟩
  haveI : Fact (¬cond0_1 (grid0.coords t)) := ⟨hc1⟩
  rw [cc0_out_proj_eq_skeleton]; unfold cc0_out_proj_skel
  rw [k0_part1_eq_skeleton]
  unfold owns Ring.free Ring.inflight
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨⟨%ff0, Hf0, Hrf0⟩, Hro, ⟨Hc2, ⟨%fs2, Hs2, Hw2⟩⟩⟩, HW, Hk⟩
  obtain rfl := harg3.eq_unread hf0; obtain rfl := harg4.eq_unread hf1; obtain rfl := harg5.eq_unread hf2
  obtain rfl := harg6.eq_unread hf3; obtain rfl := harg7.eq_unread hf4
  sl_exec (disch := first | sl_exact hc0 | sl_exact hc1)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]
  · iexists _, _; isplitr
    swap; · iexact H5
    ipureintro
    refine stored_eq c t x0 x1 x2 x3 x4 fh _ _ _ _ ?_ ?_ (load_eq harg6 x3 _) (load_eq harg7 x4 _)
    · unfold run_last.sl.r
      rw [load_eq harg3, load_eq harg4, load_eq harg5, load_eq harg5]; rfl
    · unfold run_last.sl.v33 rowsRead landed0_0; rfl
  isplitl [Hf0 Hf0_dst Hf0_src Hrf0 Hro Hc2 Hs2 Hw2]
  · isplitl [Hro]; · iexact Hro
    isplitl [Hc2 Hs2 Hw2]; · isplitl [Hc2]; · iexact Hc2
                             iexists _; isplitl [Hs2]; · iexact Hs2
                             iexact Hw2
    isplitl [Hf0]; · iexact Hf0
    iexists _; isplitl [Hf0_dst]; · iexact Hf0_dst
    iapply (src0_0_split c fh (Ring.sl 3 t.val) (Ring.bk 16 t.val)).2; isplitl [Hf0_src]; · iexact Hf0_src
    iexact Hrf0
  iexists _; iexact HW

/-! ## The proof data -/

/-- What is kept between points: the register and the ring before point `k`. -/
def kept (c : Dev nD) (k : ℕ) : sProp 𝕄 := iprop((∃ r, prngReg c r) ∗ ringAt0_0 c (V m c main_arg0) k)

/-- The result's block of point `t`. -/
def outAt (c : Dev nD) (t : Fin cfg0.N) : Vec F S1x1024x1024 .f32 :=
  stored c t (iblk m c 0 t) (iblk m c 1 t) (iblk m c 2 t) (iblk m c 3 t) (iblk m c 4 t) (V m c main_arg0)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := kept m c t.val
  q _ := fullShare
  owed _ := 0

theorem A_eq (c : Dev nD) (w : Fin cfg0.W) : (dats m 0 c).A w = V m c (Pipeline.arrRef spec0 w) := by
  dsimp only [dats]
theorem kept_castSucc (c : Dev nD) (t : Fin cfg0.N) : (dats m 0 c).Φ t.castSucc = kept m c t.val := by
  dsimp only [dats]; simp only [Fin.coe_castSucc]
theorem kept_succ (c : Dev nD) (t : Fin cfg0.N) : (dats m 0 c).Φ t.succ = kept m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## A point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

/-- A point's step from a run of its body: the ring before the point gives `pre`, and `post` is the ring after it. -/
theorem sound_of (c : Dev nD) (t : Fin cfg0.N) {pre post : sProp 𝕄} (h : Step c t (V m c main_arg0) pre post)
    (hpre : ringAt0_0 c (V m c main_arg0) t.val ⊢ pre) (hpost : post ⊢ ringAt0_0 c (V m c main_arg0) (t.val + 1)) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [after_0, after_1, after_2, after_3, after_4, after_5]
  rw [kept_castSucc m c t, kept_succ m c t]
  unfold Dat.owesAt Pipeline.owesWithin
  rw [show (dats m 0 c).owed t.castSucc = 0 from rfl, show (dats m 0 c).owed t.succ = 0 from rfl]
  unfold kept outAt
  iintro ⟨⟨Hg, Hring⟩, ⟨%W, -, HW⟩, ⟨%d0, H0⟩, ⟨%d1, H1⟩, ⟨%d2, H2⟩, ⟨%d3, H3⟩, ⟨%d4, H4⟩, ⟨%d5, H5⟩⟩
  iapply (h _ _ _ _ _ _ _ _ _ _ _ _ (iblk m c 0 t) (iblk m c 1 t) (iblk m c 2 t) (iblk m c 3 t) (iblk m c 4 t) W _)
  isplitl [H0]; · iexact H0
  isplitl [H1]; · iexact H1
  isplitl [H2]; · iexact H2
  isplitl [H3]; · iexact H3
  isplitl [H4]; · iexact H4
  isplitl [H5]; · iexists _; iexact H5
  isplitl [Hring]; · iapply hpre; iexact Hring
  isplitl [HW]; · iexact HW
  iintro ⟨H0, H1, H2, H3, H4, ⟨%e5, %w5, %hw5, H5⟩, Hpost, ⟨%W', HW'⟩⟩
  isplitl [Hg Hpost]
  · isplitl [Hg]; · iexact Hg
    iapply hpost; iexact Hpost
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact (read_store _ _ _ (by decide) _ _).trans hw5

/-- The step of any point: the first starts the ring, the last two start nothing more. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0 <;> by_cases h1 : t.val < 14
  · obtain ⟨e, -⟩ := rstep0_0_A t ((hcond0_0 t).mpr h0) ((hcond0_1 t).mpr h1)
    refine sound_of m c t (run_first c t _ ((hcond0_0 t).mpr h0) ((hcond0_1 t).mpr h1)) ?_ ?_ <;> unfold ringAt0_0
    · rw [if_pos e, Ring.At₀_eq3' _ _ _ t.val e (by decide : 3 ≤ 16)]
      iintro ⟨-, H⟩; iexact H
    · rw [if_neg (by omega), Ring.At3_one' _ _ _ _ t.val e (by decide : 3 ≤ 16)]
      exact Ring.with_homes (Idealize.SL.BI.Entails.refl _)
  · have := t.isLt
    have : cfg0.N = 16 := N_0
    exfalso; omega
  · obtain ⟨e, eB, -⟩ := rstep0_0_B t (fun h => h0 ((hcond0_0 t).mp h)) ((hcond0_1 t).mpr h1)
    refine sound_of m c t (run_middle c t _ (fun h => h0 ((hcond0_0 t).mp h)) ((hcond0_1 t).mpr h1)) ?_ ?_ <;> unfold ringAt0_0
    · rw [if_neg (by omega), Ring.At3_here _ _ _ _ t.val eB]
      iintro ⟨-, H⟩; iexact H
    · rw [if_neg (by omega), Ring.At3_next _ _ _ _ t.val eB, Ring.slotAt3_next0 _ _ _ t.val (by omega), Ring.slotAt3_next1 _ _ _ t.val eB]
      exact Ring.with_homes (Idealize.SL.BI.Entails.refl _)
  · obtain ⟨e, eB, el, -⟩ := rstep0_0_C t (fun h => h0 ((hcond0_0 t).mp h)) (fun h => h1 ((hcond0_1 t).mp h))
    refine sound_of m c t (run_last c t _ (fun h => h0 ((hcond0_0 t).mp h)) (fun h => h1 ((hcond0_1 t).mp h))) ?_ ?_ <;> unfold ringAt0_0
    · rw [if_neg (by omega), Ring.At3_here_tail _ _ _ _ t.val el]
      iintro ⟨-, H⟩; iexact H
    · rw [if_neg (by omega), Ring.At3_next_tail _ _ _ _ t.val eB el, Ring.slotAt3_tail_role _ _ _ t.val]
      exact Ring.with_homes (Idealize.SL.BI.Entails.refl _)

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-- The launch's slots, cells and array are the ring before the first point. -/
theorem kept_in (c : Dev nD) : Pipeline.ΦD osem0 spec0 H0 (V m) c ⊢ (dats m 0 c).Φ 0 := by
  rw [PhiD0_eq, show (dats m 0 c).Φ 0 = kept m c 0 from rfl]
  unfold kept
  iintro ⟨Hs, Hg, Hq, Hh⟩
  isplitl [Hg]; · iexact Hg
  iapply (ring0_0_in (F := F) m c)
  isplitl [Hs]; · iexact Hs
  isplitl [Hq]; · iexact Hq
  iexact Hh

/-- After the last point they are given back. -/
theorem kept_out (c : Dev nD) : (dats m 0 c).Φ (Fin.last cfg0.N) ⊢ Pipeline.ΦD osem0 spec0 H0 (V m) c := by
  rw [PhiD0_eq, show (dats m 0 c).Φ (Fin.last cfg0.N) = kept m c grid0.N from rfl]
  unfold kept
  rw [show grid0.N = 16 by rw [N_0]]
  iintro ⟨Hg, Hring⟩
  ihave H := (ring0_0_out (F := F) m c) $$ Hring
  icases H with ⟨Hs, Hq, Hh⟩
  isplitl [Hs]; · iexact Hs
  isplitl [Hg]; · iexact Hg
  isplitl [Hq]; · iexact Hq
  iexact Hh

/-! ## The run and the frame -/

set_option backward.isDefEq.respectTransparency.types false in
/-- The run, every semaphore's counter at zero at the end. -/
theorem run_main_quiescent : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := kept_in m) (hout := kept_out m)

theorem run_main : θ_run defs (onTc (τ := τ) (main (F := F))) (s₀ m ρ) (Pipeline.FramePost cfgs (dats m) 0 (V m)) :=
  (θ_run defs _ _).mono (fun _ h => h.1) (run_main_quiescent m ρ)

/-- The call ends with its arguments unchanged and every semaphore's counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel2Ideal.Hand

end
-- ==== Proof.OutputReference.lean ====
/-
  What the reference of the output projection computes, read at an index: the residual input plus the modulated product of
  the two head groups' outputs with the weights, normed over its last axis.
-/
module

public import proofs.«01_k».proof.Proof.Gen.Reference2Ideal.Run
public import Idealize.ShloMosaic.Lib.Pointwise
public import Idealize.ShloMosaic.Lib.Pipeline.ValueKit

@[expose] public section

set_option maxRecDepth 16384

noncomputable section

/-! ## The mathematics, of an array's indices -/

namespace OutProj

open Idealize.ShloMosaic
open scoped BigOperators

local notation "Rows" => FVec Ideal ⟨3, ![4, 4096, 1024]⟩ FTy.f32
local notation "Heads" => FVec Ideal ⟨3, ![4, 512, 4096]⟩ FTy.bf16
local notation "Weights" => FVec Ideal ⟨2, ![1024, 1024]⟩ FTy.f32
local notation "Mods" => FVec Ideal ⟨3, ![3, 4, 1024]⟩ FTy.f32
local notation "Gain" => FVec Ideal ⟨1, ![1024]⟩ FTy.f32

/-- The residual stream after the layer. -/
def stream (x : Rows) (n a : Heads) (w : Weights) (o : Mods) (b : Fin 4) (s : Fin 4096) (d : Fin 1024) : EReal :=
  x (ix3 b s d) + o (ix3 2 b d) * ((∑ k : Fin 512, n (ix3 b k s) * w (ix2 ⟨k.val, by omega⟩ d))
    + ∑ k : Fin 512, a (ix3 b k s) * w (ix2 ⟨512 + k.val, by omega⟩ d))

/-- A row over its root mean square. -/
def normed (r : Fin 1024 → EReal) (g : EReal) (d : Fin 1024) : EReal :=
  r d * Ideal.rsqrt (Ideal.div (∑ j : Fin 1024, r j * r j) (Ideal.ofBits .f32 0x44800000#32) + Ideal.ofBits .f32 0x358637BD#32) * g

/-- The result. -/
def result (x : Rows) (n a : Heads) (w : Weights) (o : Mods) (g : Gain) : Rows := fun i =>
  normed (stream x n a w o (i 0) (i 1)) (g (ix1 (i 2))) (i 2)

theorem result_apply (x : Rows) (n a : Heads) (w : Weights) (o : Mods) (g : Gain) (b : Fin 4) (s : Fin 4096) (d : Fin 1024) :
    result x n a w o g (ix3 b s d) = normed (stream x n a w o b s) (g (ix1 d)) d := rfl

/-- A sum over 1024 terms is the sum over the first 512 and over the last 512. -/
theorem sum_halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

end OutProj

/-! ## The reference -/

namespace Cert.Reference2Ideal.Reading

open Cert.Reference2Ideal Cert.Reference2Ideal.Gen
open Idealize.ShloMosaic
open Cert.Reference2Ideal.Facts
open scoped BigOperators

/-- The two groups' outputs, a row per position. -/
def mixedT (n a : FVec Ideal S4x512x4096 .bf16) : FVec Ideal S4x4096x1024 .f32 :=
  extf .f32 (transpose S4x4096x1024 [0, 2, 1] (concatenate S4x1024x4096 1 [⟨S4x512x4096, n⟩, ⟨S4x512x4096, a⟩] concatenates_S4x512x4096_S4x512x4096_S4x1024x4096_d1) transposes_S4x1024x4096_S4x4096x1024_0_2_1) bitsLt_bf16_f32

/-- The residual stream after the layer. -/
def streamT (x : FVec Ideal S4x4096x1024 .f32) (y : FVec Ideal S4x4096x1024 .f32) (w : FVec Ideal S1024x1024 .f32) (o : FVec Ideal S3x4x1024 .f32) :
    FVec Ideal S4x4096x1024 .f32 :=
  addf x (mulf (broadcastInDim S4x4096x1024 ![0, 1, 2] bcast_S4x1x1024_S4x4096x1024_0_1_2 (broadcastInDim S4x1x1024 ![0, 2] bcast_S4x1024_S4x1x1024_0_2 (shapeCast _ (extractStridedSlice S1x4x1024 ![2, 0, 0] o slices_S3x4x1024_S1x4x1024_2_0_0) shapeCasts_S1x4x1024_S4x1024))) (Host.dotGeneral dot_S4x4096x1024_S1024x1024_S4x4096x1024_2_0_01_1_n_n none y w))

/-- The sum of the squares of each row. -/
def squaresT (z : FVec Ideal S4x4096x1024 .f32) : FVec Ideal S4x4096 .f32 :=
  Host.reduceAdd (mulf z z) (constant S_ .f32 0x00000000#32) reducesTo_S4x4096x1024_S4x4096_d2 h_S_

/-- The norm, from the rows and the sums of their squares. -/
def normT (z : FVec Ideal S4x4096x1024 .f32) (q : FVec Ideal S4x4096 .f32) (g : FVec Ideal S1024 .f32) : FVec Ideal S4x4096x1024 .f32 :=
  mulf (mulf z (broadcastInDim S4x4096x1024 ![0, 1, 2] bcast_S4x4096x1_S4x4096x1024_0_1_2 (Host.rsqrt (addf (Host.divf (broadcastInDim S4x4096x1 ![0, 1] bcast_S4x4096_S4x4096x1_0_1 q) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

theorem mixedT_low (n a : FVec Ideal S4x512x4096 .bf16) (b : Fin 4) (s : Fin 4096) (k : Fin 512) :
    mixedT n a (ix3 b s ⟨k.val, by omega⟩) = n (ix3 b k s) := by
  pointwise [mixedT]

theorem mixedT_high (n a : FVec Ideal S4x512x4096 .bf16) (b : Fin 4) (s : Fin 4096) (k : Fin 512) :
    mixedT n a (ix3 b s ⟨512 + k.val, by omega⟩) = a (ix3 b k s) := by
  pointwise [mixedT]

theorem streamT_apply (x y : FVec Ideal S4x4096x1024 .f32) (w : FVec Ideal S1024x1024 .f32) (o : FVec Ideal S3x4x1024 .f32)
    (b : Fin 4) (s : Fin 4096) (d : Fin 1024) : streamT x y w o (ix3 b s d) =
      x (ix3 b s d) + o (ix3 2 b d) * ∑ k : Fin 1024, y (ix3 b s k) * w (ix2 k d) := by
  pointwise [streamT]

theorem squaresT_apply (z : FVec Ideal S4x4096x1024 .f32) (b : Fin 4) (s : Fin 4096) :
    squaresT z (ix2 b s) = ∑ j : Fin 1024, z (ix3 b s j) * z (ix3 b s j) := by
  pointwise [squaresT]

theorem normT_apply (z : FVec Ideal S4x4096x1024 .f32) (q : FVec Ideal S4x4096 .f32) (g : FVec Ideal S1024 .f32)
    (b : Fin 4) (s : Fin 4096) (d : Fin 1024) : normT z q g (ix3 b s d) =
      z (ix3 b s d) * Ideal.rsqrt (Ideal.div (q (ix2 b s)) (Ideal.ofBits .f32 0x44800000#32) + Ideal.ofBits .f32 0x358637BD#32) * g (ix1 d) := by
  pointwise [normT]

/-- The reference's result is `OutProj.result`. -/
theorem out_eq (x : FVec Ideal S4x4096x1024 .f32) (n a : FVec Ideal S4x512x4096 .bf16) (w : FVec Ideal S1024x1024 .f32)
    (o : FVec Ideal S3x4x1024 .f32) (g : FVec Ideal S1024 .f32) :
    normT (streamT x (mixedT n a) w o) (squaresT (streamT x (mixedT n a) w o)) g = OutProj.result x n a w o g := by
  have hs : ∀ (b : Fin 4) (s : Fin 4096) (d : Fin 1024), streamT x (mixedT n a) w o (ix3 b s d) = OutProj.stream x n a w o b s d := by
    intro b s d
    rw [streamT_apply, OutProj.sum_halves]
    simp only [mixedT_low, mixedT_high]
    rfl
  funext i
  obtain ⟨b, s, d, rfl⟩ : ∃ (b : Fin 4) (s : Fin 4096) (d : Fin 1024), i = ix3 b s d := ⟨i 0, i 1, i 2, eq_ix3 i⟩
  rw [OutProj.result_apply, normT_apply, squaresT_apply]
  simp only [hs]
  rfl

end Cert.Reference2Ideal.Reading
-- ==== Proof.OutputValue.lean ====
/-
  What the output projection's kernel computes, read at an index: a step's stored block, and the result array after the
  run.
-/
module

public import proofs.«01_k».proof.Proof.RunOutputIdeal
public import proofs.«01_k».proof.Proof.OutputReference
public import Idealize.ShloMosaic.Lib.ValueLayout

@[expose] public section

set_option maxRecDepth 16384

noncomputable section

namespace Cert.Kernel2Ideal.Hand

open Cert.Kernel2Ideal Cert.Kernel2Ideal.Gen
open Idealize.ShloMosaic Idealize.ShloMosaic.TcCoe
open scoped BigOperators

/-- The two products of a step. -/
theorem pay2_apply (n a : Vec Ideal S1x512x1024 .bf16) (u v : Vec Ideal S512x1024 .bf16) (x d : Fin 1024) :
    k0_pay2 n u a v (ix2 x d) =
      (∑ k : Fin 512, n (ix3 0 k x) * u (ix2 k d)) + ∑ k : Fin 512, a (ix3 0 k x) * v (ix2 k d) := by
  pointwise [k0_pay2]

/-- The norm of a step's rows. -/
theorem pay1_apply (y : FVec Ideal S1024x1024 .f32) (z : Vec Ideal S1x1024x1024 .f32) (o : Vec Ideal S1x1x1024 .f32)
    (g : Vec Ideal S1x1024 .f32) (x d : Fin 1024) : k0_pay1 y z o g (ix3 0 x d) =
      OutProj.normed (fun j => z (ix3 0 x j) + o (ix3 0 0 j) * y (ix2 x j)) (g (ix2 0 d)) d := by
  pointwise [k0_pay1, OutProj.normed]

/-- The rows a step reads are block `t` of the residual input. -/
theorem rowsRead_apply (c : Dev nD) (t : Fin cfg0.N) (hb : t.val / 4 < 4) (fh : HbBuf0 (F := Ideal) c hbM0_0) (x d : Fin 1024) :
    rowsRead c t fh (ix3 0 x d) = fh (ix3 ⟨t.val / 4, hb⟩ ⟨1024 * (t.val % 4) + x.val, by omega⟩ d) := by
  have ht : t.val < 16 := t.isLt
  have eb : (Ring.bk 16 t.val).val = t.val := by
    revert t; decide +kernel
  have er : Shape.reshapeEquiv squeezes_S1x1024x1024_S1024x1024.numel_eq (ix2 x d) = ix3 (0 : Fin 1) x d :=
    ValueIdx.reshapeEquiv_ix2_1ab _ x d
  have e1 : rowsRead c t fh (ix3 0 x d) = (rslot0_0 (Ring.sl 3 t.val)).view.read (Elt Ideal)
      (landed0_0 c fh (Ring.sl 3 t.val) (Ring.bk 16 t.val) (rslot0_0 (Ring.sl 3 t.val)).view.junk) (ix2 x d) := by
    unfold rowsRead
    generalize landed0_0 c fh (Ring.sl 3 t.val) (Ring.bk 16 t.val) (rslot0_0 (Ring.sl 3 t.val)).view.junk = f
    have eo := coff0_0_13 t
    show (f : S3x1024x1024.Idx → EReal) ((Rect.unit (s := S3x1024x1024) (k0_off10 (grid0.coords t)) S1x1024x1024.size (k0_off10_inb (grid0.coords t))).emb (ix3 0 x d))
      = f ((rslot0_0 (Ring.sl 3 t.val)).view.emb (ix2 x d))
    refine congrArg f ?_
    show (Rect.unit (s := S3x1024x1024) (k0_off10 (grid0.coords t)) S1x1024x1024.size (k0_off10_inb (grid0.coords t))).emb (ix3 0 x d)
      = (Rect.unit (s := S3x1024x1024) ![(Ring.sl 3 t.val).val, 0, 0] S1x1024x1024.size (inb_slot0_0 _)).emb
        (Shape.reshapeEquiv squeezes_S1x1024x1024_S1024x1024.numel_eq (ix2 x d))
    rw [er]
    blk_ext [eo]
  have e2 : (srcB0_0 (Ring.bk 16 t.val)).view.read (Elt Ideal) fh (ix2 x d) =
      fh (ix3 ⟨t.val / 4, hb⟩ ⟨1024 * (t.val % 4) + x.val, by omega⟩ d) := by
    show (fh : S4x4096x1024.Idx → EReal) ((srcB0_0 (Ring.bk 16 t.val)).view.emb (ix2 x d)) = _
    refine congrArg fh ?_
    show (Rect.unit (s := S4x4096x1024) ![(Ring.bk 16 t.val).val / 4, 1024 * ((Ring.bk 16 t.val).val % 4), 0] S1x1024x1024.size (inb_src0_0 _)).emb
        (Shape.reshapeEquiv squeezes_S1x1024x1024_S1024x1024.numel_eq (ix2 x d)) = _
    rw [er]
    blk_ext [eb]
  rw [e1, ← e2]
  exact congrFun (View.read_writes_whole _ _ _) (ix2 x d)

/-! ## The blocks of a point, read from the arguments -/

variable (m : (ℓ : Loc nD τ sig) → Buf (Elt Ideal) ℓ)

theorem idx (t : Fin cfg0.N) : win0_0.index t = ![t.val / 4, 0, t.val % 4] ∧ win0_1.index t = ![t.val / 4, 0, t.val % 4] ∧
    win0_2.index t = ![0, 0] ∧ win0_3.index t = ![0, 0, 0] ∧ win0_4.index t = ![0, 0] ∧
    win0_5.index t = ![t.val / 4, t.val % 4, 0] := by
  revert t; decide +kernel

theorem modOff (t : Fin cfg0.N) : k0_off11 (grid0.coords t) = ![2, t.val / 4, 0] := by
  revert t; decide +kernel

theorem iblk_n (c : Dev nD) (t : Fin cfg0.N) (hb : t.val / 4 < 4) (k : Fin 512) (x : Fin 1024) :
    iblk m c 0 t (ix3 0 k x) = m ((c.tc : Thread nD τ).loc main_arg1)
      (ix3 ⟨t.val / 4, hb⟩ k ⟨1024 * (t.val % 4) + x.val, by omega⟩) := by
  obtain ⟨e, -⟩ := idx t
  blk_ext [iblk, e]

theorem iblk_a (c : Dev nD) (t : Fin cfg0.N) (hb : t.val / 4 < 4) (k : Fin 512) (x : Fin 1024) :
    iblk m c 1 t (ix3 0 k x) = m ((c.tc : Thread nD τ).loc main_arg2)
      (ix3 ⟨t.val / 4, hb⟩ k ⟨1024 * (t.val % 4) + x.val, by omega⟩) := by
  obtain ⟨-, e, -⟩ := idx t
  blk_ext [iblk, e]

/-- The host's cast of the weights. -/
theorem V_w (c : Dev nD) : V m c main_v0 = m ((c.tc : Thread nD τ).loc main_arg3) := rfl

/-- The host's reshape of the gain. -/
theorem V_g (c : Dev nD) (d : Fin 1024) : (V m c main_v1 : FVec Ideal S1x1024 .f32) (ix2 0 d) = m ((c.tc : Thread nD τ).loc main_arg5) (ix1 d) := by
  show shapeCast S1x1024 (m ((c.tc : Thread nD τ).loc main_arg5) : FVec Ideal S1024 .f32) shapeCasts_S1024_S1x1024 (ix2 0 d) = _
  pointwise

theorem iblk_w (c : Dev nD) (t : Fin cfg0.N) (k d : Fin 1024) :
    iblk m c 2 t (ix2 k d) = m ((c.tc : Thread nD τ).loc main_arg3) (ix2 k d) := by
  obtain ⟨-, -, e, -⟩ := idx t
  rw [← V_w m c]
  blk_ext [iblk, e]

theorem iblk_o (c : Dev nD) (t : Fin cfg0.N) (j : Fin 3) (b : Fin 4) (d : Fin 1024) :
    iblk m c 3 t (ix3 j b d) = m ((c.tc : Thread nD τ).loc main_arg4) (ix3 j b d) := by
  obtain ⟨-, -, -, e, -⟩ := idx t
  blk_ext [iblk, e]

theorem iblk_g (c : Dev nD) (t : Fin cfg0.N) (d : Fin 1024) :
    iblk m c 4 t (ix2 0 d) = m ((c.tc : Thread nD τ).loc main_arg5) (ix1 d) := by
  obtain ⟨-, -, -, -, e, -⟩ := idx t
  rw [← V_g m c]
  blk_ext [iblk, e]

/-- A load's index is the rectangle's. -/
theorem idx_emb {s : Shape} (r : Rect s) (y : r.shape.Idx) : r.toLoadRect.idx y = r.emb y := rfl

/-- A step's stored block, from its blocks' entries. -/
theorem stored_apply (c : Dev nD) (t : Fin cfg0.N) (hb : t.val / 4 < 4) (n a : Vec Ideal S1x512x1024 .bf16) (w : Vec Ideal S1024x1024 .bf16)
    (o : Vec Ideal S3x4x1024 .f32) (g : Vec Ideal S1x1024 .f32) (fh : FVec Ideal S4x4096x1024 .f32) (x d : Fin 1024) :
    stored c t n a w o g fh (ix3 0 x d) = OutProj.normed (fun j =>
      fh (ix3 ⟨t.val / 4, hb⟩ ⟨1024 * (t.val % 4) + x.val, by omega⟩ j) + o (ix3 2 ⟨t.val / 4, hb⟩ j) *
        ((∑ k : Fin 512, n (ix3 0 k x) * w (ix2 ⟨k.val, by omega⟩ j)) + ∑ k : Fin 512, a (ix3 0 k x) * w (ix2 ⟨512 + k.val, by omega⟩ j)))
      (g (ix2 0 d)) d := by
  have eo := modOff t
  unfold stored
  rw [pay1_apply]
  simp only [pay2_apply, rowsRead_apply c t hb]
  have e3 : ∀ j : Fin 1024, (Rect.unit (s := S3x4x1024) (k0_off11 (grid0.coords t)) S1x1x1024.size (k0_off11_inb (grid0.coords t))).toLoadRect.idx
      (ix3 0 0 j) = ix3 2 ⟨t.val / 4, hb⟩ j := by
    intro j; rw [idx_emb]; blk_ext [eo]
  have e4 : (Rect.unit (s := S1x1024) ![0, 0] S1x1024.size inb_S1x1024_S1x1024_0_0).toLoadRect.idx (ix2 0 d) = ix2 0 d := by
    rw [idx_emb]; blk_ext
  have eh : ∀ k : Fin 512, (Rect.unit (s := S1x512x1024) ![0, 0, 0] S1x512x1024.size inb_S1x512x1024_S1x512x1024_0_0_0).toLoadRect.idx (ix3 0 k x)
      = ix3 0 k x := by
    intro k; rw [idx_emb]; blk_ext
  have el : ∀ (k : Fin 512) (j : Fin 1024), (Rect.unit (s := S1024x1024) ![0, 0] S512x1024.size inb_S1024x1024_S512x1024_0_0).toLoadRect.idx (ix2 k j)
      = ix2 ⟨k.val, by omega⟩ j := by
    intro k j; rw [idx_emb]; blk_ext
  have eu : ∀ (k : Fin 512) (j : Fin 1024), (Rect.unit (s := S1024x1024) ![512, 0] S512x1024.size inb_S1024x1024_S512x1024_512_0).toLoadRect.idx (ix2 k j)
      = ix2 ⟨512 + k.val, by omega⟩ j := by
    intro k j; rw [idx_emb]; blk_ext
  simp only [e3, e4, eh, el, eu]

/-- The result array after the run. -/
theorem result_eq (c : Dev nD) : (dats m 0 c).arrAt 5 (cfgs 0).N = OutProj.result (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := by
  refine (dats m 0 c).arrAt_eq_of_covers 5 _ (by decide +kernel) fun t hf y => ?_
  have hb : t.val / 4 < 4 := by have : t.val < 16 := t.isLt; omega
  obtain ⟨-, -, -, -, -, e⟩ := idx t
  blk_simp
  rw [after_5, outAt]
  obtain ⟨z, x, d, rfl⟩ : ∃ (z : Fin 1) (x : Fin 1024) (d : Fin 1024), y = ix3 z x d := ⟨y 0, y 1, y 2, eq_ix3 y⟩
  obtain rfl : z = 0 := Subsingleton.elim _ _
  have ey : (win0_5.blk t).view.emb (ix3 0 x d) = ix3 ⟨t.val / 4, hb⟩ ⟨1024 * (t.val % 4) + x.val, by omega⟩ d := by
    blk_ext [e]
  rw [ey, OutProj.result_apply, stored_apply c t hb]
  simp only [iblk_n m c t hb, iblk_a m c t hb, iblk_w, iblk_o, iblk_g]
  rw [V_main_arg0]
  rfl

end Cert.Kernel2Ideal.Hand
-- ==== Proof.ProjStep.lean ====
/-
  A grid point's step of the input projection, of its ideal program: its stores at the point's blocks.
-/
module

public import proofs.«01_k».proof.Proof.Gen.Kernel3Ideal.Frame.RunA
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A step's stores and its triple, at point `t`'s blocks. -/
def ran (c : Dev nD) (t : Fin cfg0.N) :=
  kernelRun0_A (F := F) c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) _ (hs0_20 t) _ (hs0_21 t) _ (hs0_22 t) _ (hs0_23 t) _ (hs0_24 t) _ (hs0_25 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- What a list of stores leaves in a block. -/
def left {s : Shape} {e : EltTy} (v : View sig .tc .vmem s e) (L : List (View.Piece (Elt F) s e)) : Vec F s e :=
  v.read (Elt F) (v.writes (Elt F) v.junk L)

end Cert.Kernel3Ideal.Hand
-- ==== Proof.RunProjIdeal.lean ====
/-
  The run of the input projection, of its ideal program: what a grid point's step leaves in each output's block, and the state after all
  points.
-/
module

public import proofs.«01_k».proof.Proof.ProjStep
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each output's stores cover its block -/

theorem cover13 (c : Dev nD) (t : Fin cfg0.N) (y) : ∃ pc ∈ (ran m c t).1, y ∈ pc.1.set :=
  View.cover_of_tiledL (ran m c t).1 S1x256x1024.size (by sl_kernel_rfl) y

theorem cover14 (c : Dev nD) (t : Fin cfg0.N) (y) : ∃ pc ∈ (ran m c t).2.1, y ∈ pc.1.set :=
  View.cover_of_tiledL (ran m c t).2.1 S1x1x1024x128.size (by sl_kernel_rfl) y

theorem cover15 (c : Dev nD) (t : Fin cfg0.N) (y) : ∃ pc ∈ (ran m c t).2.2.1, y ∈ pc.1.set :=
  View.cover_of_tiledL (ran m c t).2.2.1 S1x1x1024x128.size (by sl_kernel_rfl) y

theorem cover16 (c : Dev nD) (t : Fin cfg0.N) (y) : ∃ pc ∈ (ran m c t).2.2.2.1, y ∈ pc.1.set :=
  View.cover_of_tiledBy (ran m c t).2.2.2.1 ![1, 1, 16, 256] (by sl_kernel_rfl) y

theorem cover17 (c : Dev nD) (t : Fin cfg0.N) (y) : ∃ pc ∈ (ran m c t).2.2.2.2.1, y ∈ pc.1.set :=
  View.cover_of_tiledBy (ran m c t).2.2.2.2.1 ![1, 1, 16, 256] (by sl_kernel_rfl) y

theorem cover18 (c : Dev nD) (t : Fin cfg0.N) (y) : ∃ pc ∈ (ran m c t).2.2.2.2.2.1, y ∈ pc.1.set :=
  View.cover_of_tiledL (ran m c t).2.2.2.2.2.1 S1x1024x128.size (by sl_kernel_rfl) y

theorem cover19 (c : Dev nD) (t : Fin cfg0.N) (y) : ∃ pc ∈ (ran m c t).2.2.2.2.2.2.1, y ∈ pc.1.set :=
  View.cover_of_tiledL (ran m c t).2.2.2.2.2.2.1 S1x1024x128.size (by sl_kernel_rfl) y

theorem cover20 (c : Dev nD) (t : Fin cfg0.N) (y) : ∃ pc ∈ (ran m c t).2.2.2.2.2.2.2.1, y ∈ pc.1.set :=
  View.cover_of_tiledL (ran m c t).2.2.2.2.2.2.2.1 S1x24x1024.size (by sl_kernel_rfl) y

theorem cover21 (c : Dev nD) (t : Fin cfg0.N) (y) : ∃ pc ∈ (ran m c t).2.2.2.2.2.2.2.2.1, y ∈ pc.1.set :=
  View.cover_of_tiledL (ran m c t).2.2.2.2.2.2.2.2.1 S1x512x1024.size (by sl_kernel_rfl) y

theorem cover22 (c : Dev nD) (t : Fin cfg0.N) (y) : ∃ pc ∈ (ran m c t).2.2.2.2.2.2.2.2.2.1, y ∈ pc.1.set :=
  View.cover_of_tiledL (ran m c t).2.2.2.2.2.2.2.2.2.1 S1x512x1024.size (by sl_kernel_rfl) y

theorem cover23 (c : Dev nD) (t : Fin cfg0.N) (y) : ∃ pc ∈ (ran m c t).2.2.2.2.2.2.2.2.2.2.1, y ∈ pc.1.set :=
  View.cover_of_tiledBy (ran m c t).2.2.2.2.2.2.2.2.2.2.1 ![1, 1, 16, 1024] (by sl_kernel_rfl) y

theorem cover24 (c : Dev nD) (t : Fin cfg0.N) (y) : ∃ pc ∈ (ran m c t).2.2.2.2.2.2.2.2.2.2.2.1, y ∈ pc.1.set :=
  View.cover_of_tiledL (ran m c t).2.2.2.2.2.2.2.2.2.2.2.1 S1x1x1024x128.size (by sl_kernel_rfl) y

theorem cover25 (c : Dev nD) (t : Fin cfg0.N) (y) : ∃ pc ∈ (ran m c t).2.2.2.2.2.2.2.2.2.2.2.2.1, y ∈ pc.1.set :=
  View.cover_of_tiledBy (ran m c t).2.2.2.2.2.2.2.2.2.2.2.2.1 ![1, 1, 16, 256] (by sl_kernel_rfl) y

/-! ## The proof data -/

/-- The arrays as the region finds them; after a step each input's block unchanged and each output's as the step leaves it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => left VO0_13 (ran m c t).1
    | ⟨14, _⟩ => left VO0_14 (ran m c t).2.1
    | ⟨15, _⟩ => left VO0_15 (ran m c t).2.2.1
    | ⟨16, _⟩ => left VO0_16 (ran m c t).2.2.2.1
    | ⟨17, _⟩ => left VO0_17 (ran m c t).2.2.2.2.1
    | ⟨18, _⟩ => left VO0_18 (ran m c t).2.2.2.2.2.1
    | ⟨19, _⟩ => left VO0_19 (ran m c t).2.2.2.2.2.2.1
    | ⟨20, _⟩ => left VO0_20 (ran m c t).2.2.2.2.2.2.2.1
    | ⟨21, _⟩ => left VO0_21 (ran m c t).2.2.2.2.2.2.2.2.1
    | ⟨22, _⟩ => left VO0_22 (ran m c t).2.2.2.2.2.2.2.2.2.1
    | ⟨23, _⟩ => left VO0_23 (ran m c t).2.2.2.2.2.2.2.2.2.2.1
    | ⟨24, _⟩ => left VO0_24 (ran m c t).2.2.2.2.2.2.2.2.2.2.2.1
    | ⟨25, _⟩ => left VO0_25 (ran m c t).2.2.2.2.2.2.2.2.2.2.2.2.1
    | ⟨_ + 26, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = left VO0_13 (ran m c t).1 := by dsimp only [dats]
theorem after_14 (c : Dev nD) (t : Fin cfg0.N) : (dats m 0 c).after 14 t = left VO0_14 (ran m c t).2.1 := by dsimp only [dats]
theorem after_15 (c : Dev nD) (t : Fin cfg0.N) : (dats m 0 c).after 15 t = left VO0_15 (ran m c t).2.2.1 := by dsimp only [dats]
theorem after_16 (c : Dev nD) (t : Fin cfg0.N) : (dats m 0 c).after 16 t = left VO0_16 (ran m c t).2.2.2.1 := by dsimp only [dats]
theorem after_17 (c : Dev nD) (t : Fin cfg0.N) : (dats m 0 c).after 17 t = left VO0_17 (ran m c t).2.2.2.2.1 := by dsimp only [dats]
theorem after_18 (c : Dev nD) (t : Fin cfg0.N) : (dats m 0 c).after 18 t = left VO0_18 (ran m c t).2.2.2.2.2.1 := by dsimp only [dats]
theorem after_19 (c : Dev nD) (t : Fin cfg0.N) : (dats m 0 c).after 19 t = left VO0_19 (ran m c t).2.2.2.2.2.2.1 := by dsimp only [dats]
theorem after_20 (c : Dev nD) (t : Fin cfg0.N) : (dats m 0 c).after 20 t = left VO0_20 (ran m c t).2.2.2.2.2.2.2.1 := by dsimp only [dats]
theorem after_21 (c : Dev nD) (t : Fin cfg0.N) : (dats m 0 c).after 21 t = left VO0_21 (ran m c t).2.2.2.2.2.2.2.2.1 := by dsimp only [dats]
theorem after_22 (c : Dev nD) (t : Fin cfg0.N) : (dats m 0 c).after 22 t = left VO0_22 (ran m c t).2.2.2.2.2.2.2.2.2.1 := by dsimp only [dats]
theorem after_23 (c : Dev nD) (t : Fin cfg0.N) : (dats m 0 c).after 23 t = left VO0_23 (ran m c t).2.2.2.2.2.2.2.2.2.2.1 := by dsimp only [dats]
theorem after_24 (c : Dev nD) (t : Fin cfg0.N) : (dats m 0 c).after 24 t = left VO0_24 (ran m c t).2.2.2.2.2.2.2.2.2.2.2.1 := by dsimp only [dats]
theorem after_25 (c : Dev nD) (t : Fin cfg0.N) : (dats m 0 c).after 25 t = left VO0_25 (ran m c t).2.2.2.2.2.2.2.2.2.2.2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-! ## A step -/

/-- What a step is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 4000000 in
/-- A step at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl]
  simp only [after_0, after_1, after_2, after_3, after_4, after_5, after_6, after_7, after_8, after_9, after_10, after_11, after_12, after_13, after_14, after_15, after_16, after_17, after_18, after_19, after_20, after_21, after_22, after_23, after_24, after_25]
  unfold left
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩⟩
  iapply ((ran m c t).2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_of_cover _ _ _ _ _ (cover13 m c t)
  isplitl [H14]
  · unfold owns; iexists _; isplitr
    swap; · iexact H14
    ipureintro; exact View.read_writes_of_cover _ _ _ _ _ (cover14 m c t)
  isplitl [H15]
  · unfold owns; iexists _; isplitr
    swap; · iexact H15
    ipureintro; exact View.read_writes_of_cover _ _ _ _ _ (cover15 m c t)
  isplitl [H16]
  · unfold owns; iexists _; isplitr
    swap; · iexact H16
    ipureintro; exact View.read_writes_of_cover _ _ _ _ _ (cover16 m c t)
  isplitl [H17]
  · unfold owns; iexists _; isplitr
    swap; · iexact H17
    ipureintro; exact View.read_writes_of_cover _ _ _ _ _ (cover17 m c t)
  isplitl [H18]
  · unfold owns; iexists _; isplitr
    swap; · iexact H18
    ipureintro; exact View.read_writes_of_cover _ _ _ _ _ (cover18 m c t)
  isplitl [H19]
  · unfold owns; iexists _; isplitr
    swap; · iexact H19
    ipureintro; exact View.read_writes_of_cover _ _ _ _ _ (cover19 m c t)
  isplitl [H20]
  · unfold owns; iexists _; isplitr
    swap; · iexact H20
    ipureintro; exact View.read_writes_of_cover _ _ _ _ _ (cover20 m c t)
  isplitl [H21]
  · unfold owns; iexists _; isplitr
    swap; · iexact H21
    ipureintro; exact View.read_writes_of_cover _ _ _ _ _ (cover21 m c t)
  isplitl [H22]
  · unfold owns; iexists _; isplitr
    swap; · iexact H22
    ipureintro; exact View.read_writes_of_cover _ _ _ _ _ (cover22 m c t)
  isplitl [H23]
  · unfold owns; iexists _; isplitr
    swap; · iexact H23
    ipureintro; exact View.read_writes_of_cover _ _ _ _ _ (cover23 m c t)
  isplitl [H24]
  · unfold owns; iexists _; isplitr
    swap; · iexact H24
    ipureintro; exact View.read_writes_of_cover _ _ _ _ _ (cover24 m c t)
  unfold owns; iexists _; isplitr
  swap; · iexact H25
  ipureintro; exact View.read_writes_of_cover _ _ _ _ _ (cover25 m c t)

/-- The body table's row at point `t`. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- After the run the arrays are as the proof data says, and no counter is left. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel3Ideal.Hand
-- ==== Proof.ProjReference.lean ====
/-
  What the reference of the input projection computes, read at an index: the modulated norm of the residual input, the
  product of a row with a column of the weights, and the five results made of such products.
-/
module

public import proofs.«01_k».proof.Proof.OutputReference
public import proofs.«01_k».proof.Proof.Gen.Reference3Ideal.Run
public import Idealize.ShloMosaic.Lib.Pointwise
public import Idealize.ShloMosaic.Lib.IdealHost
public import Idealize.ShloMosaic.Lib.Pipeline.ValueKit

@[expose] public section

set_option maxRecDepth 16384

noncomputable section

/-! ## The mathematics, of an array's indices -/

namespace Proj

open Idealize.ShloMosaic
open scoped BigOperators

local notation "Rows" => FVec Ideal ⟨3, ![4, 4096, 1024]⟩ FTy.f32
local notation "Weights" => FVec Ideal ⟨2, ![1024, 2744]⟩ FTy.f32
local notation "Mods" => FVec Ideal ⟨3, ![3, 4, 1024]⟩ FTy.f32
local notation "Gain" => FVec Ideal ⟨1, ![1024]⟩ FTy.f32

/-- An entry of the norm scaled and shifted. -/
def modulate (v scl shift : EReal) : EReal := v * (Ideal.ofBits .f32 0x3F800000#32 + scl) + shift

/-- The modulated norm of the residual input. -/
def hidden (x : Rows) (o : Mods) (g : Gain) (b : Fin 4) (s : Fin 4096) (k : Fin 1024) : EReal :=
  modulate (OutProj.normed (fun j => x (ix3 b s j)) (g (ix1 k)) k) (o (ix3 1 b k)) (o (ix3 0 b k))

/-- Its product with the weights' column `j`. -/
def column (x : Rows) (o : Mods) (g : Gain) (w : Weights) (b : Fin 4) (s : Fin 4096) (j : Fin 2744) : EReal :=
  ∑ k : Fin 1024, hidden x o g b s k * w (ix2 k j)

/-- The keys of the compressed branch. -/
def keys (x : Rows) (o : Mods) (g : Gain) (w : Weights) : FVec Ideal ⟨3, ![4, 4096, 128]⟩ FTy.f32 := fun i =>
  column x o g w (i 0) (i 1) ⟨512 + (i 2).val, by have : (i 2).val < 128 := (i 2).isLt; omega⟩

/-- The values of the compressed branch. -/
def vals (x : Rows) (o : Mods) (g : Gain) (w : Weights) : FVec Ideal ⟨3, ![4, 4096, 128]⟩ FTy.f32 := fun i =>
  column x o g w (i 0) (i 1) ⟨640 + (i 2).val, by have : (i 2).val < 128 := (i 2).isLt; omega⟩

/-- The branch gates, a column per position. -/
def gates (x : Rows) (o : Mods) (g : Gain) (w : Weights) : FVec Ideal ⟨3, ![4, 24, 4096]⟩ FTy.f32 := fun i =>
  Ideal.logistic (column x o g w (i 0) (i 2) ⟨1280 + (i 1).val, by have : (i 1).val < 24 := (i 1).isLt; omega⟩)

/-- A value times its logistic. -/
def silu (v : EReal) : EReal := v * Ideal.logistic v

/-- The SiLU path of the sparse attention, a column per position. -/
def pathN (x : Rows) (o : Mods) (g : Gain) (w : Weights) : FVec Ideal ⟨3, ![4, 512, 4096]⟩ FTy.bf16 := fun i =>
  silu (column x o g w (i 0) (i 2) ⟨1304 + (i 1).val, by have : (i 1).val < 512 := (i 1).isLt; omega⟩)

/-- The SiLU path of the latent attention, a column per position. -/
def pathM (x : Rows) (o : Mods) (g : Gain) (w : Weights) : FVec Ideal ⟨3, ![4, 512, 4096]⟩ FTy.bf16 := fun i =>
  silu (column x o g w (i 0) (i 2) ⟨2232 + (i 1).val, by have : (i 1).val < 512 := (i 1).isLt; omega⟩)

theorem keys_apply (x : Rows) (o : Mods) (g : Gain) (w : Weights) (b : Fin 4) (s : Fin 4096) (d : Fin 128) :
    keys x o g w (ix3 b s d) = column x o g w b s ⟨512 + d.val, by omega⟩ := rfl

theorem vals_apply (x : Rows) (o : Mods) (g : Gain) (w : Weights) (b : Fin 4) (s : Fin 4096) (d : Fin 128) :
    vals x o g w (ix3 b s d) = column x o g w b s ⟨640 + d.val, by omega⟩ := rfl

theorem gates_apply (x : Rows) (o : Mods) (g : Gain) (w : Weights) (b : Fin 4) (d : Fin 24) (s : Fin 4096) :
    gates x o g w (ix3 b d s) = Ideal.logistic (column x o g w b s ⟨1280 + d.val, by omega⟩) := rfl

theorem pathN_apply (x : Rows) (o : Mods) (g : Gain) (w : Weights) (b : Fin 4) (d : Fin 512) (s : Fin 4096) :
    pathN x o g w (ix3 b d s) = silu (column x o g w b s ⟨1304 + d.val, by omega⟩) := rfl

theorem pathM_apply (x : Rows) (o : Mods) (g : Gain) (w : Weights) (b : Fin 4) (d : Fin 512) (s : Fin 4096) :
    pathM x o g w (ix3 b d s) = silu (column x o g w b s ⟨2232 + d.val, by omega⟩) := rfl

/-- The logistic function in the reference's spelling. -/
theorem logistic_eq (v : EReal) :
    Ideal.div (Ideal.ofBits .f32 0x3F800000#32) (Ideal.ofBits .f32 0x3F800000#32 + Ideal.exp (-v)) = Ideal.logistic v := by
  rw [Ideal.ofBits_one_f32]
  rfl

end Proj

/-! ## The reference -/

namespace Cert.Reference3Ideal.Reading

open Cert.Reference3Ideal Cert.Reference3Ideal.Gen
open Idealize.ShloMosaic
open Cert.Reference3Ideal.Facts
open scoped BigOperators

/-- The sum of the squares of each row. -/
def squaresT (x : FVec Ideal S4x4096x1024 .f32) : FVec Ideal S4x4096 .f32 :=
  Host.reduceAdd (mulf x x) (constant S_ .f32 0x00000000#32) reducesTo_S4x4096x1024_S4x4096_d2 h_S_

/-- The norm, from the rows and the sums of their squares. -/
def normT (x : FVec Ideal S4x4096x1024 .f32) (q : FVec Ideal S4x4096 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 q) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The norm modulated. -/
def hiddenT (z : FVec Ideal S4x4096x1024 .f32) (o : FVec Ideal S3x4x1024 .f32) : FVec Ideal S4x4096x1024 .f32 :=
  addf (mulf z (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S1x4x1024 ![1, 0, 0] o slices_S3x4x1024_S1x4x1024_1_0_0) shapeCasts_S1x4x1024_S4x1024))))) (broadcastInDim S4x4096x1024 ![0, 1, 2] bcast_S4x1x1024_S4x4096x1024_0_1_2 (broadcastInDim S4x1x1024 ![0, 2] bcast_S4x1024_S4x1x1024_0_2 (shapeCast _ (extractStridedSlice S1x4x1024 ![0, 0, 0] o slices_S3x4x1024_S1x4x1024_0_0_0) shapeCasts_S1x4x1024_S4x1024)))

/-- The projection of the modulated norm. -/
def projT (x : FVec Ideal S4x4096x1024 .f32) (o : FVec Ideal S3x4x1024 .f32) (g : FVec Ideal S1024 .f32)
    (w : FVec Ideal S1024x2744 .f32) : FVec Ideal S4x4096x2744 .f32 :=
  Host.dotGeneral dot_S4x4096x1024_S1024x2744_S4x4096x2744_2_0_01_1_n_n none (hiddenT (normT x (squaresT x) g) o) w

/-- The branch gates. -/
def gatesT (p : FVec Ideal S4x4096x2744 .f32) : FVec Ideal S4x24x4096 .f32 :=
  transpose S4x24x4096 [0, 2, 1] (Host.divf (broadcastInDim S4x4096x24 ![] bcast_S_S4x4096x24 (constant S_ .f32 0x3F800000#32)) (addf (broadcastInDim S4x4096x24 ![] bcast_S_S4x4096x24 (constant S_ .f32 0x3F800000#32)) (Host.exp (Host.negf (extractStridedSlice S4x4096x24 ![0, 0, 1280] p slices_S4x4096x2744_S4x4096x24_0_0_1280))))) transposes_S4x4096x24_S4x24x4096_0_2_1

/-- A SiLU path. -/
def pathT (z : FVec Ideal S4x4096x512 .f32) : FVec Ideal S4x512x4096 .bf16 :=
  truncf .bf16 (transpose S4x512x4096 [0, 2, 1] (mulf z (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf z))))) transposes_S4x4096x512_S4x512x4096_0_2_1) bitsLt_bf16_f32

theorem squaresT_apply (x : FVec Ideal S4x4096x1024 .f32) (b : Fin 4) (s : Fin 4096) :
    squaresT x (ix2 b s) = ∑ j : Fin 1024, x (ix3 b s j) * x (ix3 b s j) := by
  pointwise [squaresT]

theorem normT_apply (x : FVec Ideal S4x4096x1024 .f32) (q : FVec Ideal S4x4096 .f32) (g : FVec Ideal S1024 .f32)
    (b : Fin 4) (s : Fin 4096) (d : Fin 1024) : normT x q g (ix3 b s d) =
      x (ix3 b s d) * Ideal.rsqrt (Ideal.div (q (ix2 b s)) (Ideal.ofBits .f32 0x44800000#32) + Ideal.ofBits .f32 0x358637BD#32) * g (ix1 d) := by
  pointwise [normT]

theorem hiddenT_apply (z : FVec Ideal S4x4096x1024 .f32) (o : FVec Ideal S3x4x1024 .f32) (b : Fin 4) (s : Fin 4096) (d : Fin 1024) :
    hiddenT z o (ix3 b s d) = Proj.modulate (z (ix3 b s d)) (o (ix3 1 b d)) (o (ix3 0 b d)) := by
  pointwise [hiddenT, Proj.modulate]

theorem projT_sum (z : FVec Ideal S4x4096x1024 .f32) (w : FVec Ideal S1024x2744 .f32) (b : Fin 4) (s : Fin 4096) (j : Fin 2744) :
    Host.dotGeneral dot_S4x4096x1024_S1024x2744_S4x4096x2744_2_0_01_1_n_n none z w (ix3 b s j) = ∑ k : Fin 1024, z (ix3 b s k) * w (ix2 k j) := by
  pointwise

theorem projT_apply (x : FVec Ideal S4x4096x1024 .f32) (o : FVec Ideal S3x4x1024 .f32) (g : FVec Ideal S1024 .f32)
    (w : FVec Ideal S1024x2744 .f32) (b : Fin 4) (s : Fin 4096) (j : Fin 2744) :
    projT x o g w (ix3 b s j) = Proj.column x o g w b s j := by
  unfold projT
  rw [projT_sum]
  simp only [hiddenT_apply, normT_apply, squaresT_apply]
  rfl

theorem keysT_apply (p : FVec Ideal S4x4096x2744 .f32) (b : Fin 4) (s : Fin 4096) (d : Fin 128) :
    extractStridedSlice S4x4096x128 ![0, 0, 512] p slices_S4x4096x2744_S4x4096x128_0_0_512 (ix3 b s d) = p (ix3 b s ⟨512 + d.val, by omega⟩) := by
  pointwise

theorem valsT_apply (p : FVec Ideal S4x4096x2744 .f32) (b : Fin 4) (s : Fin 4096) (d : Fin 128) :
    extractStridedSlice S4x4096x128 ![0, 0, 640] p slices_S4x4096x2744_S4x4096x128_0_0_640 (ix3 b s d) = p (ix3 b s ⟨640 + d.val, by omega⟩) := by
  pointwise

theorem zN_apply (p : FVec Ideal S4x4096x2744 .f32) (b : Fin 4) (s : Fin 4096) (d : Fin 512) :
    extractStridedSlice S4x4096x512 ![0, 0, 1304] p slices_S4x4096x2744_S4x4096x512_0_0_1304 (ix3 b s d) = p (ix3 b s ⟨1304 + d.val, by omega⟩) := by
  pointwise

theorem zM_apply (p : FVec Ideal S4x4096x2744 .f32) (b : Fin 4) (s : Fin 4096) (d : Fin 512) :
    extractStridedSlice S4x4096x512 ![0, 0, 2232] p slices_S4x4096x2744_S4x4096x512_0_0_2232 (ix3 b s d) = p (ix3 b s ⟨2232 + d.val, by omega⟩) := by
  pointwise

theorem gatesT_apply (p : FVec Ideal S4x4096x2744 .f32) (b : Fin 4) (d : Fin 24) (s : Fin 4096) :
    gatesT p (ix3 b d s) = Ideal.div (Ideal.ofBits .f32 0x3F800000#32) (Ideal.ofBits .f32 0x3F800000#32 + Ideal.exp (-(p (ix3 b s ⟨1280 + d.val, by omega⟩)))) := by
  pointwise [gatesT]

theorem pathT_apply (z : FVec Ideal S4x4096x512 .f32) (b : Fin 4) (d : Fin 512) (s : Fin 4096) :
    pathT z (ix3 b d s) = z (ix3 b s d) * Ideal.div (Ideal.ofBits .f32 0x3F800000#32) (Ideal.ofBits .f32 0x3F800000#32 + Ideal.exp (-(z (ix3 b s d)))) := by
  pointwise [pathT]

variable (x : FVec Ideal S4x4096x1024 .f32) (o : FVec Ideal S3x4x1024 .f32) (g : FVec Ideal S1024 .f32) (w : FVec Ideal S1024x2744 .f32)

/-- The reference's first result is `Proj.keys`. -/
theorem keys_eq : extractStridedSlice S4x4096x128 ![0, 0, 512] (projT x o g w) slices_S4x4096x2744_S4x4096x128_0_0_512 = Proj.keys x o g w := by
  funext i
  obtain ⟨b, s, d, rfl⟩ : ∃ (b : Fin 4) (s : Fin 4096) (d : Fin 128), i = ix3 b s d := ⟨i 0, i 1, i 2, eq_ix3 i⟩
  rw [Proj.keys_apply, keysT_apply, projT_apply]

/-- The reference's second result is `Proj.vals`. -/
theorem vals_eq : extractStridedSlice S4x4096x128 ![0, 0, 640] (projT x o g w) slices_S4x4096x2744_S4x4096x128_0_0_640 = Proj.vals x o g w := by
  funext i
  obtain ⟨b, s, d, rfl⟩ : ∃ (b : Fin 4) (s : Fin 4096) (d : Fin 128), i = ix3 b s d := ⟨i 0, i 1, i 2, eq_ix3 i⟩
  rw [Proj.vals_apply, valsT_apply, projT_apply]

/-- The reference's third result is `Proj.gates`. -/
theorem gates_eq : gatesT (projT x o g w) = Proj.gates x o g w := by
  funext i
  obtain ⟨b, d, s, rfl⟩ : ∃ (b : Fin 4) (d : Fin 24) (s : Fin 4096), i = ix3 b d s := ⟨i 0, i 1, i 2, eq_ix3 i⟩
  rw [Proj.gates_apply, gatesT_apply, projT_apply, Proj.logistic_eq]

/-- The reference's fourth result is `Proj.pathN`. -/
theorem pathN_eq : pathT (extractStridedSlice S4x4096x512 ![0, 0, 1304] (projT x o g w) slices_S4x4096x2744_S4x4096x512_0_0_1304) = Proj.pathN x o g w := by
  funext i
  obtain ⟨b, d, s, rfl⟩ : ∃ (b : Fin 4) (d : Fin 512) (s : Fin 4096), i = ix3 b d s := ⟨i 0, i 1, i 2, eq_ix3 i⟩
  rw [Proj.pathN_apply, pathT_apply, zN_apply, projT_apply, Proj.logistic_eq]
  rfl

/-- The reference's fifth result is `Proj.pathM`. -/
theorem pathM_eq : pathT (extractStridedSlice S4x4096x512 ![0, 0, 2232] (projT x o g w) slices_S4x4096x2744_S4x4096x512_0_0_2232) = Proj.pathM x o g w := by
  funext i
  obtain ⟨b, d, s, rfl⟩ : ∃ (b : Fin 4) (d : Fin 512) (s : Fin 4096), i = ix3 b d s := ⟨i 0, i 1, i 2, eq_ix3 i⟩
  rw [Proj.pathM_apply, pathT_apply, zM_apply, projT_apply, Proj.logistic_eq]
  rfl

end Cert.Reference3Ideal.Reading
-- ==== Proof.ProjBlocks.lean ====
/-
  The blocks a step of the input projection's kernel reads, entry by entry from the arguments: the residual input, the
  modulation, the gain, and the weights in the two layouts the host prepares.
-/
module

public import proofs.«01_k».proof.Proof.ProjReference
public import proofs.«01_k».proof.Proof.Gen.Kernel3Ideal.Frame.Runs
public import Idealize.ShloMosaic.Lib.ValueLayout

@[expose] public section

set_option maxRecDepth 16384

noncomputable section

namespace Cert.Kernel3Ideal.Hand

open Cert.Kernel3Ideal Cert.Kernel3Ideal.Gen
open Idealize.ShloMosaic Idealize.ShloMosaic.TcCoe
open scoped BigOperators

/-! ## The values a step stores -/

/-- The modulated norm of a step's rows. -/
theorem pay4_apply (u v : Vec Ideal S1x1x1024 .f32) (z : Vec Ideal S1x1024x1024 .f32) (g : Vec Ideal S1x1024 .f32) (x d : Fin 1024) :
    k0_pay4 u v z g (ix2 x d) = Proj.modulate (OutProj.normed (fun j => z (ix3 0 x j)) (g (ix2 0 d)) d) (v (ix3 0 0 d)) (u (ix3 0 0 d)) := by
  pointwise [k0_pay4, OutProj.normed, Proj.modulate]

/-- Its product with the first layout of the weights, a row per position. -/
theorem pay5_apply (u v : Vec Ideal S1x1x1024 .f32) (z : Vec Ideal S1x1024x1024 .f32) (g : Vec Ideal S1x1024 .f32)
    (w : Vec Ideal S1024x1024 .bf16) (x j : Fin 1024) :
    k0_pay5 u v z g w (ix2 x j) = ∑ k : Fin 1024, k0_pay4 u v z g (ix2 x k) * w (ix2 j k) := by
  unfold k0_pay5
  generalize k0_pay4 u v z g = h
  pointwise

/-- Its product with the second layout of the weights, a column per position. -/
theorem pay6_apply (u v : Vec Ideal S1x1x1024 .f32) (z : Vec Ideal S1x1024x1024 .f32) (g : Vec Ideal S1x1024 .f32)
    (w : Vec Ideal S1816x1024 .bf16) (j : Fin 1816) (x : Fin 1024) :
    k0_pay6 u v z g w (ix2 j x) = ∑ k : Fin 1024, w (ix2 j k) * k0_pay4 u v z g (ix2 x k) := by
  unfold k0_pay6
  generalize k0_pay4 u v z g = h
  pointwise

theorem pay33_apply (p : FVec Ideal S1024x1024 .f32) (x : Fin 1024) (d : Fin 128) :
    k0_pay33 p (ix3 0 x d) = p (ix2 x ⟨384 + d.val, by omega⟩) := by
  pointwise [k0_pay33]

theorem pay34_apply (p : FVec Ideal S1024x1024 .f32) (x : Fin 1024) (d : Fin 128) :
    k0_pay34 p (ix3 0 x d) = p (ix2 x ⟨512 + d.val, by omega⟩) := by
  pointwise [k0_pay34]

theorem pay208_apply (p : FVec Ideal S1816x1024 .f32) (d : Fin 24) (x : Fin 1024) :
    k0_pay1 (k0_pay208 p) (ix3 0 d x) = Ideal.logistic (p (ix2 ⟨768 + d.val, by omega⟩ x)) := by
  pointwise [k0_pay1, k0_pay208]

theorem pay2_apply (p : FVec Ideal S1816x1024 .f32) (d : Fin 512) (x : Fin 1024) :
    k0_pay2 p (ix3 0 d x) = Proj.silu (p (ix2 ⟨792 + d.val, by omega⟩ x)) := by
  pointwise [k0_pay2, Proj.silu]

theorem pay3_apply (p : FVec Ideal S1816x1024 .f32) (d : Fin 512) (x : Fin 1024) :
    k0_pay3 p (ix3 0 d x) = Proj.silu (p (ix2 ⟨1304 + d.val, by omega⟩ x)) := by
  pointwise [k0_pay3, Proj.silu]

/-! ## The weights as the host lays them out -/

/-- The first layout: four groups of columns side by side, transposed. -/
def layoutA (a : FVec Ideal S1024x256 .f32) (b : FVec Ideal S1024x128 .f32) (w : FVec Ideal S1024x2744 .f32) (e : FVec Ideal S1024x384 .f32) :
    FVec Ideal S1024x1024 .bf16 :=
  truncf .bf16 (transpose S1024x1024 [1, 0] (concatenate S1024x1024 1 [⟨S1024x256, a⟩, ⟨S1024x128, b⟩, ⟨S1024x256, extractStridedSlice S1024x256 ![0, 512] w slices_S1024x2744_S1024x256_0_512⟩, ⟨S1024x384, e⟩] concatenates_S1024x256_S1024x128_S1024x256_S1024x384_S1024x1024_d1) transposes_S1024x1024_S1024x1024_1_0) bitsLt_bf16_f32

/-- The second layout: four groups of columns side by side, transposed. -/
def layoutB (a : FVec Ideal S1024x512 .f32) (b : FVec Ideal S1024x128 .f32) (w : FVec Ideal S1024x2744 .f32) : FVec Ideal S1816x1024 .bf16 :=
  truncf .bf16 (transpose S1816x1024 [1, 0] (concatenate S1024x1816 1 [⟨S1024x512, a⟩, ⟨S1024x128, b⟩, ⟨S1024x664, extractStridedSlice S1024x664 ![0, 1152] w slices_S1024x2744_S1024x664_0_1152⟩, ⟨S1024x512, extractStridedSlice S1024x512 ![0, 2232] w slices_S1024x2744_S1024x512_0_2232⟩] concatenates_S1024x512_S1024x128_S1024x664_S1024x512_S1024x1816_d1) transposes_S1024x1816_S1816x1024_1_0) bitsLt_bf16_f32

theorem layoutA_apply (a : FVec Ideal S1024x256 .f32) (b : FVec Ideal S1024x128 .f32) (w : FVec Ideal S1024x2744 .f32) (e : FVec Ideal S1024x384 .f32)
    (d : Fin 256) (k : Fin 1024) : layoutA a b w e (ix2 ⟨384 + d.val, by omega⟩ k) = w (ix2 k ⟨512 + d.val, by omega⟩) := by
  pointwise [layoutA]
  rw [dif_neg (by omega), dif_neg (by omega), dif_pos (by omega)]
  exact congrArg (fun j => w (ix2 k j)) (Fin.ext (by show 512 + (384 + d.val - 256 - 128) = 512 + d.val; omega))

theorem layoutB_mid (a : FVec Ideal S1024x512 .f32) (b : FVec Ideal S1024x128 .f32) (w : FVec Ideal S1024x2744 .f32)
    (d : Fin 664) (k : Fin 1024) : layoutB a b w (ix2 ⟨640 + d.val, by omega⟩ k) = w (ix2 k ⟨1152 + d.val, by omega⟩) := by
  pointwise [layoutB]
  rw [dif_neg (by omega), dif_neg (by omega), dif_pos (by omega)]
  exact congrArg (fun j => w (ix2 k j)) (Fin.ext (by show 1152 + (640 + d.val - 512 - 128) = 1152 + d.val; omega))

theorem layoutB_last (a : FVec Ideal S1024x512 .f32) (b : FVec Ideal S1024x128 .f32) (w : FVec Ideal S1024x2744 .f32)
    (d : Fin 512) (k : Fin 1024) : layoutB a b w (ix2 ⟨1304 + d.val, by omega⟩ k) = w (ix2 k ⟨2232 + d.val, by omega⟩) := by
  pointwise [layoutB]
  rw [dif_neg (by omega), dif_neg (by omega), dif_neg (by omega)]
  exact congrArg (fun j => w (ix2 k j)) (Fin.ext (by show 2232 + (1304 + d.val - 512 - 128 - 664) = 2232 + d.val; omega))

variable (m : (ℓ : Loc nD τ sig) → Buf (Elt Ideal) ℓ)

/-- The host's first layout of the weights. -/
theorem V_wtok (c : Dev nD) : ∃ a b e, V m c main_v39 = layoutA a b (m ((c.tc : Thread nD τ).loc main_arg4)) e := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.toBuf, StableHlo.TRef.ofBuf, cast_eq]
  after_results_simp
  exact ⟨_, _, _, rfl⟩

/-- The host's second layout of the weights. -/
theorem V_wtr (c : Dev nD) : ∃ a b, V m c main_v40 = layoutB a b (m ((c.tc : Thread nD τ).loc main_arg4)) := by
  simp only [V, hostOps0, hostOps0_1, hostOps0_2, hostOps0_3, hostOps0_4, hostOps0_5, hostOps0_6, List.flatten_cons, List.flatten_nil,
    List.append_nil, List.cons_append, List.nil_append, StableHlo.TRef.binary, StableHlo.TRef.nullary, StableHlo.TRef.unary,
    StableHlo.TRef.toBuf, StableHlo.TRef.ofBuf, cast_eq]
  after_results_simp
  exact ⟨_, _, rfl⟩

/-- The host's reshape of the gain. -/
theorem V_g (c : Dev nD) (d : Fin 1024) : (V m c main_v60 : FVec Ideal S1x1024 .f32) (ix2 0 d) = m ((c.tc : Thread nD τ).loc main_arg3) (ix1 d) := by
  show shapeCast S1x1024 (m ((c.tc : Thread nD τ).loc main_arg3) : FVec Ideal S1024 .f32) shapeCasts_S1024_S1x1024 (ix2 0 d) = _
  pointwise

/-! ## The blocks of a point -/

theorem idxIn (t : Fin cfg0.N) : win0_0.index t = ![t.val / 4, t.val % 4, 0] ∧ win0_1.index t = ![0, 0, 0] ∧
    win0_2.index t = ![0, 0] ∧ win0_3.index t = ![0, 0] ∧ win0_4.index t = ![0, 0] := by
  revert t; decide +kernel

theorem idxOut (t : Fin cfg0.N) : win0_18.index t = ![t.val / 4, t.val % 4, 0] ∧ win0_19.index t = ![t.val / 4, t.val % 4, 0] ∧
    win0_20.index t = ![t.val / 4, 0, t.val % 4] ∧ win0_21.index t = ![t.val / 4, 0, t.val % 4] ∧
    win0_22.index t = ![t.val / 4, 0, t.val % 4] := by
  revert t; decide +kernel

theorem modOff (t : Fin cfg0.N) : k0_off1 (grid0.coords t) = ![0, t.val / 4, 0] ∧ k0_off2 (grid0.coords t) = ![1, t.val / 4, 0] := by
  revert t; decide +kernel

theorem iblk_x (c : Dev nD) (t : Fin cfg0.N) (hb : t.val / 4 < 4) (x k : Fin 1024) :
    iblk m c 0 t (ix3 0 x k) = m ((c.tc : Thread nD τ).loc main_arg0)
      (ix3 ⟨t.val / 4, hb⟩ ⟨1024 * (t.val % 4) + x.val, by omega⟩ k) := by
  obtain ⟨e, -⟩ := idxIn t
  rw [← V_main_arg0 m c]
  blk_ext [iblk, e]

theorem iblk_o (c : Dev nD) (t : Fin cfg0.N) (j : Fin 3) (b : Fin 4) (d : Fin 1024) :
    iblk m c 1 t (ix3 j b d) = m ((c.tc : Thread nD τ).loc main_arg1) (ix3 j b d) := by
  obtain ⟨-, e, -⟩ := idxIn t
  rw [← V_main_arg1 m c]
  blk_ext [iblk, e]

theorem iblk_g (c : Dev nD) (t : Fin cfg0.N) (d : Fin 1024) :
    iblk m c 2 t (ix2 0 d) = m ((c.tc : Thread nD τ).loc main_arg3) (ix1 d) := by
  obtain ⟨-, -, e, -⟩ := idxIn t
  rw [← V_g m c]
  blk_ext [iblk, e]

theorem iblk_wtok (c : Dev nD) (t : Fin cfg0.N) (j k : Fin 1024) :
    iblk m c 3 t (ix2 j k) = (V m c main_v39 : FVec Ideal S1024x1024 .bf16) (ix2 j k) := by
  obtain ⟨-, -, -, e, -⟩ := idxIn t
  blk_ext [iblk, e]

theorem iblk_wtr (c : Dev nD) (t : Fin cfg0.N) (j : Fin 1816) (k : Fin 1024) :
    iblk m c 4 t (ix2 j k) = (V m c main_v40 : FVec Ideal S1816x1024 .bf16) (ix2 j k) := by
  obtain ⟨-, -, -, -, e⟩ := idxIn t
  blk_ext [iblk, e]

end Cert.Kernel3Ideal.Hand
-- ==== Proof.ProjStored.lean ====
/-
  What a step of the input projection's kernel stores in the five claimed outputs' blocks, read at an index.
-/
module

public import proofs.«01_k».proof.Proof.ProjStep
public import proofs.«01_k».proof.Proof.ProjBlocks
public import Idealize.ShloMosaic.Lib.WholeRead

@[expose] public section

set_option maxRecDepth 16384

noncomputable section

namespace Cert.Kernel3Ideal.Hand

open Cert.Kernel3Ideal Cert.Kernel3Ideal.Gen
open Idealize.ShloMosaic Idealize.ShloMosaic.TcCoe
open scoped BigOperators

/-- A load from a whole buffer that reads `X` picks `X`'s entries. -/
theorem load_eq {κ : Kind} {sp : Space} {s : Shape} {e : EltTy} {M : Memref sig κ sp s e} (h : M.IsWhole) (X : s.Idx → Elt Ideal e) (B : LoadRect s) :
    View.readAt (Elt Ideal) M.view B (h.unread X) = fun x => X (B.idx x) :=
  funext (h.readAt_unread X B)

/-- A store over a whole block is what the block holds afterwards. -/
theorem left_store {s : Shape} {e : EltTy} (v : View sig .tc .vmem s e) (off : Fin s.rank → ℕ)
    (h : ∀ a, off a = 0) (inb : ∀ a, off a + s.size a ≤ s.size a) (w : s.Idx → Elt Ideal e) :
    left v [⟨Rect.unit (s := s) off s.size inb, w⟩] = w := by
  funext y
  have e : (Rect.unit (s := s) off s.size inb).emb y = y := by
    funext a
    apply Fin.ext
    rw [Rect.emb_apply]
    show off a + 1 * (y a : ℕ) = y a
    rw [h a]; omega
  have hr := View.read_writes_cons_emb (v := v) (f := v.junk) (Rect.unit (s := s) off s.size inb) w [] y
  rw [e] at hr
  exact hr

/-- A load's index is the rectangle's. -/
theorem idx_emb {s : Shape} (r : Rect s) (y : r.shape.Idx) : r.toLoadRect.idx y = r.emb y := rfl

theorem zero3 : ∀ a : Fin 3, (![0, 0, 0] : Fin 3 → ℕ) a = 0 := by decide

variable (m : (ℓ : Loc nD τ sig) → Buf (Elt Ideal) ℓ)

/-- The shift row a step reads. -/
def shiftRow (c : Dev nD) (t : Fin cfg0.N) : Vec Ideal S1x1x1024 .f32 := fun y =>
  iblk m c 1 t ((Rect.unit (s := S3x4x1024) (k0_off1 (grid0.coords t)) S1x1x1024.size (k0_off1_inb (grid0.coords t))).toLoadRect.idx y)

/-- The scale row a step reads. -/
def scaleRow (c : Dev nD) (t : Fin cfg0.N) : Vec Ideal S1x1x1024 .f32 := fun y =>
  iblk m c 1 t ((Rect.unit (s := S3x4x1024) (k0_off2 (grid0.coords t)) S1x1x1024.size (k0_off2_inb (grid0.coords t))).toLoadRect.idx y)

/-- The rows of the residual input a step reads. -/
def rowsOf (c : Dev nD) (t : Fin cfg0.N) : Vec Ideal S1x1024x1024 .f32 := fun y =>
  iblk m c 0 t ((Rect.unit (s := S1x1024x1024) ![0, 0, 0] S1x1024x1024.size inb_S1x1024x1024_S1x1024x1024_0_0_0).toLoadRect.idx y)

/-- The gain a step reads. -/
def gainOf (c : Dev nD) (t : Fin cfg0.N) : Vec Ideal S1x1024 .f32 := fun y =>
  iblk m c 2 t ((Rect.unit (s := S1x1024) ![0, 0] S1x1024.size inb_S1x1024_S1x1024_0_0).toLoadRect.idx y)

/-- The product with the first layout of the weights. -/
def tokOf (c : Dev nD) (t : Fin cfg0.N) : FVec Ideal S1024x1024 .f32 :=
  k0_pay5 (shiftRow m c t) (scaleRow m c t) (rowsOf m c t) (gainOf m c t) fun y =>
    iblk m c 3 t ((Rect.unit (s := S1024x1024) ![0, 0] S1024x1024.size inb_S1024x1024_S1024x1024_0_0).toLoadRect.idx y)

/-- The product with the second layout of the weights. -/
def trOf (c : Dev nD) (t : Fin cfg0.N) : FVec Ideal S1816x1024 .f32 :=
  k0_pay6 (shiftRow m c t) (scaleRow m c t) (rowsOf m c t) (gainOf m c t) fun y =>
    iblk m c 4 t ((Rect.unit (s := S1816x1024) ![0, 0] S1816x1024.size inb_S1816x1024_S1816x1024_0_0).toLoadRect.idx y)

theorem stored18 (c : Dev nD) (t : Fin cfg0.N) : left VO0_18 (ran m c t).2.2.2.2.2.1 = k0_pay33 (tokOf m c t) := by
  unfold ran kernelRun0_A
  dsimp only
  unfold kernelRun0_A.sl.r
  simp only [load_eq]
  exact left_store (s := S1x1024x128) VO0_18 ![0, 0, 0] zero3 _ _

theorem stored19 (c : Dev nD) (t : Fin cfg0.N) : left VO0_19 (ran m c t).2.2.2.2.2.2.1 = k0_pay34 (tokOf m c t) := by
  unfold ran kernelRun0_A
  dsimp only
  unfold kernelRun0_A.sl.r
  simp only [load_eq]
  exact left_store (s := S1x1024x128) VO0_19 ![0, 0, 0] zero3 _ _

theorem stored20 (c : Dev nD) (t : Fin cfg0.N) : left VO0_20 (ran m c t).2.2.2.2.2.2.2.1 = k0_pay1 (k0_pay208 (trOf m c t)) := by
  unfold ran kernelRun0_A
  dsimp only
  unfold kernelRun0_A.sl.r_45 kernelRun0_A.sl.r_1
  simp only [load_eq]
  exact left_store (s := S1x24x1024) VO0_20 ![0, 0, 0] zero3 _ _

theorem stored21 (c : Dev nD) (t : Fin cfg0.N) : left VO0_21 (ran m c t).2.2.2.2.2.2.2.2.1 = k0_pay2 (trOf m c t) := by
  unfold ran kernelRun0_A
  dsimp only
  unfold kernelRun0_A.sl.r_1
  simp only [load_eq]
  exact left_store (s := S1x512x1024) VO0_21 ![0, 0, 0] zero3 _ _

theorem stored22 (c : Dev nD) (t : Fin cfg0.N) : left VO0_22 (ran m c t).2.2.2.2.2.2.2.2.2.1 = k0_pay3 (trOf m c t) := by
  unfold ran kernelRun0_A
  dsimp only
  unfold kernelRun0_A.sl.r_1
  simp only [load_eq]
  exact left_store (s := S1x512x1024) VO0_22 ![0, 0, 0] zero3 _ _

/-! ## The entries -/

/-- A step's modulated norm. -/
theorem hiddenOf_apply (c : Dev nD) (t : Fin cfg0.N) (hb : t.val / 4 < 4) (x k : Fin 1024) :
    k0_pay4 (shiftRow m c t) (scaleRow m c t) (rowsOf m c t) (gainOf m c t) (ix2 x k) =
      Proj.hidden (m ((c.tc : Thread nD τ).loc main_arg0)) (m ((c.tc : Thread nD τ).loc main_arg1)) (m ((c.tc : Thread nD τ).loc main_arg3))
        ⟨t.val / 4, hb⟩ ⟨1024 * (t.val % 4) + x.val, by omega⟩ k := by
  obtain ⟨e1, e2⟩ := modOff t
  have r1 : shiftRow m c t (ix3 0 0 k) = m ((c.tc : Thread nD τ).loc main_arg1) (ix3 0 ⟨t.val / 4, hb⟩ k) := by
    rw [← iblk_o m c t]
    unfold shiftRow
    refine congrArg (iblk m c 1 t) ?_
    rw [idx_emb]; blk_ext [e1]
  have r2 : scaleRow m c t (ix3 0 0 k) = m ((c.tc : Thread nD τ).loc main_arg1) (ix3 1 ⟨t.val / 4, hb⟩ k) := by
    rw [← iblk_o m c t]
    unfold scaleRow
    refine congrArg (iblk m c 1 t) ?_
    rw [idx_emb]; blk_ext [e2]
  have r3 : ∀ j, rowsOf m c t (ix3 0 x j) = m ((c.tc : Thread nD τ).loc main_arg0) (ix3 ⟨t.val / 4, hb⟩ ⟨1024 * (t.val % 4) + x.val, by omega⟩ j) := by
    intro j
    rw [← iblk_x m c t hb]
    unfold rowsOf
    refine congrArg (iblk m c 0 t) ?_
    rw [idx_emb]; blk_ext
  have r4 : gainOf m c t (ix2 0 k) = m ((c.tc : Thread nD τ).loc main_arg3) (ix1 k) := by
    rw [← iblk_g m c t]
    unfold gainOf
    refine congrArg (iblk m c 2 t) ?_
    rw [idx_emb]; blk_ext
  rw [pay4_apply, r1, r2, r4]
  simp only [r3]
  rfl

/-- An entry of the first product, at one of the claimed columns. -/
theorem tokOf_apply (c : Dev nD) (t : Fin cfg0.N) (hb : t.val / 4 < 4) (x : Fin 1024) (d : Fin 256) :
    tokOf m c t (ix2 x ⟨384 + d.val, by omega⟩) =
      Proj.column (m ((c.tc : Thread nD τ).loc main_arg0)) (m ((c.tc : Thread nD τ).loc main_arg1)) (m ((c.tc : Thread nD τ).loc main_arg3))
        (m ((c.tc : Thread nD τ).loc main_arg4)) ⟨t.val / 4, hb⟩ ⟨1024 * (t.val % 4) + x.val, by omega⟩ ⟨512 + d.val, by omega⟩ := by
  obtain ⟨a, b, e, hw⟩ := V_wtok m c
  unfold tokOf Proj.column
  rw [pay5_apply]
  refine Finset.sum_congr rfl fun k _ => ?_
  rw [hiddenOf_apply m c t hb]
  refine congrArg (Proj.hidden _ _ _ _ _ k * ·) ?_
  rw [← layoutA_apply a b (m ((c.tc : Thread nD τ).loc main_arg4)) e d k, ← hw, ← iblk_wtok m c t]
  refine congrArg (iblk m c 3 t) ?_
  rw [idx_emb]; blk_ext

/-- An entry of the second product, at the row the host made of column `j` of the weights. -/
theorem trOf_apply (c : Dev nD) (t : Fin cfg0.N) (hb : t.val / 4 < 4) (x : Fin 1024) (d : Fin 1816) (j : Fin 2744)
    (hw : ∀ k : Fin 1024, (V m c main_v40 : FVec Ideal S1816x1024 .bf16) (ix2 d k) = m ((c.tc : Thread nD τ).loc main_arg4) (ix2 k j)) :
    trOf m c t (ix2 d x) =
      Proj.column (m ((c.tc : Thread nD τ).loc main_arg0)) (m ((c.tc : Thread nD τ).loc main_arg1)) (m ((c.tc : Thread nD τ).loc main_arg3))
        (m ((c.tc : Thread nD τ).loc main_arg4)) ⟨t.val / 4, hb⟩ ⟨1024 * (t.val % 4) + x.val, by omega⟩ j := by
  unfold trOf Proj.column
  rw [pay6_apply]
  refine Finset.sum_congr rfl fun k _ => ?_
  rw [hiddenOf_apply m c t hb, mul_comm]
  refine congrArg (Proj.hidden _ _ _ _ _ k * ·) ?_
  rw [← hw k, ← iblk_wtr m c t]
  refine congrArg (iblk m c 4 t) ?_
  rw [idx_emb]; blk_ext

theorem row_mid (c : Dev nD) (d : Fin 664) (k : Fin 1024) : (V m c main_v40 : FVec Ideal S1816x1024 .bf16) (ix2 ⟨640 + d.val, by omega⟩ k) =
    m ((c.tc : Thread nD τ).loc main_arg4) (ix2 k ⟨1152 + d.val, by omega⟩) := by
  obtain ⟨a, b, hw⟩ := V_wtr m c
  rw [hw, layoutB_mid]

theorem row_last (c : Dev nD) (d : Fin 512) (k : Fin 1024) : (V m c main_v40 : FVec Ideal S1816x1024 .bf16) (ix2 ⟨1304 + d.val, by omega⟩ k) =
    m ((c.tc : Thread nD τ).loc main_arg4) (ix2 k ⟨2232 + d.val, by omega⟩) := by
  obtain ⟨a, b, hw⟩ := V_wtr m c
  rw [hw, layoutB_last]

/-! ## The five blocks -/

theorem block18 (c : Dev nD) (t : Fin cfg0.N) (hb : t.val / 4 < 4) (x : Fin 1024) (d : Fin 128) :
    left VO0_18 (ran m c t).2.2.2.2.2.1 (ix3 0 x d) = Proj.keys (m ((c.tc : Thread nD τ).loc main_arg0)) (m ((c.tc : Thread nD τ).loc main_arg1)) (m ((c.tc : Thread nD τ).loc main_arg3))
        (m ((c.tc : Thread nD τ).loc main_arg4))
        (ix3 ⟨t.val / 4, hb⟩ ⟨1024 * (t.val % 4) + x.val, by omega⟩ d) := by
  rw [stored18, pay33_apply, Proj.keys_apply]
  exact tokOf_apply m c t hb x ⟨d.val, by omega⟩

theorem block19 (c : Dev nD) (t : Fin cfg0.N) (hb : t.val / 4 < 4) (x : Fin 1024) (d : Fin 128) :
    left VO0_19 (ran m c t).2.2.2.2.2.2.1 (ix3 0 x d) = Proj.vals (m ((c.tc : Thread nD τ).loc main_arg0)) (m ((c.tc : Thread nD τ).loc main_arg1)) (m ((c.tc : Thread nD τ).loc main_arg3))
        (m ((c.tc : Thread nD τ).loc main_arg4))
        (ix3 ⟨t.val / 4, hb⟩ ⟨1024 * (t.val % 4) + x.val, by omega⟩ d) := by
  rw [stored19, pay34_apply, Proj.vals_apply]
  have e1 : (⟨512 + d.val, by omega⟩ : Fin 1024) = ⟨384 + (128 + d.val), by omega⟩ := Fin.ext (by show 512 + d.val = 384 + (128 + d.val); omega)
  have e2 : (⟨640 + d.val, by omega⟩ : Fin 2744) = ⟨512 + (128 + d.val), by omega⟩ := Fin.ext (by show 640 + d.val = 512 + (128 + d.val); omega)
  rw [e1, e2]
  exact tokOf_apply m c t hb x ⟨128 + d.val, by omega⟩

theorem block20 (c : Dev nD) (t : Fin cfg0.N) (hb : t.val / 4 < 4) (d : Fin 24) (x : Fin 1024) :
    left VO0_20 (ran m c t).2.2.2.2.2.2.2.1 (ix3 0 d x) = Proj.gates (m ((c.tc : Thread nD τ).loc main_arg0)) (m ((c.tc : Thread nD τ).loc main_arg1)) (m ((c.tc : Thread nD τ).loc main_arg3))
        (m ((c.tc : Thread nD τ).loc main_arg4))
        (ix3 ⟨t.val / 4, hb⟩ d ⟨1024 * (t.val % 4) + x.val, by omega⟩) := by
  rw [stored20, pay208_apply, Proj.gates_apply]
  refine congrArg Ideal.logistic (trOf_apply m c t hb x _ _ fun k => ?_)
  have e1 : (⟨768 + d.val, by omega⟩ : Fin 1816) = ⟨640 + (128 + d.val), by omega⟩ := Fin.ext (by show 768 + d.val = 640 + (128 + d.val); omega)
  have e2 : (⟨1280 + d.val, by omega⟩ : Fin 2744) = ⟨1152 + (128 + d.val), by omega⟩ := Fin.ext (by show 1280 + d.val = 1152 + (128 + d.val); omega)
  rw [e1, e2]
  exact row_mid m c ⟨128 + d.val, by omega⟩ k

theorem block21 (c : Dev nD) (t : Fin cfg0.N) (hb : t.val / 4 < 4) (d : Fin 512) (x : Fin 1024) :
    left VO0_21 (ran m c t).2.2.2.2.2.2.2.2.1 (ix3 0 d x) = Proj.pathN (m ((c.tc : Thread nD τ).loc main_arg0)) (m ((c.tc : Thread nD τ).loc main_arg1)) (m ((c.tc : Thread nD τ).loc main_arg3))
        (m ((c.tc : Thread nD τ).loc main_arg4))
        (ix3 ⟨t.val / 4, hb⟩ d ⟨1024 * (t.val % 4) + x.val, by omega⟩) := by
  rw [stored21, pay2_apply, Proj.pathN_apply]
  refine congrArg Proj.silu (trOf_apply m c t hb x _ _ fun k => ?_)
  have e1 : (⟨792 + d.val, by omega⟩ : Fin 1816) = ⟨640 + (152 + d.val), by omega⟩ := Fin.ext (by show 792 + d.val = 640 + (152 + d.val); omega)
  have e2 : (⟨1304 + d.val, by omega⟩ : Fin 2744) = ⟨1152 + (152 + d.val), by omega⟩ := Fin.ext (by show 1304 + d.val = 1152 + (152 + d.val); omega)
  rw [e1, e2]
  exact row_mid m c ⟨152 + d.val, by omega⟩ k

theorem block22 (c : Dev nD) (t : Fin cfg0.N) (hb : t.val / 4 < 4) (d : Fin 512) (x : Fin 1024) :
    left VO0_22 (ran m c t).2.2.2.2.2.2.2.2.2.1 (ix3 0 d x) = Proj.pathM (m ((c.tc : Thread nD τ).loc main_arg0)) (m ((c.tc : Thread nD τ).loc main_arg1)) (m ((c.tc : Thread nD τ).loc main_arg3))
        (m ((c.tc : Thread nD τ).loc main_arg4))
        (ix3 ⟨t.val / 4, hb⟩ d ⟨1024 * (t.val % 4) + x.val, by omega⟩) := by
  rw [stored22, pay3_apply, Proj.pathM_apply]
  exact congrArg Proj.silu (trOf_apply m c t hb x _ _ fun k => row_last m c d k)

end Cert.Kernel3Ideal.Hand
-- ==== Proof.ProjValue.lean ====
/-
  The five claimed arrays of the input projection after its run: they are the reference's.
-/
module

public import proofs.«01_k».proof.Proof.RunProjIdeal
public import proofs.«01_k».proof.Proof.ProjStored

@[expose] public section

set_option maxRecDepth 16384

noncomputable section

namespace Cert.Kernel3Ideal.Hand

open Cert.Kernel3Ideal Cert.Kernel3Ideal.Gen
open Idealize.ShloMosaic Idealize.ShloMosaic.TcCoe

variable (m : (ℓ : Loc nD τ sig) → Buf (Elt Ideal) ℓ)

theorem keys_eq (c : Dev nD) : (dats m 0 c).arrAt 18 (cfgs 0).N = Proj.keys (m ((c.tc : Thread nD τ).loc main_arg0))
    (m ((c.tc : Thread nD τ).loc main_arg1)) (m ((c.tc : Thread nD τ).loc main_arg3)) (m ((c.tc : Thread nD τ).loc main_arg4)) := by
  refine (dats m 0 c).arrAt_eq_of_covers 18 _ (by decide +kernel) fun t hf y => ?_
  have hb : t.val / 4 < 4 := by have : t.val < 16 := t.isLt; omega
  obtain ⟨e, -⟩ := idxOut t
  blk_simp
  obtain ⟨z, x, d, rfl⟩ : ∃ (z : Fin 1) (x : Fin 1024) (d : Fin 128), y = ix3 z x d := ⟨y 0, y 1, y 2, eq_ix3 y⟩
  obtain rfl : z = 0 := Subsingleton.elim _ _
  have ey : (win0_18.blk t).view.emb (ix3 0 x d) = ix3 ⟨t.val / 4, hb⟩ ⟨1024 * (t.val % 4) + x.val, by omega⟩ d := by
    blk_ext [e]
  exact (congrFun (after_18 m c t) (ix3 0 x d)).trans ((block18 m c t hb x d).trans (congrArg (Proj.keys _ _ _ _) ey.symm))

theorem vals_eq (c : Dev nD) : (dats m 0 c).arrAt 19 (cfgs 0).N = Proj.vals (m ((c.tc : Thread nD τ).loc main_arg0))
    (m ((c.tc : Thread nD τ).loc main_arg1)) (m ((c.tc : Thread nD τ).loc main_arg3)) (m ((c.tc : Thread nD τ).loc main_arg4)) := by
  refine (dats m 0 c).arrAt_eq_of_covers 19 _ (by decide +kernel) fun t hf y => ?_
  have hb : t.val / 4 < 4 := by have : t.val < 16 := t.isLt; omega
  obtain ⟨-, e, -⟩ := idxOut t
  blk_simp
  obtain ⟨z, x, d, rfl⟩ : ∃ (z : Fin 1) (x : Fin 1024) (d : Fin 128), y = ix3 z x d := ⟨y 0, y 1, y 2, eq_ix3 y⟩
  obtain rfl : z = 0 := Subsingleton.elim _ _
  have ey : (win0_19.blk t).view.emb (ix3 0 x d) = ix3 ⟨t.val / 4, hb⟩ ⟨1024 * (t.val % 4) + x.val, by omega⟩ d := by
    blk_ext [e]
  exact (congrFun (after_19 m c t) (ix3 0 x d)).trans ((block19 m c t hb x d).trans (congrArg (Proj.vals _ _ _ _) ey.symm))

theorem gates_eq (c : Dev nD) : (dats m 0 c).arrAt 20 (cfgs 0).N = Proj.gates (m ((c.tc : Thread nD τ).loc main_arg0))
    (m ((c.tc : Thread nD τ).loc main_arg1)) (m ((c.tc : Thread nD τ).loc main_arg3)) (m ((c.tc : Thread nD τ).loc main_arg4)) := by
  refine (dats m 0 c).arrAt_eq_of_covers 20 _ (by decide +kernel) fun t hf y => ?_
  have hb : t.val / 4 < 4 := by have : t.val < 16 := t.isLt; omega
  obtain ⟨-, -, e, -⟩ := idxOut t
  blk_simp
  obtain ⟨z, d, x, rfl⟩ : ∃ (z : Fin 1) (d : Fin 24) (x : Fin 1024), y = ix3 z d x := ⟨y 0, y 1, y 2, eq_ix3 y⟩
  obtain rfl : z = 0 := Subsingleton.elim _ _
  have ey : (win0_20.blk t).view.emb (ix3 0 d x) = ix3 ⟨t.val / 4, hb⟩ d ⟨1024 * (t.val % 4) + x.val, by omega⟩ := by
    blk_ext [e]
  exact (congrFun (after_20 m c t) (ix3 0 d x)).trans ((block20 m c t hb d x).trans (congrArg (Proj.gates _ _ _ _) ey.symm))

theorem pathN_eq (c : Dev nD) : (dats m 0 c).arrAt 21 (cfgs 0).N = Proj.pathN (m ((c.tc : Thread nD τ).loc main_arg0))
    (m ((c.tc : Thread nD τ).loc main_arg1)) (m ((c.tc : Thread nD τ).loc main_arg3)) (m ((c.tc : Thread nD τ).loc main_arg4)) := by
  refine (dats m 0 c).arrAt_eq_of_covers 21 _ (by decide +kernel) fun t hf y => ?_
  have hb : t.val / 4 < 4 := by have : t.val < 16 := t.isLt; omega
  obtain ⟨-, -, -, e, -⟩ := idxOut t
  blk_simp
  obtain ⟨z, d, x, rfl⟩ : ∃ (z : Fin 1) (d : Fin 512) (x : Fin 1024), y = ix3 z d x := ⟨y 0, y 1, y 2, eq_ix3 y⟩
  obtain rfl : z = 0 := Subsingleton.elim _ _
  have ey : (win0_21.blk t).view.emb (ix3 0 d x) = ix3 ⟨t.val / 4, hb⟩ d ⟨1024 * (t.val % 4) + x.val, by omega⟩ := by
    blk_ext [e]
  exact (congrFun (after_21 m c t) (ix3 0 d x)).trans ((block21 m c t hb d x).trans (congrArg (Proj.pathN _ _ _ _) ey.symm))

theorem pathM_eq (c : Dev nD) : (dats m 0 c).arrAt 22 (cfgs 0).N = Proj.pathM (m ((c.tc : Thread nD τ).loc main_arg0))
    (m ((c.tc : Thread nD τ).loc main_arg1)) (m ((c.tc : Thread nD τ).loc main_arg3)) (m ((c.tc : Thread nD τ).loc main_arg4)) := by
  refine (dats m 0 c).arrAt_eq_of_covers 22 _ (by decide +kernel) fun t hf y => ?_
  have hb : t.val / 4 < 4 := by have : t.val < 16 := t.isLt; omega
  obtain ⟨-, -, -, -, e⟩ := idxOut t
  blk_simp
  obtain ⟨z, d, x, rfl⟩ : ∃ (z : Fin 1) (d : Fin 512) (x : Fin 1024), y = ix3 z d x := ⟨y 0, y 1, y 2, eq_ix3 y⟩
  obtain rfl : z = 0 := Subsingleton.elim _ _
  have ey : (win0_22.blk t).view.emb (ix3 0 d x) = ix3 ⟨t.val / 4, hb⟩ d ⟨1024 * (t.val % 4) + x.val, by omega⟩ := by
    blk_ext [e]
  exact (congrFun (after_22 m c t) (ix3 0 d x)).trans ((block22 m c t hb d x).trans (congrArg (Proj.pathM _ _ _ _) ey.symm))

/-! ## What the run leaves in the five results -/

set_option maxHeartbeats 4000000 in
theorem keys_held (c : Dev nD) (r) (h : Pipeline.FramePost cfgs (dats m) 0 (V m) r) :
    r.2.mem ((c.tc : Thread nD τ).loc main_v63_5) = Proj.keys (m ((c.tc : Thread nD τ).loc main_arg0)) (m ((c.tc : Thread nD τ).loc main_arg1)) (m ((c.tc : Thread nD τ).loc main_arg3))
    (m ((c.tc : Thread nD τ).loc main_arg4)) :=
  (h.out_eq c 18).trans (keys_eq m c)

set_option maxHeartbeats 4000000 in
theorem vals_held (c : Dev nD) (r) (h : Pipeline.FramePost cfgs (dats m) 0 (V m) r) :
    r.2.mem ((c.tc : Thread nD τ).loc main_v63_6) = Proj.vals (m ((c.tc : Thread nD τ).loc main_arg0)) (m ((c.tc : Thread nD τ).loc main_arg1)) (m ((c.tc : Thread nD τ).loc main_arg3))
    (m ((c.tc : Thread nD τ).loc main_arg4)) :=
  (h.out_eq c 19).trans (vals_eq m c)

set_option maxHeartbeats 4000000 in
theorem gates_held (c : Dev nD) (r) (h : Pipeline.FramePost cfgs (dats m) 0 (V m) r) :
    r.2.mem ((c.tc : Thread nD τ).loc main_v63_7) = Proj.gates (m ((c.tc : Thread nD τ).loc main_arg0)) (m ((c.tc : Thread nD τ).loc main_arg1)) (m ((c.tc : Thread nD τ).loc main_arg3))
    (m ((c.tc : Thread nD τ).loc main_arg4)) :=
  (h.out_eq c 20).trans (gates_eq m c)

set_option maxHeartbeats 4000000 in
theorem pathN_held (c : Dev nD) (r) (h : Pipeline.FramePost cfgs (dats m) 0 (V m) r) :
    r.2.mem ((c.tc : Thread nD τ).loc main_v63_8) = Proj.pathN (m ((c.tc : Thread nD τ).loc main_arg0)) (m ((c.tc : Thread nD τ).loc main_arg1)) (m ((c.tc : Thread nD τ).loc main_arg3))
    (m ((c.tc : Thread nD τ).loc main_arg4)) :=
  (h.out_eq c 21).trans (pathN_eq m c)

set_option maxHeartbeats 4000000 in
theorem pathM_held (c : Dev nD) (r) (h : Pipeline.FramePost cfgs (dats m) 0 (V m) r) :
    r.2.mem ((c.tc : Thread nD τ).loc main_v63_9) = Proj.pathM (m ((c.tc : Thread nD τ).loc main_arg0)) (m ((c.tc : Thread nD τ).loc main_arg1)) (m ((c.tc : Thread nD τ).loc main_arg3))
    (m ((c.tc : Thread nD τ).loc main_arg4)) :=
  (h.out_eq c 22).trans (pathM_eq m c)

end Cert.Kernel3Ideal.Hand
-- ==== Proof.ProjRun.lean ====
/-
  The reference's run of the input projection, with its results in closed form.
-/
module

public import proofs.«01_k».proof.Proof.Gen.Reference3Ideal.Run
public import proofs.«01_k».proof.Proof.ProjReference
public import Idealize.ShloMosaic.Lib.Claim

@[expose] public section

set_option maxRecDepth 16384

noncomputable section

namespace Cert.Reference3Ideal.Reading

open Cert.Reference3Ideal Cert.Reference3Ideal.Gen
open Idealize.ShloMosaic Idealize.ShloMosaic.TcCoe Idealize.SL.Sem

/-- The reference runs, and its five results are the arrays of `Proj`. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = Proj.keys (m ((c.tc : Thread nD τ).loc main_arg0)) (m ((c.tc : Thread nD τ).loc main_arg1))
        (m ((c.tc : Thread nD τ).loc main_arg3)) (m ((c.tc : Thread nD τ).loc main_arg4))
      ∧ r.2.mem ((c.tc : Thread nD τ).loc main_v28) = Proj.vals (m ((c.tc : Thread nD τ).loc main_arg0)) (m ((c.tc : Thread nD τ).loc main_arg1))
        (m ((c.tc : Thread nD τ).loc main_arg3)) (m ((c.tc : Thread nD τ).loc main_arg4))
      ∧ r.2.mem ((c.tc : Thread nD τ).loc main_v45) = Proj.gates (m ((c.tc : Thread nD τ).loc main_arg0)) (m ((c.tc : Thread nD τ).loc main_arg1))
        (m ((c.tc : Thread nD τ).loc main_arg3)) (m ((c.tc : Thread nD τ).loc main_arg4))
      ∧ r.2.mem ((c.tc : Thread nD τ).loc main_v48) = Proj.pathN (m ((c.tc : Thread nD τ).loc main_arg0)) (m ((c.tc : Thread nD τ).loc main_arg1))
        (m ((c.tc : Thread nD τ).loc main_arg3)) (m ((c.tc : Thread nD τ).loc main_arg4))
      ∧ r.2.mem ((c.tc : Thread nD τ).loc main_v51) = Proj.pathM (m ((c.tc : Thread nD τ).loc main_arg0)) (m ((c.tc : Thread nD τ).loc main_arg1))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (Cert.Reference3Ideal.Value.run (F := Ideal) m ρ)
  obtain ⟨h0, h1, h2, h3, h4, h5⟩ := h c
  exact ⟨h0.trans (keys_eq _ _ _ _), h1.trans (vals_eq _ _ _ _), h2.trans (gates_eq _ _ _ _), h3.trans (pathN_eq _ _ _ _),
    h4.trans (pathM_eq _ _ _ _), h5⟩

end Cert.Reference3Ideal.Reading
-- ==== Proof.lean ====
/-
  The claims: each program runs and leaves its arguments unchanged; the ideal kernel is the kernel over the extended reals;
  and the kernel computes what the reference computes, for finite queries and keys and with ones in the values' rows of
  ones. The modules under `Proof/`: `Ops`, `Match…` (the body as a composition of steps), `Steps`, `Model`, `Phases`,
  `Sweep` (what the steps do to the buffers), `Run…` (the whole run), `Softmax` (the mathematics of the sweep), `Block` (a
  step's values), `Reference` (the reference's values), `Precondition`, `Equation` and `Result` (the two are equal).
  The same claims of the output projection, for all arguments: `RunOutput` and `RunOutputIdeal` (the whole run),
  `OutputReference` (the reference's values), `OutputValue` (the kernel's values, which are those).
  The same claims of the input projection, of five of its results and for all arguments: `RunProj` and `RunProjIdeal` (the
  whole run), `ProjReference` and `ProjRun` (the reference's values), `ProjBlocks`, `ProjStep`, `ProjStored` (a step's
  values), `ProjValue` (the kernel's five arrays, which are the reference's).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Pre_finite_with_ones
public import proofs.«01_k».proof.Proof.Gen.ReferenceIdeal.Run
public import proofs.«01_k».proof.Proof.RunKernel
public import proofs.«01_k».proof.Proof.RunKernelIdeal
public import proofs.«01_k».proof.Proof.Precondition
public import proofs.«01_k».proof.Proof.Result
public import proofs.«01_k».proof.Proof.RunOutput
public import proofs.«01_k».proof.Proof.OutputValue
public import proofs.«01_k».proof.Proof.RunProj
public import proofs.«01_k».proof.Proof.ProjValue
public import proofs.«01_k».proof.Proof.ProjRun

@[expose] public section

noncomputable section

namespace Cert.Proof

open Idealize.ShloMosaic Idealize.ShloMosaic.TcCoe Idealize.SL.Sem

/-- The reference runs, leaves its arguments unchanged and declares no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
      r.2.mem ((c.tc : Thread _ Cert.ReferenceIdeal.τ).loc Cert.ReferenceIdeal.main_arg0) = m ((c.tc : Thread _ Cert.ReferenceIdeal.τ).loc Cert.ReferenceIdeal.main_arg0)
      ∧ r.2.mem ((c.tc : Thread _ Cert.ReferenceIdeal.τ).loc Cert.ReferenceIdeal.main_arg1) = m ((c.tc : Thread _ Cert.ReferenceIdeal.τ).loc Cert.ReferenceIdeal.main_arg1)
      ∧ r.2.mem ((c.tc : Thread _ Cert.ReferenceIdeal.τ).loc Cert.ReferenceIdeal.main_arg2) = m ((c.tc : Thread _ Cert.ReferenceIdeal.τ).loc Cert.ReferenceIdeal.main_arg2)
      ∧ r.2.mem ((c.tc : Thread _ Cert.ReferenceIdeal.τ).loc Cert.ReferenceIdeal.main_arg3) = m ((c.tc : Thread _ Cert.ReferenceIdeal.τ).loc Cert.ReferenceIdeal.main_arg3))
      ∧ r.2.sem = fun _ => 0) :=
  (θ_run Cert.ReferenceIdeal.defs _ _).mono
    (fun r h => ⟨fun c => (h c).2, sem_eq_zero_of_no_sems (by decide) r.2⟩) (Cert.ReferenceIdeal.Value.run (F := Ideal) m g)

/-- Kernel and reference compute the same array over the extended reals. -/
theorem algebraic : Cert.algebraic_KernelIdeal_ReferenceIdeal_pre_finite_with_ones := by
  intro m g m' g' hpre hagree
  refine ⟨fun c => Mla.attention (m ((c.tc : Thread _ Cert.KernelIdeal.τ).loc Cert.KernelIdeal.main_arg0))
    (m ((c.tc : Thread _ Cert.KernelIdeal.τ).loc Cert.KernelIdeal.main_arg1))
    (m ((c.tc : Thread _ Cert.KernelIdeal.τ).loc Cert.KernelIdeal.main_arg2))
    (m ((c.tc : Thread _ Cert.KernelIdeal.τ).loc Cert.KernelIdeal.main_arg3)), ?_, ?_⟩
  · refine (θ_run Cert.KernelIdeal.defs _ _).mono (fun r h c => ?_) (θ_run_and (Cert.KernelIdeal.Hand.run_main m g) (Cert.KernelIdeal.Hand.frame m g))
    obtain ⟨e0, e1, e2⟩ := hpre c
    exact ⟨(h.1.out_eq c 5).trans (Cert.KernelIdeal.Hand.result_eq m c (Mla.queries_real _ _ _ _ e0) (Mla.keys_real _ _ _ _ e1)
      (Mla.ones _ _ _ _ e2)), h.2.1 c⟩
  · refine (θ_run Cert.ReferenceIdeal.defs _ _).mono (fun r h c => ?_) (Cert.ReferenceIdeal.Value.run (F := Ideal) m' g')
    refine ⟨(h c).1.trans ((Cert.ReferenceIdeal.Reading.res_eq m' c).trans ?_), (h c).2⟩
    obtain ⟨a0, a1, a2, a3⟩ := hagree c
    rw [a0, a1, a2, a3]
    rfl

/-- The output projection's reference runs, leaves its arguments unchanged and declares no semaphore. -/
theorem frame_out (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal)))
      ⟨m, fun _ => 0, g⟩ (fun r => (∀ c : Dev Cert.Reference2Ideal.nD,
      r.2.mem ((c.tc : Thread _ Cert.Reference2Ideal.τ).loc Cert.Reference2Ideal.main_arg0) = m ((c.tc : Thread _ Cert.Reference2Ideal.τ).loc Cert.Reference2Ideal.main_arg0)
      ∧ r.2.mem ((c.tc : Thread _ Cert.Reference2Ideal.τ).loc Cert.Reference2Ideal.main_arg1) = m ((c.tc : Thread _ Cert.Reference2Ideal.τ).loc Cert.Reference2Ideal.main_arg1)
      ∧ r.2.mem ((c.tc : Thread _ Cert.Reference2Ideal.τ).loc Cert.Reference2Ideal.main_arg2) = m ((c.tc : Thread _ Cert.Reference2Ideal.τ).loc Cert.Reference2Ideal.main_arg2)
      ∧ r.2.mem ((c.tc : Thread _ Cert.Reference2Ideal.τ).loc Cert.Reference2Ideal.main_arg3) = m ((c.tc : Thread _ Cert.Reference2Ideal.τ).loc Cert.Reference2Ideal.main_arg3)
      ∧ r.2.mem ((c.tc : Thread _ Cert.Reference2Ideal.τ).loc Cert.Reference2Ideal.main_arg4) = m ((c.tc : Thread _ Cert.Reference2Ideal.τ).loc Cert.Reference2Ideal.main_arg4)
      ∧ r.2.mem ((c.tc : Thread _ Cert.Reference2Ideal.τ).loc Cert.Reference2Ideal.main_arg5) = m ((c.tc : Thread _ Cert.Reference2Ideal.τ).loc Cert.Reference2Ideal.main_arg5))
      ∧ r.2.sem = fun _ => 0) :=
  (θ_run Cert.Reference2Ideal.defs _ _).mono
    (fun r h => ⟨fun c => (h c).2, sem_eq_zero_of_no_sems (by decide) r.2⟩) (Cert.Reference2Ideal.Value.run (F := Ideal) m g)

/-- The output projection and its reference compute the same array over the extended reals. -/
theorem algebraic_out : Cert.algebraic_Kernel2Ideal_Reference2Ideal := by
  intro m g m' g' hpre hagree
  refine ⟨fun c => OutProj.result (m ((c.tc : Thread _ Cert.Kernel2Ideal.τ).loc Cert.Kernel2Ideal.main_arg0))
    (m ((c.tc : Thread _ Cert.Kernel2Ideal.τ).loc Cert.Kernel2Ideal.main_arg1))
    (m ((c.tc : Thread _ Cert.Kernel2Ideal.τ).loc Cert.Kernel2Ideal.main_arg2))
    (m ((c.tc : Thread _ Cert.Kernel2Ideal.τ).loc Cert.Kernel2Ideal.main_arg3))
    (m ((c.tc : Thread _ Cert.Kernel2Ideal.τ).loc Cert.Kernel2Ideal.main_arg4))
    (m ((c.tc : Thread _ Cert.Kernel2Ideal.τ).loc Cert.Kernel2Ideal.main_arg5)), ?_, ?_⟩
  · refine (θ_run Cert.Kernel2Ideal.defs _ _).mono (fun r h c => ?_) (θ_run_and (Cert.Kernel2Ideal.Hand.run_main m g) (Cert.Kernel2Ideal.Hand.frame m g))
    exact ⟨(h.1.out_eq c 5).trans (Cert.Kernel2Ideal.Hand.result_eq m c), h.2.1 c⟩
  · refine (θ_run Cert.Reference2Ideal.defs _ _).mono (fun r h c => ?_) (Cert.Reference2Ideal.Value.run (F := Ideal) m' g')
    refine ⟨(h c).1.trans ((Cert.Reference2Ideal.Reading.out_eq _ _ _ _ _ _).trans ?_), (h c).2⟩
    obtain ⟨a0, a1, a2, a3, a4, a5⟩ := hagree c
    rw [a0, a1, a2, a3, a4, a5]

/-- The input projection's reference runs, leaves its arguments unchanged and declares no semaphore. -/
theorem frame_proj (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal)))
      ⟨m, fun _ => 0, g⟩ (fun r => (∀ c : Dev Cert.Reference3Ideal.nD,
      r.2.mem ((c.tc : Thread _ Cert.Reference3Ideal.τ).loc Cert.Reference3Ideal.main_arg0) = m ((c.tc : Thread _ Cert.Reference3Ideal.τ).loc Cert.Reference3Ideal.main_arg0)
      ∧ r.2.mem ((c.tc : Thread _ Cert.Reference3Ideal.τ).loc Cert.Reference3Ideal.main_arg1) = m ((c.tc : Thread _ Cert.Reference3Ideal.τ).loc Cert.Reference3Ideal.main_arg1)
      ∧ r.2.mem ((c.tc : Thread _ Cert.Reference3Ideal.τ).loc Cert.Reference3Ideal.main_arg2) = m ((c.tc : Thread _ Cert.Reference3Ideal.τ).loc Cert.Reference3Ideal.main_arg2)
      ∧ r.2.mem ((c.tc : Thread _ Cert.Reference3Ideal.τ).loc Cert.Reference3Ideal.main_arg3) = m ((c.tc : Thread _ Cert.Reference3Ideal.τ).loc Cert.Reference3Ideal.main_arg3)
      ∧ r.2.mem ((c.tc : Thread _ Cert.Reference3Ideal.τ).loc Cert.Reference3Ideal.main_arg4) = m ((c.tc : Thread _ Cert.Reference3Ideal.τ).loc Cert.Reference3Ideal.main_arg4)
      ∧ r.2.mem ((c.tc : Thread _ Cert.Reference3Ideal.τ).loc Cert.Reference3Ideal.main_arg5) = m ((c.tc : Thread _ Cert.Reference3Ideal.τ).loc Cert.Reference3Ideal.main_arg5)
      ∧ r.2.mem ((c.tc : Thread _ Cert.Reference3Ideal.τ).loc Cert.Reference3Ideal.main_arg6) = m ((c.tc : Thread _ Cert.Reference3Ideal.τ).loc Cert.Reference3Ideal.main_arg6)
      ∧ r.2.mem ((c.tc : Thread _ Cert.Reference3Ideal.τ).loc Cert.Reference3Ideal.main_arg7) = m ((c.tc : Thread _ Cert.Reference3Ideal.τ).loc Cert.Reference3Ideal.main_arg7)
      ∧ r.2.mem ((c.tc : Thread _ Cert.Reference3Ideal.τ).loc Cert.Reference3Ideal.main_arg8) = m ((c.tc : Thread _ Cert.Reference3Ideal.τ).loc Cert.Reference3Ideal.main_arg8))
      ∧ r.2.sem = fun _ => 0) :=
  (θ_run Cert.Reference3Ideal.defs _ _).mono
    (fun r h => ⟨fun c => (h c).2.2.2.2.2, sem_eq_zero_of_no_sems (by decide) r.2⟩) (Cert.Reference3Ideal.Reading.run_results m g)

set_option maxHeartbeats 4000000 in
/-- The input projection and its reference compute the same five arrays over the extended reals. -/
theorem algebraic_proj : Cert.algebraic_Kernel3Ideal_Reference3Ideal := by
  intro m g m' g' hpre hagree
  refine ⟨fun c => Proj.keys (m ((c.tc : Thread _ Cert.Kernel3Ideal.τ).loc Cert.Kernel3Ideal.main_arg0)) (m ((c.tc : Thread _ Cert.Kernel3Ideal.τ).loc Cert.Kernel3Ideal.main_arg1))
    (m ((c.tc : Thread _ Cert.Kernel3Ideal.τ).loc Cert.Kernel3Ideal.main_arg3)) (m ((c.tc : Thread _ Cert.Kernel3Ideal.τ).loc Cert.Kernel3Ideal.main_arg4)),
    fun c => Proj.vals (m ((c.tc : Thread _ Cert.Kernel3Ideal.τ).loc Cert.Kernel3Ideal.main_arg0)) (m ((c.tc : Thread _ Cert.Kernel3Ideal.τ).loc Cert.Kernel3Ideal.main_arg1))
    (m ((c.tc : Thread _ Cert.Kernel3Ideal.τ).loc Cert.Kernel3Ideal.main_arg3)) (m ((c.tc : Thread _ Cert.Kernel3Ideal.τ).loc Cert.Kernel3Ideal.main_arg4)),
    fun c => Proj.gates (m ((c.tc : Thread _ Cert.Kernel3Ideal.τ).loc Cert.Kernel3Ideal.main_arg0)) (m ((c.tc : Thread _ Cert.Kernel3Ideal.τ).loc Cert.Kernel3Ideal.main_arg1))
    (m ((c.tc : Thread _ Cert.Kernel3Ideal.τ).loc Cert.Kernel3Ideal.main_arg3)) (m ((c.tc : Thread _ Cert.Kernel3Ideal.τ).loc Cert.Kernel3Ideal.main_arg4)),
    fun c => Proj.pathN (m ((c.tc : Thread _ Cert.Kernel3Ideal.τ).loc Cert.Kernel3Ideal.main_arg0)) (m ((c.tc : Thread _ Cert.Kernel3Ideal.τ).loc Cert.Kernel3Ideal.main_arg1))
    (m ((c.tc : Thread _ Cert.Kernel3Ideal.τ).loc Cert.Kernel3Ideal.main_arg3)) (m ((c.tc : Thread _ Cert.Kernel3Ideal.τ).loc Cert.Kernel3Ideal.main_arg4)),
    fun c => Proj.pathM (m ((c.tc : Thread _ Cert.Kernel3Ideal.τ).loc Cert.Kernel3Ideal.main_arg0)) (m ((c.tc : Thread _ Cert.Kernel3Ideal.τ).loc Cert.Kernel3Ideal.main_arg1))
    (m ((c.tc : Thread _ Cert.Kernel3Ideal.τ).loc Cert.Kernel3Ideal.main_arg3)) (m ((c.tc : Thread _ Cert.Kernel3Ideal.τ).loc Cert.Kernel3Ideal.main_arg4)), ?_, ?_⟩
  · refine (θ_run Cert.Kernel3Ideal.defs _ _).mono (fun r h c => ?_) (θ_run_and (Cert.Kernel3Ideal.Hand.run_main m g) (Cert.Kernel3Ideal.Hand.frame m g))
    exact ⟨Cert.Kernel3Ideal.Hand.keys_held m c r h.1.1, Cert.Kernel3Ideal.Hand.vals_held m c r h.1.1,
      Cert.Kernel3Ideal.Hand.gates_held m c r h.1.1, Cert.Kernel3Ideal.Hand.pathN_held m c r h.1.1,
      Cert.Kernel3Ideal.Hand.pathM_held m c r h.1.1, h.2.1 c⟩
  · refine (θ_run Cert.Reference3Ideal.defs _ _).mono (fun r h c => ?_) (Cert.Reference3Ideal.Reading.run_results m' g')
    obtain ⟨h0, h1, h2, h3, h4, h5⟩ := h c
    obtain ⟨a0, a1, a2, a3, a4, a5, a6, a7, a8⟩ := hagree c
    rw [a0, a1, a3, a4] at h0 h1 h2 h3 h4
    exact ⟨h0, h1, h2, h3, h4, h5⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_with_ones.Gen.facts,
  fun m g _ => Cert.Kernel.Hand.frame m g, fun m g _ => Cert.KernelIdeal.Hand.frame m g,
  fun m g _ => Cert.KernelIdeal.Hand.frame m g, fun m g _ => frame_r m g, fun m g _ => frame_r m g,
  fun m g _ => Cert.Kernel2.Hand.frame m g, fun m g _ => Cert.Kernel2Ideal.Hand.frame m g, fun m g _ => frame_out m g,
  fun m g _ => Cert.Kernel3.Hand.frame m g, fun m g _ => Cert.Kernel3Ideal.Hand.frame m g, fun m g _ => frame_proj m g,
  IdealRules.named_const.statement _ _ _ _ _ rfl, algebraic, trivial, algebraic_out, trivial, algebraic_proj⟩

end Cert.Proof

end
